-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x1024 : Shape := ⟨3, ![4, 256, 1024]⟩
abbrev S1024x1024 : Shape := ⟨2, ![1024, 1024]⟩
abbrev S1024x4096 : Shape := ⟨2, ![1024, 4096]⟩
abbrev S1024x256 : Shape := ⟨2, ![1024, 256]⟩
abbrev S8x128x1024 : Shape := ⟨3, ![8, 128, 1024]⟩
abbrev S4x32x1024 : Shape := ⟨3, ![4, 32, 1024]⟩
abbrev S4x16x1024 : Shape := ⟨3, ![4, 16, 1024]⟩
abbrev S1920x1024 : Shape := ⟨2, ![1920, 1024]⟩
abbrev S2 : Shape := ⟨1, ![2]⟩
abbrev S32 : Shape := ⟨1, ![32]⟩
abbrev S1 : Shape := ⟨1, ![1]⟩
abbrev S_ : Shape := ⟨0, ![]⟩
abbrev S512x1024 : Shape := ⟨2, ![512, 1024]⟩
abbrev S512x256 : Shape := ⟨2, ![512, 256]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S128x1024 : Shape := ⟨2, ![128, 1024]⟩
abbrev S1x128x1024 : Shape := ⟨3, ![1, 128, 1024]⟩
abbrev S64x1024 : Shape := ⟨2, ![64, 1024]⟩
abbrev S1x64x1024 : Shape := ⟨3, ![1, 64, 1024]⟩
abbrev S32x1024 : Shape := ⟨2, ![32, 1024]⟩
abbrev S1x32x1024 : Shape := ⟨3, ![1, 32, 1024]⟩
abbrev S16x1024 : Shape := ⟨2, ![16, 1024]⟩
abbrev S1x16x1024 : Shape := ⟨3, ![1, 16, 1024]⟩

abbrev nBuf : Space → Nat
  | .hbm => 6
  | .vmem => 17
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S1024x4096, .f32⟩
  | .hbm, ⟨4, _⟩ => ⟨S1024x4096, .f32⟩
  | .hbm, ⟨5, _⟩ => ⟨S1024x1024, .f32⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x256, .f32⟩
  | .local _ .vmem, ⟨5, _⟩ => ⟨S1024x256, .f32⟩
  | .local _ .vmem, ⟨6, _⟩ => ⟨S1024x1024, .f32⟩
  | .local _ .vmem, ⟨7, _⟩ => ⟨S1024x256, .f32⟩
  | .local _ .vmem, ⟨8, _⟩ => ⟨S1024x256, .f32⟩
  | .local _ .vmem, ⟨9, _⟩ => ⟨S1024x1024, .f32⟩
  | .local _ .vmem, ⟨10, _⟩ => ⟨S8x128x1024, .bf16⟩
  | .local _ .vmem, ⟨11, _⟩ => ⟨S4x32x1024, .bf16⟩
  | .local _ .vmem, ⟨12, _⟩ => ⟨S4x16x1024, .bf16⟩
  | .local _ .vmem, ⟨13, _⟩ => ⟨S4x16x1024, .bf16⟩
  | .local _ .vmem, ⟨14, _⟩ => ⟨S4x32x1024, .bf16⟩
  | .local _ .vmem, ⟨15, _⟩ => ⟨S8x128x1024, .bf16⟩
  | .local _ .vmem, ⟨16, _⟩ => ⟨S1920x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v101 : BitVec 32 := Scalar.muli v2 c256_i32
  ![0, v101.toNat]
def k0_dev1 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v66 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v67 : BitVec 32 := Scalar.xori v12 c1_i32_26
  let v68 : BitVec 32 := Scalar.addi v66 v67
  let c1_i32_276 : BitVec 32 := 1#32
  let v445 : BitVec 32 := Scalar.muli v68 c1_i32_276
  let v446 : BitVec 32 := Scalar.addi c0_i32_277 v445
  v446.toNat
def k0_dev2 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_27 : BitVec 32 := 4#32
  let v69 : BitVec 32 := Scalar.muli v29 c4_i32_27
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32 : BitVec 32 := 3#32
  let v70 : BitVec 32 := Scalar.xori v12 c3_i32
  let v71 : BitVec 32 := Scalar.addi v69 v70
  let c1_i32_279 : BitVec 32 := 1#32
  let v447 : BitVec 32 := Scalar.muli v71 c1_i32_279
  let v448 : BitVec 32 := Scalar.addi c0_i32_280 v447
  v448.toNat
def k0_dev3 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v72 : BitVec 32 := Scalar.xori v2 c4_i32_28
  let c1_i32_282 : BitVec 32 := 1#32
  let v449 : BitVec 32 := Scalar.muli v72 c1_i32_282
  let v450 : BitVec 32 := Scalar.addi c0_i32_283 v449
  v450.toNat
def k0_dev4 (d0 : Dev nD) : Nat :=
  let c0_i32_286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v73 : BitVec 32 := Scalar.xori v2 c8_i32
  let c1_i32_285 : BitVec 32 := 1#32
  let v451 : BitVec 32 := Scalar.muli v73 c1_i32_285
  let v452 : BitVec 32 := Scalar.addi c0_i32_286 v451
  v452.toNat
def k0_off2 (d0 : Dev nD) (c0_i32_289 : BitVec 32) : Fin 2 → Nat :=
  let c128_i32 : BitVec 32 := 128#32
  let c1_i32_288 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v47 : BitVec 32 := Scalar.xori v12 v46
  let c1_i32_17 : BitVec 32 := 1#32
  let v48 : BitVec 32 := Scalar.andi v47 c1_i32_17
  let v453 : BitVec 32 := Scalar.subi c1_i32_288 v48
  let v454 : BitVec 32 := Scalar.muli c128_i32 v453
  let v455 : BitVec 32 := Scalar.addi c0_i32_289 v454
  let v456 : Index := Scalar.indexCast v455
  let c0_290 : Index := 0#32
  ![v456.toNat, 0]
def k0_dev5 (d0 : Dev nD) : Nat :=
  let c0_i32_297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v66 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v67 : BitVec 32 := Scalar.xori v12 c1_i32_26
  let v68 : BitVec 32 := Scalar.addi v66 v67
  let c1_i32_296 : BitVec 32 := 1#32
  let v463 : BitVec 32 := Scalar.muli v68 c1_i32_296
  let v464 : BitVec 32 := Scalar.addi c0_i32_297 v463
  v464.toNat
def k0_off3 (d0 : Dev nD) (c256_i32_304 : BitVec 32) : Fin 2 → Nat :=
  let c128_i32_303 : BitVec 32 := 128#32
  let c1_i32_302 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_19 : BitVec 32 := 0#32
  let v50 : BitVec 1 := Scalar.cmpi .sgt v12 c0_i32_19
  let v51 : BitVec 32 := Scalar.extui v50
  let c0_i32_20 : BitVec 32 := 0#32
  let v52 : BitVec 1 := Scalar.cmpi .slt v12 c0_i32_20
  let v53 : BitVec 32 := Scalar.extui v52
  let v54 : BitVec 32 := Scalar.subi v51 v53
  let c2_i32_18 : BitVec 32 := 2#32
  let c0_i32_21 : BitVec 32 := 0#32
  let v55 : BitVec 1 := Scalar.cmpi .sgt c2_i32_18 c0_i32_21
  let v56 : BitVec 32 := Scalar.extui v55
  let c0_i32_22 : BitVec 32 := 0#32
  let v57 : BitVec 1 := Scalar.cmpi .slt c2_i32_18 c0_i32_22
  let v58 : BitVec 32 := Scalar.extui v57
  let v59 : BitVec 32 := Scalar.subi v56 v58
  let v60 : BitVec 1 := Scalar.cmpi .ne v54 v59
  let v61 : BitVec 32 := Scalar.remsi v12 c2_i32_18
  let c0_i32_23 : BitVec 32 := 0#32
  let v62 : BitVec 1 := Scalar.cmpi .ne v61 c0_i32_23
  let v63 : BitVec 1 := Scalar.andi v60 v62
  let v49 : BitVec 32 := Scalar.divsi v12 c2_i32_18
  let c1_i32_24 : BitVec 32 := 1#32
  let v64 : BitVec 32 := Scalar.subi v49 c1_i32_24
  let v65 : BitVec 32 := Scalar.select v63 v64 v49
  let v472 : BitVec 32 := Scalar.subi c1_i32_302 v65
  let v473 : BitVec 32 := Scalar.muli c128_i32_303 v472
  let v474 : BitVec 32 := Scalar.addi c256_i32_304 v473
  let v475 : Index := Scalar.indexCast v474
  let c0_305 : Index := 0#32
  ![v475.toNat, 0]
def k0_dev6 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_27 : BitVec 32 := 4#32
  let v69 : BitVec 32 := Scalar.muli v29 c4_i32_27
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32 : BitVec 32 := 3#32
  let v70 : BitVec 32 := Scalar.xori v12 c3_i32
  let v71 : BitVec 32 := Scalar.addi v69 v70
  let c1_i32_311 : BitVec 32 := 1#32
  let v482 : BitVec 32 := Scalar.muli v71 c1_i32_311
  let v483 : BitVec 32 := Scalar.addi c0_i32_312 v482
  v483.toNat
def k0_off4 (d0 : Dev nD) (c0_i32_342 : BitVec 32) : Fin 2 → Nat :=
  let c128_i32_341 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v47 : BitVec 32 := Scalar.xori v12 v46
  let c1_i32_17 : BitVec 32 := 1#32
  let v48 : BitVec 32 := Scalar.andi v47 c1_i32_17
  let v515 : BitVec 32 := Scalar.muli c128_i32_341 v48
  let v516 : BitVec 32 := Scalar.addi c0_i32_342 v515
  let v519 : Index := Scalar.indexCast v516
  let c0_346 : Index := 0#32
  ![v519.toNat, 0]
def k0_off5 (d0 : Dev nD) (c256_i32_358 : BitVec 32) : Fin 2 → Nat :=
  let c128_i32_357 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_19 : BitVec 32 := 0#32
  let v50 : BitVec 1 := Scalar.cmpi .sgt v12 c0_i32_19
  let v51 : BitVec 32 := Scalar.extui v50
  let c0_i32_20 : BitVec 32 := 0#32
  let v52 : BitVec 1 := Scalar.cmpi .slt v12 c0_i32_20
  let v53 : BitVec 32 := Scalar.extui v52
  let v54 : BitVec 32 := Scalar.subi v51 v53
  let c2_i32_18 : BitVec 32 := 2#32
  let c0_i32_21 : BitVec 32 := 0#32
  let v55 : BitVec 1 := Scalar.cmpi .sgt c2_i32_18 c0_i32_21
  let v56 : BitVec 32 := Scalar.extui v55
  let c0_i32_22 : BitVec 32 := 0#32
  let v57 : BitVec 1 := Scalar.cmpi .slt c2_i32_18 c0_i32_22
  let v58 : BitVec 32 := Scalar.extui v57
  let v59 : BitVec 32 := Scalar.subi v56 v58
  let v60 : BitVec 1 := Scalar.cmpi .ne v54 v59
  let v61 : BitVec 32 := Scalar.remsi v12 c2_i32_18
  let c0_i32_23 : BitVec 32 := 0#32
  let v62 : BitVec 1 := Scalar.cmpi .ne v61 c0_i32_23
  let v63 : BitVec 1 := Scalar.andi v60 v62
  let v49 : BitVec 32 := Scalar.divsi v12 c2_i32_18
  let c1_i32_24 : BitVec 32 := 1#32
  let v64 : BitVec 32 := Scalar.subi v49 c1_i32_24
  let v65 : BitVec 32 := Scalar.select v63 v64 v49
  let v533 : BitVec 32 := Scalar.muli c128_i32_357 v65
  let v534 : BitVec 32 := Scalar.addi c256_i32_358 v533
  let v537 : Index := Scalar.indexCast v534
  let c0_361 : Index := 0#32
  ![v537.toNat, 0]
def k0_off6 (d0 : Dev nD) (c0_i32_364 : BitVec 32) : Fin 2 → Nat :=
  let c128_i32_363 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v47 : BitVec 32 := Scalar.xori v12 v46
  let c1_i32_17 : BitVec 32 := 1#32
  let v48 : BitVec 32 := Scalar.andi v47 c1_i32_17
  let v544 : BitVec 32 := Scalar.muli c128_i32_363 v48
  let v545 : BitVec 32 := Scalar.addi c0_i32_364 v544
  let c64_i32 : BitVec 32 := 64#32
  let c1_i32_365 : BitVec 32 := 1#32
  let c0_i32_19 : BitVec 32 := 0#32
  let v50 : BitVec 1 := Scalar.cmpi .sgt v12 c0_i32_19
  let v51 : BitVec 32 := Scalar.extui v50
  let c0_i32_20 : BitVec 32 := 0#32
  let v52 : BitVec 1 := Scalar.cmpi .slt v12 c0_i32_20
  let v53 : BitVec 32 := Scalar.extui v52
  let v54 : BitVec 32 := Scalar.subi v51 v53
  let c2_i32_18 : BitVec 32 := 2#32
  let c0_i32_21 : BitVec 32 := 0#32
  let v55 : BitVec 1 := Scalar.cmpi .sgt c2_i32_18 c0_i32_21
  let v56 : BitVec 32 := Scalar.extui v55
  let c0_i32_22 : BitVec 32 := 0#32
  let v57 : BitVec 1 := Scalar.cmpi .slt c2_i32_18 c0_i32_22
  let v58 : BitVec 32 := Scalar.extui v57
  let v59 : BitVec 32 := Scalar.subi v56 v58
  let v60 : BitVec 1 := Scalar.cmpi .ne v54 v59
  let v61 : BitVec 32 := Scalar.remsi v12 c2_i32_18
  let c0_i32_23 : BitVec 32 := 0#32
  let v62 : BitVec 1 := Scalar.cmpi .ne v61 c0_i32_23
  let v63 : BitVec 1 := Scalar.andi v60 v62
  let v49 : BitVec 32 := Scalar.divsi v12 c2_i32_18
  let c1_i32_24 : BitVec 32 := 1#32
  let v64 : BitVec 32 := Scalar.subi v49 c1_i32_24
  let v65 : BitVec 32 := Scalar.select v63 v64 v49
  let v546 : BitVec 32 := Scalar.subi c1_i32_365 v65
  let v547 : BitVec 32 := Scalar.muli c64_i32 v546
  let v548 : BitVec 32 := Scalar.addi v545 v547
  let v549 : Index := Scalar.indexCast v548
  let c0_366 : Index := 0#32
  ![v549.toNat, 0]
def k0_dev7 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_27 : BitVec 32 := 4#32
  let v69 : BitVec 32 := Scalar.muli v29 c4_i32_27
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32 : BitVec 32 := 3#32
  let v70 : BitVec 32 := Scalar.xori v12 c3_i32
  let v71 : BitVec 32 := Scalar.addi v69 v70
  let c1_i32_372 : BitVec 32 := 1#32
  let v556 : BitVec 32 := Scalar.muli v71 c1_i32_372
  let v557 : BitVec 32 := Scalar.addi c0_i32_373 v556
  v557.toNat
def k0_off7 (d0 : Dev nD) (c256_i32_379 : BitVec 32) : Fin 2 → Nat :=
  let c128_i32_378 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_19 : BitVec 32 := 0#32
  let v50 : BitVec 1 := Scalar.cmpi .sgt v12 c0_i32_19
  let v51 : BitVec 32 := Scalar.extui v50
  let c0_i32_20 : BitVec 32 := 0#32
  let v52 : BitVec 1 := Scalar.cmpi .slt v12 c0_i32_20
  let v53 : BitVec 32 := Scalar.extui v52
  let v54 : BitVec 32 := Scalar.subi v51 v53
  let c2_i32_18 : BitVec 32 := 2#32
  let c0_i32_21 : BitVec 32 := 0#32
  let v55 : BitVec 1 := Scalar.cmpi .sgt c2_i32_18 c0_i32_21
  let v56 : BitVec 32 := Scalar.extui v55
  let c0_i32_22 : BitVec 32 := 0#32
  let v57 : BitVec 1 := Scalar.cmpi .slt c2_i32_18 c0_i32_22
  let v58 : BitVec 32 := Scalar.extui v57
  let v59 : BitVec 32 := Scalar.subi v56 v58
  let v60 : BitVec 1 := Scalar.cmpi .ne v54 v59
  let v61 : BitVec 32 := Scalar.remsi v12 c2_i32_18
  let c0_i32_23 : BitVec 32 := 0#32
  let v62 : BitVec 1 := Scalar.cmpi .ne v61 c0_i32_23
  let v63 : BitVec 1 := Scalar.andi v60 v62
  let v49 : BitVec 32 := Scalar.divsi v12 c2_i32_18
  let c1_i32_24 : BitVec 32 := 1#32
  let v64 : BitVec 32 := Scalar.subi v49 c1_i32_24
  let v65 : BitVec 32 := Scalar.select v63 v64 v49
  let v565 : BitVec 32 := Scalar.muli c128_i32_378 v65
  let v566 : BitVec 32 := Scalar.addi c256_i32_379 v565
  let c64_i32_381 : BitVec 32 := 64#32
  let c1_i32_380 : BitVec 32 := 1#32
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v47 : BitVec 32 := Scalar.xori v12 v46
  let c1_i32_17 : BitVec 32 := 1#32
  let v48 : BitVec 32 := Scalar.andi v47 c1_i32_17
  let v567 : BitVec 32 := Scalar.subi c1_i32_380 v48
  let v568 : BitVec 32 := Scalar.muli c64_i32_381 v567
  let v569 : BitVec 32 := Scalar.addi v566 v568
  let v570 : Index := Scalar.indexCast v569
  let c0_382 : Index := 0#32
  ![v570.toNat, 0]
def k0_dev8 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v66 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v67 : BitVec 32 := Scalar.xori v12 c1_i32_26
  let v68 : BitVec 32 := Scalar.addi v66 v67
  let c1_i32_387 : BitVec 32 := 1#32
  let v577 : BitVec 32 := Scalar.muli v68 c1_i32_387
  let v578 : BitVec 32 := Scalar.addi c0_i32_388 v577
  v578.toNat
def k0_off8 (d0 : Dev nD) (c0_i32_610 : BitVec 32) : Fin 2 → Nat :=
  let c128_i32_609 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v47 : BitVec 32 := Scalar.xori v12 v46
  let c1_i32_17 : BitVec 32 := 1#32
  let v48 : BitVec 32 := Scalar.andi v47 c1_i32_17
  let v897 : BitVec 32 := Scalar.muli c128_i32_609 v48
  let v898 : BitVec 32 := Scalar.addi c0_i32_610 v897
  let c64_i32_611 : BitVec 32 := 64#32
  let c0_i32_19 : BitVec 32 := 0#32
  let v50 : BitVec 1 := Scalar.cmpi .sgt v12 c0_i32_19
  let v51 : BitVec 32 := Scalar.extui v50
  let c0_i32_20 : BitVec 32 := 0#32
  let v52 : BitVec 1 := Scalar.cmpi .slt v12 c0_i32_20
  let v53 : BitVec 32 := Scalar.extui v52
  let v54 : BitVec 32 := Scalar.subi v51 v53
  let c2_i32_18 : BitVec 32 := 2#32
  let c0_i32_21 : BitVec 32 := 0#32
  let v55 : BitVec 1 := Scalar.cmpi .sgt c2_i32_18 c0_i32_21
  let v56 : BitVec 32 := Scalar.extui v55
  let c0_i32_22 : BitVec 32 := 0#32
  let v57 : BitVec 1 := Scalar.cmpi .slt c2_i32_18 c0_i32_22
  let v58 : BitVec 32 := Scalar.extui v57
  let v59 : BitVec 32 := Scalar.subi v56 v58
  let v60 : BitVec 1 := Scalar.cmpi .ne v54 v59
  let v61 : BitVec 32 := Scalar.remsi v12 c2_i32_18
  let c0_i32_23 : BitVec 32 := 0#32
  let v62 : BitVec 1 := Scalar.cmpi .ne v61 c0_i32_23
  let v63 : BitVec 1 := Scalar.andi v60 v62
  let v49 : BitVec 32 := Scalar.divsi v12 c2_i32_18
  let c1_i32_24 : BitVec 32 := 1#32
  let v64 : BitVec 32 := Scalar.subi v49 c1_i32_24
  let v65 : BitVec 32 := Scalar.select v63 v64 v49
  let v899 : BitVec 32 := Scalar.muli c64_i32_611 v65
  let v900 : BitVec 32 := Scalar.addi v898 v899
  let v903 : Index := Scalar.indexCast v900
  let c0_614 : Index := 0#32
  ![v903.toNat, 0]
def k0_off9 (d0 : Dev nD) (c256_i32_626 : BitVec 32) : Fin 2 → Nat :=
  let c128_i32_625 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_19 : BitVec 32 := 0#32
  let v50 : BitVec 1 := Scalar.cmpi .sgt v12 c0_i32_19
  let v51 : BitVec 32 := Scalar.extui v50
  let c0_i32_20 : BitVec 32 := 0#32
  let v52 : BitVec 1 := Scalar.cmpi .slt v12 c0_i32_20
  let v53 : BitVec 32 := Scalar.extui v52
  let v54 : BitVec 32 := Scalar.subi v51 v53
  let c2_i32_18 : BitVec 32 := 2#32
  let c0_i32_21 : BitVec 32 := 0#32
  let v55 : BitVec 1 := Scalar.cmpi .sgt c2_i32_18 c0_i32_21
  let v56 : BitVec 32 := Scalar.extui v55
  let c0_i32_22 : BitVec 32 := 0#32
  let v57 : BitVec 1 := Scalar.cmpi .slt c2_i32_18 c0_i32_22
  let v58 : BitVec 32 := Scalar.extui v57
  let v59 : BitVec 32 := Scalar.subi v56 v58
  let v60 : BitVec 1 := Scalar.cmpi .ne v54 v59
  let v61 : BitVec 32 := Scalar.remsi v12 c2_i32_18
  let c0_i32_23 : BitVec 32 := 0#32
  let v62 : BitVec 1 := Scalar.cmpi .ne v61 c0_i32_23
  let v63 : BitVec 1 := Scalar.andi v60 v62
  let v49 : BitVec 32 := Scalar.divsi v12 c2_i32_18
  let c1_i32_24 : BitVec 32 := 1#32
  let v64 : BitVec 32 := Scalar.subi v49 c1_i32_24
  let v65 : BitVec 32 := Scalar.select v63 v64 v49
  let v917 : BitVec 32 := Scalar.muli c128_i32_625 v65
  let v918 : BitVec 32 := Scalar.addi c256_i32_626 v917
  let c64_i32_627 : BitVec 32 := 64#32
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v47 : BitVec 32 := Scalar.xori v12 v46
  let c1_i32_17 : BitVec 32 := 1#32
  let v48 : BitVec 32 := Scalar.andi v47 c1_i32_17
  let v919 : BitVec 32 := Scalar.muli c64_i32_627 v48
  let v920 : BitVec 32 := Scalar.addi v918 v919
  let v923 : Index := Scalar.indexCast v920
  let c0_630 : Index := 0#32
  ![v923.toNat, 0]
def k0_off10 (d0 : Dev nD) (c0_i32_633 : BitVec 32) : Fin 2 → Nat :=
  let c128_i32_632 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v47 : BitVec 32 := Scalar.xori v12 v46
  let c1_i32_17 : BitVec 32 := 1#32
  let v48 : BitVec 32 := Scalar.andi v47 c1_i32_17
  let v930 : BitVec 32 := Scalar.muli c128_i32_632 v48
  let v931 : BitVec 32 := Scalar.addi c0_i32_633 v930
  let c64_i32_634 : BitVec 32 := 64#32
  let c0_i32_19 : BitVec 32 := 0#32
  let v50 : BitVec 1 := Scalar.cmpi .sgt v12 c0_i32_19
  let v51 : BitVec 32 := Scalar.extui v50
  let c0_i32_20 : BitVec 32 := 0#32
  let v52 : BitVec 1 := Scalar.cmpi .slt v12 c0_i32_20
  let v53 : BitVec 32 := Scalar.extui v52
  let v54 : BitVec 32 := Scalar.subi v51 v53
  let c2_i32_18 : BitVec 32 := 2#32
  let c0_i32_21 : BitVec 32 := 0#32
  let v55 : BitVec 1 := Scalar.cmpi .sgt c2_i32_18 c0_i32_21
  let v56 : BitVec 32 := Scalar.extui v55
  let c0_i32_22 : BitVec 32 := 0#32
  let v57 : BitVec 1 := Scalar.cmpi .slt c2_i32_18 c0_i32_22
  let v58 : BitVec 32 := Scalar.extui v57
  let v59 : BitVec 32 := Scalar.subi v56 v58
  let v60 : BitVec 1 := Scalar.cmpi .ne v54 v59
  let v61 : BitVec 32 := Scalar.remsi v12 c2_i32_18
  let c0_i32_23 : BitVec 32 := 0#32
  let v62 : BitVec 1 := Scalar.cmpi .ne v61 c0_i32_23
  let v63 : BitVec 1 := Scalar.andi v60 v62
  let v49 : BitVec 32 := Scalar.divsi v12 c2_i32_18
  let c1_i32_24 : BitVec 32 := 1#32
  let v64 : BitVec 32 := Scalar.subi v49 c1_i32_24
  let v65 : BitVec 32 := Scalar.select v63 v64 v49
  let v932 : BitVec 32 := Scalar.muli c64_i32_634 v65
  let v933 : BitVec 32 := Scalar.addi v931 v932
  let c32_i32 : BitVec 32 := 32#32
  let c1_i32_635 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_29 : BitVec 32 := 2#32
  let c0_i32_30 : BitVec 32 := 0#32
  let v74 : BitVec 1 := Scalar.cmpi .eq c2_i32_29 c0_i32_30
  let c1_i32_31 : BitVec 32 := 1#32
  let v75 : BitVec 32 := Scalar.select v74 c1_i32_31 c2_i32_29
  let v76 : BitVec 32 := Scalar.remsi v29 v75
  let c0_i32_33 : BitVec 32 := 0#32
  let v78 : BitVec 1 := Scalar.cmpi .slt v76 c0_i32_33
  let c0_i32_34 : BitVec 32 := 0#32
  let v79 : BitVec 1 := Scalar.cmpi .slt v75 c0_i32_34
  let v80 : BitVec 1 := Scalar.xori v78 v79
  let c0_i32_32 : BitVec 32 := 0#32
  let v77 : BitVec 1 := Scalar.cmpi .ne v76 c0_i32_32
  let v81 : BitVec 1 := Scalar.andi v80 v77
  let v82 : BitVec 32 := Scalar.addi v76 v75
  let v83 : BitVec 32 := Scalar.select v81 v82 v76
  let v934 : BitVec 32 := Scalar.subi c1_i32_635 v83
  let v935 : BitVec 32 := Scalar.muli c32_i32 v934
  let v936 : BitVec 32 := Scalar.addi v933 v935
  let v937 : Index := Scalar.indexCast v936
  let c0_636 : Index := 0#32
  ![v937.toNat, 0]
def k0_dev9 (d0 : Dev nD) : Nat :=
  let c0_i32_643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v72 : BitVec 32 := Scalar.xori v2 c4_i32_28
  let c1_i32_642 : BitVec 32 := 1#32
  let v944 : BitVec 32 := Scalar.muli v72 c1_i32_642
  let v945 : BitVec 32 := Scalar.addi c0_i32_643 v944
  v945.toNat
def k0_off11 (d0 : Dev nD) (c256_i32_648 : BitVec 32) : Fin 2 → Nat :=
  let c128_i32_647 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_19 : BitVec 32 := 0#32
  let v50 : BitVec 1 := Scalar.cmpi .sgt v12 c0_i32_19
  let v51 : BitVec 32 := Scalar.extui v50
  let c0_i32_20 : BitVec 32 := 0#32
  let v52 : BitVec 1 := Scalar.cmpi .slt v12 c0_i32_20
  let v53 : BitVec 32 := Scalar.extui v52
  let v54 : BitVec 32 := Scalar.subi v51 v53
  let c2_i32_18 : BitVec 32 := 2#32
  let c0_i32_21 : BitVec 32 := 0#32
  let v55 : BitVec 1 := Scalar.cmpi .sgt c2_i32_18 c0_i32_21
  let v56 : BitVec 32 := Scalar.extui v55
  let c0_i32_22 : BitVec 32 := 0#32
  let v57 : BitVec 1 := Scalar.cmpi .slt c2_i32_18 c0_i32_22
  let v58 : BitVec 32 := Scalar.extui v57
  let v59 : BitVec 32 := Scalar.subi v56 v58
  let v60 : BitVec 1 := Scalar.cmpi .ne v54 v59
  let v61 : BitVec 32 := Scalar.remsi v12 c2_i32_18
  let c0_i32_23 : BitVec 32 := 0#32
  let v62 : BitVec 1 := Scalar.cmpi .ne v61 c0_i32_23
  let v63 : BitVec 1 := Scalar.andi v60 v62
  let v49 : BitVec 32 := Scalar.divsi v12 c2_i32_18
  let c1_i32_24 : BitVec 32 := 1#32
  let v64 : BitVec 32 := Scalar.subi v49 c1_i32_24
  let v65 : BitVec 32 := Scalar.select v63 v64 v49
  let v953 : BitVec 32 := Scalar.muli c128_i32_647 v65
  let v954 : BitVec 32 := Scalar.addi c256_i32_648 v953
  let c64_i32_649 : BitVec 32 := 64#32
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v47 : BitVec 32 := Scalar.xori v12 v46
  let c1_i32_17 : BitVec 32 := 1#32
  let v48 : BitVec 32 := Scalar.andi v47 c1_i32_17
  let v955 : BitVec 32 := Scalar.muli c64_i32_649 v48
  let v956 : BitVec 32 := Scalar.addi v954 v955
  let c32_i32_651 : BitVec 32 := 32#32
  let c1_i32_650 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_29 : BitVec 32 := 2#32
  let c0_i32_30 : BitVec 32 := 0#32
  let v74 : BitVec 1 := Scalar.cmpi .eq c2_i32_29 c0_i32_30
  let c1_i32_31 : BitVec 32 := 1#32
  let v75 : BitVec 32 := Scalar.select v74 c1_i32_31 c2_i32_29
  let v76 : BitVec 32 := Scalar.remsi v29 v75
  let c0_i32_33 : BitVec 32 := 0#32
  let v78 : BitVec 1 := Scalar.cmpi .slt v76 c0_i32_33
  let c0_i32_34 : BitVec 32 := 0#32
  let v79 : BitVec 1 := Scalar.cmpi .slt v75 c0_i32_34
  let v80 : BitVec 1 := Scalar.xori v78 v79
  let c0_i32_32 : BitVec 32 := 0#32
  let v77 : BitVec 1 := Scalar.cmpi .ne v76 c0_i32_32
  let v81 : BitVec 1 := Scalar.andi v80 v77
  let v82 : BitVec 32 := Scalar.addi v76 v75
  let v83 : BitVec 32 := Scalar.select v81 v82 v76
  let v957 : BitVec 32 := Scalar.subi c1_i32_650 v83
  let v958 : BitVec 32 := Scalar.muli c32_i32_651 v957
  let v959 : BitVec 32 := Scalar.addi v956 v958
  let v960 : Index := Scalar.indexCast v959
  let c0_652 : Index := 0#32
  ![v960.toNat, 0]
def k0_dev10 (d0 : Dev nD) : Nat :=
  let c0_i32_657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v72 : BitVec 32 := Scalar.xori v2 c4_i32_28
  let c1_i32_656 : BitVec 32 := 1#32
  let v967 : BitVec 32 := Scalar.muli v72 c1_i32_656
  let v968 : BitVec 32 := Scalar.addi c0_i32_657 v967
  v968.toNat
def k0_dev11 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v66 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v67 : BitVec 32 := Scalar.xori v12 c1_i32_26
  let v68 : BitVec 32 := Scalar.addi v66 v67
  let c1_i32_675 : BitVec 32 := 1#32
  let v991 : BitVec 32 := Scalar.muli v68 c1_i32_675
  let v992 : BitVec 32 := Scalar.addi c0_i32_676 v991
  v992.toNat
def k0_dev12 (d0 : Dev nD) : Nat :=
  let c0_i32_687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_27 : BitVec 32 := 4#32
  let v69 : BitVec 32 := Scalar.muli v29 c4_i32_27
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32 : BitVec 32 := 3#32
  let v70 : BitVec 32 := Scalar.xori v12 c3_i32
  let v71 : BitVec 32 := Scalar.addi v69 v70
  let c1_i32_686 : BitVec 32 := 1#32
  let v1010 : BitVec 32 := Scalar.muli v71 c1_i32_686
  let v1011 : BitVec 32 := Scalar.addi c0_i32_687 v1010
  v1011.toNat
def k0_off12 (d0 : Dev nD) (c0_i32_701 : BitVec 32) : Fin 2 → Nat :=
  let c128_i32_700 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v47 : BitVec 32 := Scalar.xori v12 v46
  let c1_i32_17 : BitVec 32 := 1#32
  let v48 : BitVec 32 := Scalar.andi v47 c1_i32_17
  let v1026 : BitVec 32 := Scalar.muli c128_i32_700 v48
  let v1027 : BitVec 32 := Scalar.addi c0_i32_701 v1026
  let c64_i32_702 : BitVec 32 := 64#32
  let c0_i32_19 : BitVec 32 := 0#32
  let v50 : BitVec 1 := Scalar.cmpi .sgt v12 c0_i32_19
  let v51 : BitVec 32 := Scalar.extui v50
  let c0_i32_20 : BitVec 32 := 0#32
  let v52 : BitVec 1 := Scalar.cmpi .slt v12 c0_i32_20
  let v53 : BitVec 32 := Scalar.extui v52
  let v54 : BitVec 32 := Scalar.subi v51 v53
  let c2_i32_18 : BitVec 32 := 2#32
  let c0_i32_21 : BitVec 32 := 0#32
  let v55 : BitVec 1 := Scalar.cmpi .sgt c2_i32_18 c0_i32_21
  let v56 : BitVec 32 := Scalar.extui v55
  let c0_i32_22 : BitVec 32 := 0#32
  let v57 : BitVec 1 := Scalar.cmpi .slt c2_i32_18 c0_i32_22
  let v58 : BitVec 32 := Scalar.extui v57
  let v59 : BitVec 32 := Scalar.subi v56 v58
  let v60 : BitVec 1 := Scalar.cmpi .ne v54 v59
  let v61 : BitVec 32 := Scalar.remsi v12 c2_i32_18
  let c0_i32_23 : BitVec 32 := 0#32
  let v62 : BitVec 1 := Scalar.cmpi .ne v61 c0_i32_23
  let v63 : BitVec 1 := Scalar.andi v60 v62
  let v49 : BitVec 32 := Scalar.divsi v12 c2_i32_18
  let c1_i32_24 : BitVec 32 := 1#32
  let v64 : BitVec 32 := Scalar.subi v49 c1_i32_24
  let v65 : BitVec 32 := Scalar.select v63 v64 v49
  let v1028 : BitVec 32 := Scalar.muli c64_i32_702 v65
  let v1029 : BitVec 32 := Scalar.addi v1027 v1028
  let c32_i32_703 : BitVec 32 := 32#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_29 : BitVec 32 := 2#32
  let c0_i32_30 : BitVec 32 := 0#32
  let v74 : BitVec 1 := Scalar.cmpi .eq c2_i32_29 c0_i32_30
  let c1_i32_31 : BitVec 32 := 1#32
  let v75 : BitVec 32 := Scalar.select v74 c1_i32_31 c2_i32_29
  let v76 : BitVec 32 := Scalar.remsi v29 v75
  let c0_i32_33 : BitVec 32 := 0#32
  let v78 : BitVec 1 := Scalar.cmpi .slt v76 c0_i32_33
  let c0_i32_34 : BitVec 32 := 0#32
  let v79 : BitVec 1 := Scalar.cmpi .slt v75 c0_i32_34
  let v80 : BitVec 1 := Scalar.xori v78 v79
  let c0_i32_32 : BitVec 32 := 0#32
  let v77 : BitVec 1 := Scalar.cmpi .ne v76 c0_i32_32
  let v81 : BitVec 1 := Scalar.andi v80 v77
  let v82 : BitVec 32 := Scalar.addi v76 v75
  let v83 : BitVec 32 := Scalar.select v81 v82 v76
  let v1030 : BitVec 32 := Scalar.muli c32_i32_703 v83
  let v1031 : BitVec 32 := Scalar.addi v1029 v1030
  let v1034 : Index := Scalar.indexCast v1031
  let c0_707 : Index := 0#32
  ![v1034.toNat, 0]
def k0_off13 (d0 : Dev nD) (c256_i32_719 : BitVec 32) : Fin 2 → Nat :=
  let c128_i32_718 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_19 : BitVec 32 := 0#32
  let v50 : BitVec 1 := Scalar.cmpi .sgt v12 c0_i32_19
  let v51 : BitVec 32 := Scalar.extui v50
  let c0_i32_20 : BitVec 32 := 0#32
  let v52 : BitVec 1 := Scalar.cmpi .slt v12 c0_i32_20
  let v53 : BitVec 32 := Scalar.extui v52
  let v54 : BitVec 32 := Scalar.subi v51 v53
  let c2_i32_18 : BitVec 32 := 2#32
  let c0_i32_21 : BitVec 32 := 0#32
  let v55 : BitVec 1 := Scalar.cmpi .sgt c2_i32_18 c0_i32_21
  let v56 : BitVec 32 := Scalar.extui v55
  let c0_i32_22 : BitVec 32 := 0#32
  let v57 : BitVec 1 := Scalar.cmpi .slt c2_i32_18 c0_i32_22
  let v58 : BitVec 32 := Scalar.extui v57
  let v59 : BitVec 32 := Scalar.subi v56 v58
  let v60 : BitVec 1 := Scalar.cmpi .ne v54 v59
  let v61 : BitVec 32 := Scalar.remsi v12 c2_i32_18
  let c0_i32_23 : BitVec 32 := 0#32
  let v62 : BitVec 1 := Scalar.cmpi .ne v61 c0_i32_23
  let v63 : BitVec 1 := Scalar.andi v60 v62
  let v49 : BitVec 32 := Scalar.divsi v12 c2_i32_18
  let c1_i32_24 : BitVec 32 := 1#32
  let v64 : BitVec 32 := Scalar.subi v49 c1_i32_24
  let v65 : BitVec 32 := Scalar.select v63 v64 v49
  let v1048 : BitVec 32 := Scalar.muli c128_i32_718 v65
  let v1049 : BitVec 32 := Scalar.addi c256_i32_719 v1048
  let c64_i32_720 : BitVec 32 := 64#32
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v47 : BitVec 32 := Scalar.xori v12 v46
  let c1_i32_17 : BitVec 32 := 1#32
  let v48 : BitVec 32 := Scalar.andi v47 c1_i32_17
  let v1050 : BitVec 32 := Scalar.muli c64_i32_720 v48
  let v1051 : BitVec 32 := Scalar.addi v1049 v1050
  let c32_i32_721 : BitVec 32 := 32#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_29 : BitVec 32 := 2#32
  let c0_i32_30 : BitVec 32 := 0#32
  let v74 : BitVec 1 := Scalar.cmpi .eq c2_i32_29 c0_i32_30
  let c1_i32_31 : BitVec 32 := 1#32
  let v75 : BitVec 32 := Scalar.select v74 c1_i32_31 c2_i32_29
  let v76 : BitVec 32 := Scalar.remsi v29 v75
  let c0_i32_33 : BitVec 32 := 0#32
  let v78 : BitVec 1 := Scalar.cmpi .slt v76 c0_i32_33
  let c0_i32_34 : BitVec 32 := 0#32
  let v79 : BitVec 1 := Scalar.cmpi .slt v75 c0_i32_34
  let v80 : BitVec 1 := Scalar.xori v78 v79
  let c0_i32_32 : BitVec 32 := 0#32
  let v77 : BitVec 1 := Scalar.cmpi .ne v76 c0_i32_32
  let v81 : BitVec 1 := Scalar.andi v80 v77
  let v82 : BitVec 32 := Scalar.addi v76 v75
  let v83 : BitVec 32 := Scalar.select v81 v82 v76
  let v1052 : BitVec 32 := Scalar.muli c32_i32_721 v83
  let v1053 : BitVec 32 := Scalar.addi v1051 v1052
  let v1056 : Index := Scalar.indexCast v1053
  let c0_725 : Index := 0#32
  ![v1056.toNat, 0]
def k0_off14 (d0 : Dev nD) (c0_i32_774 : BitVec 32) : Fin 2 → Nat :=
  let c128_i32_773 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v47 : BitVec 32 := Scalar.xori v12 v46
  let c1_i32_17 : BitVec 32 := 1#32
  let v48 : BitVec 32 := Scalar.andi v47 c1_i32_17
  let v1109 : BitVec 32 := Scalar.muli c128_i32_773 v48
  let v1110 : BitVec 32 := Scalar.addi c0_i32_774 v1109
  let c64_i32_775 : BitVec 32 := 64#32
  let c0_i32_19 : BitVec 32 := 0#32
  let v50 : BitVec 1 := Scalar.cmpi .sgt v12 c0_i32_19
  let v51 : BitVec 32 := Scalar.extui v50
  let c0_i32_20 : BitVec 32 := 0#32
  let v52 : BitVec 1 := Scalar.cmpi .slt v12 c0_i32_20
  let v53 : BitVec 32 := Scalar.extui v52
  let v54 : BitVec 32 := Scalar.subi v51 v53
  let c2_i32_18 : BitVec 32 := 2#32
  let c0_i32_21 : BitVec 32 := 0#32
  let v55 : BitVec 1 := Scalar.cmpi .sgt c2_i32_18 c0_i32_21
  let v56 : BitVec 32 := Scalar.extui v55
  let c0_i32_22 : BitVec 32 := 0#32
  let v57 : BitVec 1 := Scalar.cmpi .slt c2_i32_18 c0_i32_22
  let v58 : BitVec 32 := Scalar.extui v57
  let v59 : BitVec 32 := Scalar.subi v56 v58
  let v60 : BitVec 1 := Scalar.cmpi .ne v54 v59
  let v61 : BitVec 32 := Scalar.remsi v12 c2_i32_18
  let c0_i32_23 : BitVec 32 := 0#32
  let v62 : BitVec 1 := Scalar.cmpi .ne v61 c0_i32_23
  let v63 : BitVec 1 := Scalar.andi v60 v62
  let v49 : BitVec 32 := Scalar.divsi v12 c2_i32_18
  let c1_i32_24 : BitVec 32 := 1#32
  let v64 : BitVec 32 := Scalar.subi v49 c1_i32_24
  let v65 : BitVec 32 := Scalar.select v63 v64 v49
  let v1111 : BitVec 32 := Scalar.muli c64_i32_775 v65
  let v1112 : BitVec 32 := Scalar.addi v1110 v1111
  let c32_i32_776 : BitVec 32 := 32#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_29 : BitVec 32 := 2#32
  let c0_i32_30 : BitVec 32 := 0#32
  let v74 : BitVec 1 := Scalar.cmpi .eq c2_i32_29 c0_i32_30
  let c1_i32_31 : BitVec 32 := 1#32
  let v75 : BitVec 32 := Scalar.select v74 c1_i32_31 c2_i32_29
  let v76 : BitVec 32 := Scalar.remsi v29 v75
  let c0_i32_33 : BitVec 32 := 0#32
  let v78 : BitVec 1 := Scalar.cmpi .slt v76 c0_i32_33
  let c0_i32_34 : BitVec 32 := 0#32
  let v79 : BitVec 1 := Scalar.cmpi .slt v75 c0_i32_34
  let v80 : BitVec 1 := Scalar.xori v78 v79
  let c0_i32_32 : BitVec 32 := 0#32
  let v77 : BitVec 1 := Scalar.cmpi .ne v76 c0_i32_32
  let v81 : BitVec 1 := Scalar.andi v80 v77
  let v82 : BitVec 32 := Scalar.addi v76 v75
  let v83 : BitVec 32 := Scalar.select v81 v82 v76
  let v1113 : BitVec 32 := Scalar.muli c32_i32_776 v83
  let v1114 : BitVec 32 := Scalar.addi v1112 v1113
  let c16_i32_778 : BitVec 32 := 16#32
  let c1_i32_777 : BitVec 32 := 1#32
  let c0_i32_36 : BitVec 32 := 0#32
  let v85 : BitVec 1 := Scalar.cmpi .sgt v29 c0_i32_36
  let v86 : BitVec 32 := Scalar.extui v85
  let c0_i32_37 : BitVec 32 := 0#32
  let v87 : BitVec 1 := Scalar.cmpi .slt v29 c0_i32_37
  let v88 : BitVec 32 := Scalar.extui v87
  let v89 : BitVec 32 := Scalar.subi v86 v88
  let c2_i32_35 : BitVec 32 := 2#32
  let c0_i32_38 : BitVec 32 := 0#32
  let v90 : BitVec 1 := Scalar.cmpi .sgt c2_i32_35 c0_i32_38
  let v91 : BitVec 32 := Scalar.extui v90
  let c0_i32_39 : BitVec 32 := 0#32
  let v92 : BitVec 1 := Scalar.cmpi .slt c2_i32_35 c0_i32_39
  let v93 : BitVec 32 := Scalar.extui v92
  let v94 : BitVec 32 := Scalar.subi v91 v93
  let v95 : BitVec 1 := Scalar.cmpi .ne v89 v94
  let v96 : BitVec 32 := Scalar.remsi v29 c2_i32_35
  let c0_i32_40 : BitVec 32 := 0#32
  let v97 : BitVec 1 := Scalar.cmpi .ne v96 c0_i32_40
  let v98 : BitVec 1 := Scalar.andi v95 v97
  let v84 : BitVec 32 := Scalar.divsi v29 c2_i32_35
  let c1_i32_41 : BitVec 32 := 1#32
  let v99 : BitVec 32 := Scalar.subi v84 c1_i32_41
  let v100 : BitVec 32 := Scalar.select v98 v99 v84
  let v1115 : BitVec 32 := Scalar.subi c1_i32_777 v100
  let v1116 : BitVec 32 := Scalar.muli c16_i32_778 v1115
  let v1117 : BitVec 32 := Scalar.addi v1114 v1116
  let v1118 : Index := Scalar.indexCast v1117
  let c0_779 : Index := 0#32
  ![v1118.toNat, 0]
def k0_dev13 (d0 : Dev nD) : Nat :=
  let c0_i32_784 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v73 : BitVec 32 := Scalar.xori v2 c8_i32
  let c1_i32_783 : BitVec 32 := 1#32
  let v1125 : BitVec 32 := Scalar.muli v73 c1_i32_783
  let v1126 : BitVec 32 := Scalar.addi c0_i32_784 v1125
  v1126.toNat
def k0_off15 (d0 : Dev nD) (c256_i32_789 : BitVec 32) : Fin 2 → Nat :=
  let c128_i32_788 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_19 : BitVec 32 := 0#32
  let v50 : BitVec 1 := Scalar.cmpi .sgt v12 c0_i32_19
  let v51 : BitVec 32 := Scalar.extui v50
  let c0_i32_20 : BitVec 32 := 0#32
  let v52 : BitVec 1 := Scalar.cmpi .slt v12 c0_i32_20
  let v53 : BitVec 32 := Scalar.extui v52
  let v54 : BitVec 32 := Scalar.subi v51 v53
  let c2_i32_18 : BitVec 32 := 2#32
  let c0_i32_21 : BitVec 32 := 0#32
  let v55 : BitVec 1 := Scalar.cmpi .sgt c2_i32_18 c0_i32_21
  let v56 : BitVec 32 := Scalar.extui v55
  let c0_i32_22 : BitVec 32 := 0#32
  let v57 : BitVec 1 := Scalar.cmpi .slt c2_i32_18 c0_i32_22
  let v58 : BitVec 32 := Scalar.extui v57
  let v59 : BitVec 32 := Scalar.subi v56 v58
  let v60 : BitVec 1 := Scalar.cmpi .ne v54 v59
  let v61 : BitVec 32 := Scalar.remsi v12 c2_i32_18
  let c0_i32_23 : BitVec 32 := 0#32
  let v62 : BitVec 1 := Scalar.cmpi .ne v61 c0_i32_23
  let v63 : BitVec 1 := Scalar.andi v60 v62
  let v49 : BitVec 32 := Scalar.divsi v12 c2_i32_18
  let c1_i32_24 : BitVec 32 := 1#32
  let v64 : BitVec 32 := Scalar.subi v49 c1_i32_24
  let v65 : BitVec 32 := Scalar.select v63 v64 v49
  let v1134 : BitVec 32 := Scalar.muli c128_i32_788 v65
  let v1135 : BitVec 32 := Scalar.addi c256_i32_789 v1134
  let c64_i32_790 : BitVec 32 := 64#32
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v47 : BitVec 32 := Scalar.xori v12 v46
  let c1_i32_17 : BitVec 32 := 1#32
  let v48 : BitVec 32 := Scalar.andi v47 c1_i32_17
  let v1136 : BitVec 32 := Scalar.muli c64_i32_790 v48
  let v1137 : BitVec 32 := Scalar.addi v1135 v1136
  let c32_i32_791 : BitVec 32 := 32#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_29 : BitVec 32 := 2#32
  let c0_i32_30 : BitVec 32 := 0#32
  let v74 : BitVec 1 := Scalar.cmpi .eq c2_i32_29 c0_i32_30
  let c1_i32_31 : BitVec 32 := 1#32
  let v75 : BitVec 32 := Scalar.select v74 c1_i32_31 c2_i32_29
  let v76 : BitVec 32 := Scalar.remsi v29 v75
  let c0_i32_33 : BitVec 32 := 0#32
  let v78 : BitVec 1 := Scalar.cmpi .slt v76 c0_i32_33
  let c0_i32_34 : BitVec 32 := 0#32
  let v79 : BitVec 1 := Scalar.cmpi .slt v75 c0_i32_34
  let v80 : BitVec 1 := Scalar.xori v78 v79
  let c0_i32_32 : BitVec 32 := 0#32
  let v77 : BitVec 1 := Scalar.cmpi .ne v76 c0_i32_32
  let v81 : BitVec 1 := Scalar.andi v80 v77
  let v82 : BitVec 32 := Scalar.addi v76 v75
  let v83 : BitVec 32 := Scalar.select v81 v82 v76
  let v1138 : BitVec 32 := Scalar.muli c32_i32_791 v83
  let v1139 : BitVec 32 := Scalar.addi v1137 v1138
  let c16_i32_793 : BitVec 32 := 16#32
  let c1_i32_792 : BitVec 32 := 1#32
  let c0_i32_36 : BitVec 32 := 0#32
  let v85 : BitVec 1 := Scalar.cmpi .sgt v29 c0_i32_36
  let v86 : BitVec 32 := Scalar.extui v85
  let c0_i32_37 : BitVec 32 := 0#32
  let v87 : BitVec 1 := Scalar.cmpi .slt v29 c0_i32_37
  let v88 : BitVec 32 := Scalar.extui v87
  let v89 : BitVec 32 := Scalar.subi v86 v88
  let c2_i32_35 : BitVec 32 := 2#32
  let c0_i32_38 : BitVec 32 := 0#32
  let v90 : BitVec 1 := Scalar.cmpi .sgt c2_i32_35 c0_i32_38
  let v91 : BitVec 32 := Scalar.extui v90
  let c0_i32_39 : BitVec 32 := 0#32
  let v92 : BitVec 1 := Scalar.cmpi .slt c2_i32_35 c0_i32_39
  let v93 : BitVec 32 := Scalar.extui v92
  let v94 : BitVec 32 := Scalar.subi v91 v93
  let v95 : BitVec 1 := Scalar.cmpi .ne v89 v94
  let v96 : BitVec 32 := Scalar.remsi v29 c2_i32_35
  let c0_i32_40 : BitVec 32 := 0#32
  let v97 : BitVec 1 := Scalar.cmpi .ne v96 c0_i32_40
  let v98 : BitVec 1 := Scalar.andi v95 v97
  let v84 : BitVec 32 := Scalar.divsi v29 c2_i32_35
  let c1_i32_41 : BitVec 32 := 1#32
  let v99 : BitVec 32 := Scalar.subi v84 c1_i32_41
  let v100 : BitVec 32 := Scalar.select v98 v99 v84
  let v1140 : BitVec 32 := Scalar.subi c1_i32_792 v100
  let v1141 : BitVec 32 := Scalar.muli c16_i32_793 v1140
  let v1142 : BitVec 32 := Scalar.addi v1139 v1141
  let v1143 : Index := Scalar.indexCast v1142
  let c0_794 : Index := 0#32
  ![v1143.toNat, 0]
def k0_dev14 (d0 : Dev nD) : Nat :=
  let c0_i32_799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v73 : BitVec 32 := Scalar.xori v2 c8_i32
  let c1_i32_798 : BitVec 32 := 1#32
  let v1150 : BitVec 32 := Scalar.muli v73 c1_i32_798
  let v1151 : BitVec 32 := Scalar.addi c0_i32_799 v1150
  v1151.toNat
def k0_dev15 (d0 : Dev nD) : Nat :=
  let c0_i32_812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_27 : BitVec 32 := 4#32
  let v69 : BitVec 32 := Scalar.muli v29 c4_i32_27
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32 : BitVec 32 := 3#32
  let v70 : BitVec 32 := Scalar.xori v12 c3_i32
  let v71 : BitVec 32 := Scalar.addi v69 v70
  let c1_i32_811 : BitVec 32 := 1#32
  let v1171 : BitVec 32 := Scalar.muli v71 c1_i32_811
  let v1172 : BitVec 32 := Scalar.addi c0_i32_812 v1171
  v1172.toNat
def k0_dev16 (d0 : Dev nD) : Nat :=
  let c0_i32_825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v66 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v67 : BitVec 32 := Scalar.xori v12 c1_i32_26
  let v68 : BitVec 32 := Scalar.addi v66 v67
  let c1_i32_824 : BitVec 32 := 1#32
  let v1192 : BitVec 32 := Scalar.muli v68 c1_i32_824
  let v1193 : BitVec 32 := Scalar.addi c0_i32_825 v1192
  v1193.toNat
def k0_off16 (d0 : Dev nD) (c0_i32_839 : BitVec 32) : Fin 2 → Nat :=
  let c128_i32_838 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v47 : BitVec 32 := Scalar.xori v12 v46
  let c1_i32_17 : BitVec 32 := 1#32
  let v48 : BitVec 32 := Scalar.andi v47 c1_i32_17
  let v1208 : BitVec 32 := Scalar.muli c128_i32_838 v48
  let v1209 : BitVec 32 := Scalar.addi c0_i32_839 v1208
  let c64_i32_840 : BitVec 32 := 64#32
  let c0_i32_19 : BitVec 32 := 0#32
  let v50 : BitVec 1 := Scalar.cmpi .sgt v12 c0_i32_19
  let v51 : BitVec 32 := Scalar.extui v50
  let c0_i32_20 : BitVec 32 := 0#32
  let v52 : BitVec 1 := Scalar.cmpi .slt v12 c0_i32_20
  let v53 : BitVec 32 := Scalar.extui v52
  let v54 : BitVec 32 := Scalar.subi v51 v53
  let c2_i32_18 : BitVec 32 := 2#32
  let c0_i32_21 : BitVec 32 := 0#32
  let v55 : BitVec 1 := Scalar.cmpi .sgt c2_i32_18 c0_i32_21
  let v56 : BitVec 32 := Scalar.extui v55
  let c0_i32_22 : BitVec 32 := 0#32
  let v57 : BitVec 1 := Scalar.cmpi .slt c2_i32_18 c0_i32_22
  let v58 : BitVec 32 := Scalar.extui v57
  let v59 : BitVec 32 := Scalar.subi v56 v58
  let v60 : BitVec 1 := Scalar.cmpi .ne v54 v59
  let v61 : BitVec 32 := Scalar.remsi v12 c2_i32_18
  let c0_i32_23 : BitVec 32 := 0#32
  let v62 : BitVec 1 := Scalar.cmpi .ne v61 c0_i32_23
  let v63 : BitVec 1 := Scalar.andi v60 v62
  let v49 : BitVec 32 := Scalar.divsi v12 c2_i32_18
  let c1_i32_24 : BitVec 32 := 1#32
  let v64 : BitVec 32 := Scalar.subi v49 c1_i32_24
  let v65 : BitVec 32 := Scalar.select v63 v64 v49
  let v1210 : BitVec 32 := Scalar.muli c64_i32_840 v65
  let v1211 : BitVec 32 := Scalar.addi v1209 v1210
  let c32_i32_841 : BitVec 32 := 32#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_29 : BitVec 32 := 2#32
  let c0_i32_30 : BitVec 32 := 0#32
  let v74 : BitVec 1 := Scalar.cmpi .eq c2_i32_29 c0_i32_30
  let c1_i32_31 : BitVec 32 := 1#32
  let v75 : BitVec 32 := Scalar.select v74 c1_i32_31 c2_i32_29
  let v76 : BitVec 32 := Scalar.remsi v29 v75
  let c0_i32_33 : BitVec 32 := 0#32
  let v78 : BitVec 1 := Scalar.cmpi .slt v76 c0_i32_33
  let c0_i32_34 : BitVec 32 := 0#32
  let v79 : BitVec 1 := Scalar.cmpi .slt v75 c0_i32_34
  let v80 : BitVec 1 := Scalar.xori v78 v79
  let c0_i32_32 : BitVec 32 := 0#32
  let v77 : BitVec 1 := Scalar.cmpi .ne v76 c0_i32_32
  let v81 : BitVec 1 := Scalar.andi v80 v77
  let v82 : BitVec 32 := Scalar.addi v76 v75
  let v83 : BitVec 32 := Scalar.select v81 v82 v76
  let v1212 : BitVec 32 := Scalar.muli c32_i32_841 v83
  let v1213 : BitVec 32 := Scalar.addi v1211 v1212
  let c16_i32_842 : BitVec 32 := 16#32
  let c0_i32_36 : BitVec 32 := 0#32
  let v85 : BitVec 1 := Scalar.cmpi .sgt v29 c0_i32_36
  let v86 : BitVec 32 := Scalar.extui v85
  let c0_i32_37 : BitVec 32 := 0#32
  let v87 : BitVec 1 := Scalar.cmpi .slt v29 c0_i32_37
  let v88 : BitVec 32 := Scalar.extui v87
  let v89 : BitVec 32 := Scalar.subi v86 v88
  let c2_i32_35 : BitVec 32 := 2#32
  let c0_i32_38 : BitVec 32 := 0#32
  let v90 : BitVec 1 := Scalar.cmpi .sgt c2_i32_35 c0_i32_38
  let v91 : BitVec 32 := Scalar.extui v90
  let c0_i32_39 : BitVec 32 := 0#32
  let v92 : BitVec 1 := Scalar.cmpi .slt c2_i32_35 c0_i32_39
  let v93 : BitVec 32 := Scalar.extui v92
  let v94 : BitVec 32 := Scalar.subi v91 v93
  let v95 : BitVec 1 := Scalar.cmpi .ne v89 v94
  let v96 : BitVec 32 := Scalar.remsi v29 c2_i32_35
  let c0_i32_40 : BitVec 32 := 0#32
  let v97 : BitVec 1 := Scalar.cmpi .ne v96 c0_i32_40
  let v98 : BitVec 1 := Scalar.andi v95 v97
  let v84 : BitVec 32 := Scalar.divsi v29 c2_i32_35
  let c1_i32_41 : BitVec 32 := 1#32
  let v99 : BitVec 32 := Scalar.subi v84 c1_i32_41
  let v100 : BitVec 32 := Scalar.select v98 v99 v84
  let v1214 : BitVec 32 := Scalar.muli c16_i32_842 v100
  let v1215 : BitVec 32 := Scalar.addi v1213 v1214
  let v1218 : Index := Scalar.indexCast v1215
  let c0_846 : Index := 0#32
  ![v1218.toNat, 0]
def k0_off17 (d0 : Dev nD) (c256_i32_858 : BitVec 32) : Fin 2 → Nat :=
  let c128_i32_857 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_19 : BitVec 32 := 0#32
  let v50 : BitVec 1 := Scalar.cmpi .sgt v12 c0_i32_19
  let v51 : BitVec 32 := Scalar.extui v50
  let c0_i32_20 : BitVec 32 := 0#32
  let v52 : BitVec 1 := Scalar.cmpi .slt v12 c0_i32_20
  let v53 : BitVec 32 := Scalar.extui v52
  let v54 : BitVec 32 := Scalar.subi v51 v53
  let c2_i32_18 : BitVec 32 := 2#32
  let c0_i32_21 : BitVec 32 := 0#32
  let v55 : BitVec 1 := Scalar.cmpi .sgt c2_i32_18 c0_i32_21
  let v56 : BitVec 32 := Scalar.extui v55
  let c0_i32_22 : BitVec 32 := 0#32
  let v57 : BitVec 1 := Scalar.cmpi .slt c2_i32_18 c0_i32_22
  let v58 : BitVec 32 := Scalar.extui v57
  let v59 : BitVec 32 := Scalar.subi v56 v58
  let v60 : BitVec 1 := Scalar.cmpi .ne v54 v59
  let v61 : BitVec 32 := Scalar.remsi v12 c2_i32_18
  let c0_i32_23 : BitVec 32 := 0#32
  let v62 : BitVec 1 := Scalar.cmpi .ne v61 c0_i32_23
  let v63 : BitVec 1 := Scalar.andi v60 v62
  let v49 : BitVec 32 := Scalar.divsi v12 c2_i32_18
  let c1_i32_24 : BitVec 32 := 1#32
  let v64 : BitVec 32 := Scalar.subi v49 c1_i32_24
  let v65 : BitVec 32 := Scalar.select v63 v64 v49
  let v1232 : BitVec 32 := Scalar.muli c128_i32_857 v65
  let v1233 : BitVec 32 := Scalar.addi c256_i32_858 v1232
  let c64_i32_859 : BitVec 32 := 64#32
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v47 : BitVec 32 := Scalar.xori v12 v46
  let c1_i32_17 : BitVec 32 := 1#32
  let v48 : BitVec 32 := Scalar.andi v47 c1_i32_17
  let v1234 : BitVec 32 := Scalar.muli c64_i32_859 v48
  let v1235 : BitVec 32 := Scalar.addi v1233 v1234
  let c32_i32_860 : BitVec 32 := 32#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_29 : BitVec 32 := 2#32
  let c0_i32_30 : BitVec 32 := 0#32
  let v74 : BitVec 1 := Scalar.cmpi .eq c2_i32_29 c0_i32_30
  let c1_i32_31 : BitVec 32 := 1#32
  let v75 : BitVec 32 := Scalar.select v74 c1_i32_31 c2_i32_29
  let v76 : BitVec 32 := Scalar.remsi v29 v75
  let c0_i32_33 : BitVec 32 := 0#32
  let v78 : BitVec 1 := Scalar.cmpi .slt v76 c0_i32_33
  let c0_i32_34 : BitVec 32 := 0#32
  let v79 : BitVec 1 := Scalar.cmpi .slt v75 c0_i32_34
  let v80 : BitVec 1 := Scalar.xori v78 v79
  let c0_i32_32 : BitVec 32 := 0#32
  let v77 : BitVec 1 := Scalar.cmpi .ne v76 c0_i32_32
  let v81 : BitVec 1 := Scalar.andi v80 v77
  let v82 : BitVec 32 := Scalar.addi v76 v75
  let v83 : BitVec 32 := Scalar.select v81 v82 v76
  let v1236 : BitVec 32 := Scalar.muli c32_i32_860 v83
  let v1237 : BitVec 32 := Scalar.addi v1235 v1236
  let c16_i32_861 : BitVec 32 := 16#32
  let c0_i32_36 : BitVec 32 := 0#32
  let v85 : BitVec 1 := Scalar.cmpi .sgt v29 c0_i32_36
  let v86 : BitVec 32 := Scalar.extui v85
  let c0_i32_37 : BitVec 32 := 0#32
  let v87 : BitVec 1 := Scalar.cmpi .slt v29 c0_i32_37
  let v88 : BitVec 32 := Scalar.extui v87
  let v89 : BitVec 32 := Scalar.subi v86 v88
  let c2_i32_35 : BitVec 32 := 2#32
  let c0_i32_38 : BitVec 32 := 0#32
  let v90 : BitVec 1 := Scalar.cmpi .sgt c2_i32_35 c0_i32_38
  let v91 : BitVec 32 := Scalar.extui v90
  let c0_i32_39 : BitVec 32 := 0#32
  let v92 : BitVec 1 := Scalar.cmpi .slt c2_i32_35 c0_i32_39
  let v93 : BitVec 32 := Scalar.extui v92
  let v94 : BitVec 32 := Scalar.subi v91 v93
  let v95 : BitVec 1 := Scalar.cmpi .ne v89 v94
  let v96 : BitVec 32 := Scalar.remsi v29 c2_i32_35
  let c0_i32_40 : BitVec 32 := 0#32
  let v97 : BitVec 1 := Scalar.cmpi .ne v96 c0_i32_40
  let v98 : BitVec 1 := Scalar.andi v95 v97
  let v84 : BitVec 32 := Scalar.divsi v29 c2_i32_35
  let c1_i32_41 : BitVec 32 := 1#32
  let v99 : BitVec 32 := Scalar.subi v84 c1_i32_41
  let v100 : BitVec 32 := Scalar.select v98 v99 v84
  let v1238 : BitVec 32 := Scalar.muli c16_i32_861 v100
  let v1239 : BitVec 32 := Scalar.addi v1237 v1238
  let v1242 : Index := Scalar.indexCast v1239
  let c0_865 : Index := 0#32
  ![v1242.toNat, 0]
def k0_dev17 (d0 : Dev nD) : Nat :=
  let c0_i32_931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v73 : BitVec 32 := Scalar.xori v2 c8_i32
  let c1_i32_930 : BitVec 32 := 1#32
  let v1322 : BitVec 32 := Scalar.muli v73 c1_i32_930
  let v1323 : BitVec 32 := Scalar.addi c0_i32_931 v1322
  v1323.toNat
def k0_dev18 (d0 : Dev nD) : Nat :=
  let c0_i32_940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v73 : BitVec 32 := Scalar.xori v2 c8_i32
  let c1_i32_939 : BitVec 32 := 1#32
  let v1338 : BitVec 32 := Scalar.muli v73 c1_i32_939
  let v1339 : BitVec 32 := Scalar.addi c0_i32_940 v1338
  v1339.toNat
def k0_dev19 (d0 : Dev nD) : Nat :=
  let c0_i32_955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v72 : BitVec 32 := Scalar.xori v2 c4_i32_28
  let c1_i32_954 : BitVec 32 := 1#32
  let v1361 : BitVec 32 := Scalar.muli v72 c1_i32_954
  let v1362 : BitVec 32 := Scalar.addi c0_i32_955 v1361
  v1362.toNat
def k0_dev20 (d0 : Dev nD) : Nat :=
  let c0_i32_969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v72 : BitVec 32 := Scalar.xori v2 c4_i32_28
  let c1_i32_968 : BitVec 32 := 1#32
  let v1384 : BitVec 32 := Scalar.muli v72 c1_i32_968
  let v1385 : BitVec 32 := Scalar.addi c0_i32_969 v1384
  v1385.toNat
def k0_dev21 (d0 : Dev nD) : Nat :=
  let c0_i32_1092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v72 : BitVec 32 := Scalar.xori v2 c4_i32_28
  let c1_i32_1091 : BitVec 32 := 1#32
  let v1518 : BitVec 32 := Scalar.muli v72 c1_i32_1091
  let v1519 : BitVec 32 := Scalar.addi c0_i32_1092 v1518
  v1519.toNat
def k0_dev22 (d0 : Dev nD) : Nat :=
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v72 : BitVec 32 := Scalar.xori v2 c4_i32_28
  let c1_i32_1100 : BitVec 32 := 1#32
  let v1534 : BitVec 32 := Scalar.muli v72 c1_i32_1100
  let v1535 : BitVec 32 := Scalar.addi c0_i32_1101 v1534
  v1535.toNat
def k0_dev23 (d0 : Dev nD) : Nat :=
  let c0_i32_1116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v73 : BitVec 32 := Scalar.xori v2 c8_i32
  let c1_i32_1115 : BitVec 32 := 1#32
  let v1559 : BitVec 32 := Scalar.muli v73 c1_i32_1115
  let v1560 : BitVec 32 := Scalar.addi c0_i32_1116 v1559
  v1560.toNat
def k0_dev24 (d0 : Dev nD) : Nat :=
  let c0_i32_1131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v73 : BitVec 32 := Scalar.xori v2 c8_i32
  let c1_i32_1130 : BitVec 32 := 1#32
  let v1584 : BitVec 32 := Scalar.muli v73 c1_i32_1130
  let v1585 : BitVec 32 := Scalar.addi c0_i32_1131 v1584
  v1585.toNat
def k0_dev25 (d0 : Dev nD) : Nat :=
  let c0_i32_1249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_27 : BitVec 32 := 4#32
  let v69 : BitVec 32 := Scalar.muli v29 c4_i32_27
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32 : BitVec 32 := 3#32
  let v70 : BitVec 32 := Scalar.xori v12 c3_i32
  let v71 : BitVec 32 := Scalar.addi v69 v70
  let c1_i32_1248 : BitVec 32 := 1#32
  let v1710 : BitVec 32 := Scalar.muli v71 c1_i32_1248
  let v1711 : BitVec 32 := Scalar.addi c0_i32_1249 v1710
  v1711.toNat
def k0_dev26 (d0 : Dev nD) : Nat :=
  let c0_i32_1261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v66 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v67 : BitVec 32 := Scalar.xori v12 c1_i32_26
  let v68 : BitVec 32 := Scalar.addi v66 v67
  let c1_i32_1260 : BitVec 32 := 1#32
  let v1730 : BitVec 32 := Scalar.muli v68 c1_i32_1260
  let v1731 : BitVec 32 := Scalar.addi c0_i32_1261 v1730
  v1731.toNat
def k0_dev27 (d0 : Dev nD) : Nat :=
  let c0_i32_1280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v73 : BitVec 32 := Scalar.xori v2 c8_i32
  let c1_i32_1279 : BitVec 32 := 1#32
  let v1762 : BitVec 32 := Scalar.muli v73 c1_i32_1279
  let v1763 : BitVec 32 := Scalar.addi c0_i32_1280 v1762
  v1763.toNat
def k0_dev28 (d0 : Dev nD) : Nat :=
  let c0_i32_1289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v73 : BitVec 32 := Scalar.xori v2 c8_i32
  let c1_i32_1288 : BitVec 32 := 1#32
  let v1778 : BitVec 32 := Scalar.muli v73 c1_i32_1288
  let v1779 : BitVec 32 := Scalar.addi c0_i32_1289 v1778
  v1779.toNat
def k0_dev29 (d0 : Dev nD) : Nat :=
  let c0_i32_1404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v66 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v67 : BitVec 32 := Scalar.xori v12 c1_i32_26
  let v68 : BitVec 32 := Scalar.addi v66 v67
  let c1_i32_1403 : BitVec 32 := 1#32
  let v1892 : BitVec 32 := Scalar.muli v68 c1_i32_1403
  let v1893 : BitVec 32 := Scalar.addi c0_i32_1404 v1892
  v1893.toNat
def k0_dev30 (d0 : Dev nD) : Nat :=
  let c0_i32_1415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_27 : BitVec 32 := 4#32
  let v69 : BitVec 32 := Scalar.muli v29 c4_i32_27
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32 : BitVec 32 := 3#32
  let v70 : BitVec 32 := Scalar.xori v12 c3_i32
  let v71 : BitVec 32 := Scalar.addi v69 v70
  let c1_i32_1414 : BitVec 32 := 1#32
  let v1910 : BitVec 32 := Scalar.muli v71 c1_i32_1414
  let v1911 : BitVec 32 := Scalar.addi c0_i32_1415 v1910
  v1911.toNat
def k0_dev31 (d0 : Dev nD) : Nat :=
  let c0_i32_1432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v72 : BitVec 32 := Scalar.xori v2 c4_i32_28
  let c1_i32_1431 : BitVec 32 := 1#32
  let v1938 : BitVec 32 := Scalar.muli v72 c1_i32_1431
  let v1939 : BitVec 32 := Scalar.addi c0_i32_1432 v1938
  v1939.toNat
def k0_dev32 (d0 : Dev nD) : Nat :=
  let c0_i32_1441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v72 : BitVec 32 := Scalar.xori v2 c4_i32_28
  let c1_i32_1440 : BitVec 32 := 1#32
  let v1954 : BitVec 32 := Scalar.muli v72 c1_i32_1440
  let v1955 : BitVec 32 := Scalar.addi c0_i32_1441 v1954
  v1955.toNat
def k0_dev33 (d0 : Dev nD) : Nat :=
  let c0_i32_1553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_27 : BitVec 32 := 4#32
  let v69 : BitVec 32 := Scalar.muli v29 c4_i32_27
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32 : BitVec 32 := 3#32
  let v70 : BitVec 32 := Scalar.xori v12 c3_i32
  let v71 : BitVec 32 := Scalar.addi v69 v70
  let c1_i32_1552 : BitVec 32 := 1#32
  let v2062 : BitVec 32 := Scalar.muli v71 c1_i32_1552
  let v2063 : BitVec 32 := Scalar.addi c0_i32_1553 v2062
  v2063.toNat
def k0_dev34 (d0 : Dev nD) : Nat :=
  let c0_i32_1565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v66 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v67 : BitVec 32 := Scalar.xori v12 c1_i32_26
  let v68 : BitVec 32 := Scalar.addi v66 v67
  let c1_i32_1564 : BitVec 32 := 1#32
  let v2082 : BitVec 32 := Scalar.muli v68 c1_i32_1564
  let v2083 : BitVec 32 := Scalar.addi c0_i32_1565 v2082
  v2083.toNat
def k0_dev35 (d0 : Dev nD) : Nat :=
  let c0_i32_1642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v66 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v67 : BitVec 32 := Scalar.xori v12 c1_i32_26
  let v68 : BitVec 32 := Scalar.addi v66 v67
  let c1_i32_1641 : BitVec 32 := 1#32
  let v2154 : BitVec 32 := Scalar.muli v68 c1_i32_1641
  let v2155 : BitVec 32 := Scalar.addi c0_i32_1642 v2154
  v2155.toNat
def k0_dev36 (d0 : Dev nD) : Nat :=
  let c0_i32_1653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_27 : BitVec 32 := 4#32
  let v69 : BitVec 32 := Scalar.muli v29 c4_i32_27
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32 : BitVec 32 := 3#32
  let v70 : BitVec 32 := Scalar.xori v12 c3_i32
  let v71 : BitVec 32 := Scalar.addi v69 v70
  let c1_i32_1652 : BitVec 32 := 1#32
  let v2172 : BitVec 32 := Scalar.muli v71 c1_i32_1652
  let v2173 : BitVec 32 := Scalar.addi c0_i32_1653 v2172
  v2173.toNat
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S4x256x1024 : Shape := ⟨3, ![4, 256, 1024]⟩
abbrev S1024x16384 : Shape := ⟨2, ![1024, 16384]⟩
abbrev S16384x1024 : Shape := ⟨2, ![16384, 1024]⟩
abbrev S1024x4096 : Shape := ⟨2, ![1024, 4096]⟩
abbrev S4x256x16384 : Shape := ⟨3, ![4, 256, 16384]⟩
abbrev S4x256x128x128 : Shape := ⟨4, ![4, 256, 128, 128]⟩
abbrev S4x256x4096 : Shape := ⟨3, ![4, 256, 4096]⟩
abbrev S4x256x32x128 : Shape := ⟨4, ![4, 256, 32, 128]⟩
abbrev S4x256x32x4x128 : Shape := ⟨5, ![4, 256, 32, 4, 128]⟩
abbrev S_ : Shape := ⟨0, ![]⟩
abbrev S4x128x256x1 : Shape := ⟨4, ![4, 128, 256, 1]⟩
abbrev S4x128x256x256 : Shape := ⟨4, ![4, 128, 256, 256]⟩
abbrev S4x128x256 : Shape := ⟨3, ![4, 128, 256]⟩
abbrev S4x256x128x1 : Shape := ⟨4, ![4, 256, 128, 1]⟩
abbrev S4x128x128x256 : Shape := ⟨4, ![4, 128, 128, 256]⟩
abbrev S1024x1024 : Shape := ⟨2, ![1024, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x16384, .f32⟩
  | .hbm, ⟨2, _⟩ => ⟨S16384x1024, .f32⟩
  | .hbm, ⟨3, _⟩ => ⟨S1024x4096, .f32⟩
  | .hbm, ⟨4, _⟩ => ⟨S1024x4096, .f32⟩
  | .hbm, ⟨5, _⟩ => ⟨S4x256x16384, .f32⟩
  | .hbm, ⟨6, _⟩ => ⟨S4x256x128x128, .f32⟩
  | .hbm, ⟨7, _⟩ => ⟨S4x256x4096, .f32⟩
  | .hbm, ⟨8, _⟩ => ⟨S4x256x32x128, .f32⟩
  | .hbm, ⟨9, _⟩ => ⟨S4x256x4096, .f32⟩
  | .hbm, ⟨10, _⟩ => ⟨S4x256x32x128, .f32⟩
  | .hbm, ⟨11, _⟩ => ⟨S4x256x32x4x128, .f32⟩
  | .hbm, ⟨12, _⟩ => ⟨S4x256x128x128, .f32⟩
  | .hbm, ⟨13, _⟩ => ⟨S4x256x32x4x128, .f32⟩
  | .hbm, ⟨14, _⟩ => ⟨S4x256x128x128, .f32⟩
  | .hbm, ⟨15, _⟩ => ⟨S_, .f32⟩
  | .hbm, ⟨16, _⟩ => ⟨S4x256x128x128, .f32⟩
  | .hbm, ⟨17, _⟩ => ⟨S_, .f32⟩
  | .hbm, ⟨18, _⟩ => ⟨S4x128x256x1, .f32⟩
  | .hbm, ⟨19, _⟩ => ⟨S_, .f32⟩
  | .hbm, ⟨20, _⟩ => ⟨S4x128x256x1, .f32⟩
  | .hbm, ⟨21, _⟩ => ⟨S4x128x256x256, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x128x256x256, .f32⟩
  | .hbm, ⟨26, _⟩ => ⟨S4x128x256x256, .f32⟩
  | .hbm, ⟨27, _⟩ => ⟨S_, .f32⟩
  | .hbm, ⟨28, _⟩ => ⟨S4x128x256, .f32⟩
  | .hbm, ⟨29, _⟩ => ⟨S4x128x256x1, .f32⟩
  | .hbm, ⟨30, _⟩ => ⟨S4x128x256x1, .f32⟩
  | .hbm, ⟨31, _⟩ => ⟨S4x128x256x1, .f32⟩
  | .hbm, ⟨32, _⟩ => ⟨S4x128x256x1, .f32⟩
  | .hbm, ⟨33, _⟩ => ⟨S4x128x256x256, .f32⟩
  | .hbm, ⟨34, _⟩ => ⟨S4x128x256x256, .f32⟩
  | .hbm, ⟨35, _⟩ => ⟨S4x128x256x256, .f32⟩
  | .hbm, ⟨36, _⟩ => ⟨S4x128x256x1, .f32⟩
  | .hbm, ⟨37, _⟩ => ⟨S_, .f32⟩
  | .hbm, ⟨38, _⟩ => ⟨S4x128x256, .f32⟩
  | .hbm, ⟨39, _⟩ => ⟨S4x128x256x1, .f32⟩
  | .hbm, ⟨40, _⟩ => ⟨S4x128x256x1, .f32⟩
  | .hbm, ⟨41, _⟩ => ⟨S4x256x128x1, .f32⟩
  | .hbm, ⟨42, _⟩ => ⟨S4x256x128x128, .f32⟩
  | .hbm, ⟨43, _⟩ => ⟨S4x256x128x128, .f32⟩
  | .hbm, ⟨44, _⟩ => ⟨S4x128x128x256, .f32⟩
  | .hbm, ⟨45, _⟩ => ⟨S4x256x128x128, .f32⟩
  | .hbm, ⟨46, _⟩ => ⟨S4x256x128x128, .f32⟩
  | .hbm, ⟨47, _⟩ => ⟨S4x256x128x1, .f32⟩
  | .hbm, ⟨48, _⟩ => ⟨S4x256x128x128, .f32⟩
  | .hbm, ⟨49, _⟩ => ⟨S4x256x128x128, .f32⟩
  | .hbm, ⟨50, _⟩ => ⟨S4x256x16384, .f32⟩
  | .hbm, ⟨51, _⟩ => ⟨S4x256x1024, .f32⟩
  | .hbm, ⟨52, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Proof.Program.lean ====
/-
  The fused attention kernel as a list of actions.  The printed body is a chain of part programs; here it is written again as a
  short prologue followed by a list of actions — a projection, one attention head, an output projection, the barrier, a send, a
  receive, a wait for a send — each a small program over one entry of a table of the 32 transfers.  `body_eq` says that the two
  programs are the same one.
-/
module

public import proofs.«01_k».proof.Proof.Gen.KernelIdeal.Skeleton
public import proofs.«01_k».proof.Proof.Gen.KernelIdeal.Points

@[expose] public section

noncomputable section

namespace Cert.Attn

open Cert.KernelIdeal Cert.KernelIdeal.Gen
open Idealize.ShloMosaic Idealize.ShloMosaic.TcCoe Idealize.SL.Sem

variable {F : FTy → Type} [FloatOps F] [Named F]

/-- `n` rows of the output. -/
abbrev Sr (n : ℕ) : Shape := ⟨2, ![n, 1024]⟩
/-- `n` rows of one slot of a receive buffer. -/
abbrev Sq (n : ℕ) : Shape := ⟨3, ![1, n, 1024]⟩
/-- A receive buffer of `a` slots of `b` rows. -/
abbrev Sc (a b : ℕ) : Shape := ⟨3, ![a, b, 1024]⟩

/-! ## The buffers -/

abbrev xM : Memref sig .tc .vmem S4x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev oM : Memref sig .tc .vmem S1024x1024 .f32 := Memref.whole cc0_stg3_0
abbrev hkM : Memref sig .tc .hbm S1024x4096 .f32 := Memref.whole main_arg3
abbrev hvM : Memref sig .tc .hbm S1024x4096 .f32 := Memref.whole main_arg4
abbrev wkM : Memref sig .tc .vmem S1024x256 .f32 := Memref.whole cc0_scratch0
abbrev wvM : Memref sig .tc .vmem S1024x256 .f32 := Memref.whole cc0_scratch1
abbrev qM : Memref sig .tc .vmem S1024x1024 .f32 := Memref.whole cc0_scratch2
abbrev kM : Memref sig .tc .vmem S1024x256 .f32 := Memref.whole cc0_scratch3
abbrev vM : Memref sig .tc .vmem S1024x256 .f32 := Memref.whole cc0_scratch4
abbrev aM : Memref sig .tc .vmem S1024x1024 .f32 := Memref.whole cc0_scratch5
abbrev sbM : Memref sig .tc .vmem S1920x1024 .bf16 := Memref.whole cc0_scratch12

/-! ## The transfers -/

/-- One transfer: `n` rows of the output at `soff`, narrowed into rows `so` of the send buffer, sent to slot `j` of the receive
    buffer `cM` on device `dev`, and there added to (`acc`) or stored over the output rows at `doff`. -/
structure Xf where
  n : ℕ
  a : ℕ
  b : ℕ
  cM : Memref sig .tc .vmem (Sc a b) .bf16
  j : ℕ
  so : ℕ
  dev : Dev nD → Dev nD
  soff : Dev nD → Fin 2 → ℕ
  doff : Dev nD → Fin 2 → ℕ
  acc : Bool

/-- The table of the 32 transfers, by semaphore index. -/
def X : Fin 32 → Xf := ![
  ⟨128, 8, 128, Memref.whole cc0_scratch6, 0, 0, fun c => ⟨k0_dev5 c, k0_dev5_lt c⟩, fun c => k0_off2 c 0#32, fun c => k0_off4 c 0#32, true⟩,
  ⟨128, 8, 128, Memref.whole cc0_scratch6, 1, 128, fun c => ⟨k0_dev6 c, k0_dev6_lt c⟩, fun c => k0_off3 c 256#32, fun c => k0_off5 c 256#32, true⟩,
  ⟨64, 8, 128, Memref.whole cc0_scratch6, 2, 256, fun c => ⟨k0_dev7 c, k0_dev7_lt c⟩, fun c => k0_off6 c 0#32, fun c => k0_off8 c 0#32, true⟩,
  ⟨64, 8, 128, Memref.whole cc0_scratch6, 3, 320, fun c => ⟨k0_dev8 c, k0_dev8_lt c⟩, fun c => k0_off7 c 256#32, fun c => k0_off9 c 256#32, true⟩,
  ⟨32, 4, 32, Memref.whole cc0_scratch7, 0, 384, fun c => ⟨k0_dev9 c, k0_dev9_lt c⟩, fun c => k0_off10 c 0#32, fun c => k0_off12 c 0#32, true⟩,
  ⟨32, 4, 32, Memref.whole cc0_scratch7, 1, 416, fun c => ⟨k0_dev10 c, k0_dev10_lt c⟩, fun c => k0_off11 c 256#32, fun c => k0_off13 c 256#32, true⟩,
  ⟨16, 4, 16, Memref.whole cc0_scratch8, 0, 704, fun c => ⟨k0_dev13 c, k0_dev13_lt c⟩, fun c => k0_off14 c 0#32, fun c => k0_off16 c 0#32, true⟩,
  ⟨16, 4, 16, Memref.whole cc0_scratch8, 1, 720, fun c => ⟨k0_dev14 c, k0_dev14_lt c⟩, fun c => k0_off15 c 256#32, fun c => k0_off17 c 256#32, true⟩,
  ⟨16, 4, 16, Memref.whole cc0_scratch9, 0, 864, fun c => ⟨k0_dev17 c, k0_dev17_lt c⟩, fun c => k0_off16 c 0#32, fun c => k0_off14 c 0#32, false⟩,
  ⟨16, 4, 16, Memref.whole cc0_scratch9, 1, 880, fun c => ⟨k0_dev18 c, k0_dev18_lt c⟩, fun c => k0_off17 c 256#32, fun c => k0_off15 c 256#32, false⟩,
  ⟨32, 4, 32, Memref.whole cc0_scratch10, 0, 960, fun c => ⟨k0_dev21 c, k0_dev21_lt c⟩, fun c => k0_off12 c 0#32, fun c => k0_off10 c 0#32, false⟩,
  ⟨32, 4, 32, Memref.whole cc0_scratch10, 1, 992, fun c => ⟨k0_dev22 c, k0_dev22_lt c⟩, fun c => k0_off13 c 256#32, fun c => k0_off11 c 256#32, false⟩,
  ⟨64, 8, 128, Memref.whole cc0_scratch11, 0, 1056, fun c => ⟨k0_dev25 c, k0_dev25_lt c⟩, fun c => k0_off8 c 0#32, fun c => k0_off6 c 0#32, false⟩,
  ⟨64, 8, 128, Memref.whole cc0_scratch11, 1, 1120, fun c => ⟨k0_dev26 c, k0_dev26_lt c⟩, fun c => k0_off9 c 256#32, fun c => k0_off7 c 256#32, false⟩,
  ⟨128, 8, 128, Memref.whole cc0_scratch11, 2, 1216, fun c => ⟨k0_dev29 c, k0_dev29_lt c⟩, fun c => k0_off4 c 0#32, fun c => k0_off2 c 0#32, false⟩,
  ⟨128, 8, 128, Memref.whole cc0_scratch11, 3, 1344, fun c => ⟨k0_dev30 c, k0_dev30_lt c⟩, fun c => k0_off5 c 256#32, fun c => k0_off3 c 256#32, false⟩,
  ⟨128, 8, 128, Memref.whole cc0_scratch6, 4, 448, fun c => ⟨k0_dev11 c, k0_dev11_lt c⟩, fun c => k0_off2 c 512#32, fun c => k0_off4 c 512#32, true⟩,
  ⟨128, 8, 128, Memref.whole cc0_scratch6, 5, 576, fun c => ⟨k0_dev12 c, k0_dev12_lt c⟩, fun c => k0_off3 c 768#32, fun c => k0_off5 c 768#32, true⟩,
  ⟨64, 8, 128, Memref.whole cc0_scratch6, 6, 736, fun c => ⟨k0_dev15 c, k0_dev15_lt c⟩, fun c => k0_off6 c 512#32, fun c => k0_off8 c 512#32, true⟩,
  ⟨64, 8, 128, Memref.whole cc0_scratch6, 7, 800, fun c => ⟨k0_dev16 c, k0_dev16_lt c⟩, fun c => k0_off7 c 768#32, fun c => k0_off9 c 768#32, true⟩,
  ⟨32, 4, 32, Memref.whole cc0_scratch7, 2, 896, fun c => ⟨k0_dev19 c, k0_dev19_lt c⟩, fun c => k0_off10 c 512#32, fun c => k0_off12 c 512#32, true⟩,
  ⟨32, 4, 32, Memref.whole cc0_scratch7, 3, 928, fun c => ⟨k0_dev20 c, k0_dev20_lt c⟩, fun c => k0_off11 c 768#32, fun c => k0_off13 c 768#32, true⟩,
  ⟨16, 4, 16, Memref.whole cc0_scratch8, 2, 1024, fun c => ⟨k0_dev23 c, k0_dev23_lt c⟩, fun c => k0_off14 c 512#32, fun c => k0_off16 c 512#32, true⟩,
  ⟨16, 4, 16, Memref.whole cc0_scratch8, 3, 1040, fun c => ⟨k0_dev24 c, k0_dev24_lt c⟩, fun c => k0_off15 c 768#32, fun c => k0_off17 c 768#32, true⟩,
  ⟨16, 4, 16, Memref.whole cc0_scratch9, 2, 1184, fun c => ⟨k0_dev27 c, k0_dev27_lt c⟩, fun c => k0_off16 c 512#32, fun c => k0_off14 c 512#32, false⟩,
  ⟨16, 4, 16, Memref.whole cc0_scratch9, 3, 1200, fun c => ⟨k0_dev28 c, k0_dev28_lt c⟩, fun c => k0_off17 c 768#32, fun c => k0_off15 c 768#32, false⟩,
  ⟨32, 4, 32, Memref.whole cc0_scratch10, 2, 1472, fun c => ⟨k0_dev31 c, k0_dev31_lt c⟩, fun c => k0_off12 c 512#32, fun c => k0_off10 c 512#32, false⟩,
  ⟨32, 4, 32, Memref.whole cc0_scratch10, 3, 1504, fun c => ⟨k0_dev32 c, k0_dev32_lt c⟩, fun c => k0_off13 c 768#32, fun c => k0_off11 c 768#32, false⟩,
  ⟨64, 8, 128, Memref.whole cc0_scratch11, 4, 1536, fun c => ⟨k0_dev33 c, k0_dev33_lt c⟩, fun c => k0_off8 c 512#32, fun c => k0_off6 c 512#32, false⟩,
  ⟨64, 8, 128, Memref.whole cc0_scratch11, 5, 1600, fun c => ⟨k0_dev34 c, k0_dev34_lt c⟩, fun c => k0_off9 c 768#32, fun c => k0_off7 c 768#32, false⟩,
  ⟨128, 8, 128, Memref.whole cc0_scratch11, 6, 1664, fun c => ⟨k0_dev35 c, k0_dev35_lt c⟩, fun c => k0_off4 c 512#32, fun c => k0_off2 c 512#32, false⟩,
  ⟨128, 8, 128, Memref.whole cc0_scratch11, 7, 1792, fun c => ⟨k0_dev36 c, k0_dev36_lt c⟩, fun c => k0_off5 c 768#32, fun c => k0_off3 c 768#32, false⟩]

/-- The facts about one transfer that its effects are formed with. -/
structure XfOK (e : Xf) : Prop where
  hn : 0 < (Sr e.n).numel
  h1n : 0 < (Sq e.n).numel
  cinb : ∀ i, (![e.j, 0, 0] : Fin 3 → ℕ) i + (Sq e.n).size i ≤ (Sc e.a e.b).size i
  sq : (Sq e.n).Squeezes (Sr e.n)
  sinb : ∀ i, (![e.so, 0] : Fin 2 → ℕ) i + (Sr e.n).size i ≤ S1920x1024.size i
  soinb : ∀ c i, e.soff c i + (Sr e.n).size i ≤ S1024x1024.size i
  doinb : ∀ c i, e.doff c i + (Sr e.n).size i ≤ S1024x1024.size i
  sbSt : (sbM.access (Rect.unit (s := S1920x1024) ![e.so, 0] (Sr e.n).size sinb)).Stores Finset.univ
  sbW : (sbM.slice (Rect.unit (s := S1920x1024) ![e.so, 0] (Sr e.n).size sinb) (fun _ => rfl)).view.WordExact
  slW : ((e.cM.slice (Rect.unit (s := Sc e.a e.b) ![e.j, 0, 0] (Sq e.n).size cinb) (fun _ => rfl)).squeeze (Sr e.n) sq).view.WordExact
  cast : (Sr e.n).ShapeCasts (Sr e.n)
  cast1 : (Sq e.n).ShapeCasts (Sr e.n)

theorem X_ok0 : XfOK (X 0) where
  hn := h_S128x1024
  h1n := h_S1x128x1024
  cinb := inb_S8x128x1024_S1x128x1024_0_0_0
  sq := squeezes_S1x128x1024_S128x1024
  sinb := inb_S1920x1024_S128x1024_0_0
  soinb := fun c => k0_off2_inb c 0
  doinb := fun c => k0_off4_inb c 0
  sbSt := View.stores_vmem h_S128x1024 ((Memref.isWhole_whole cc0_scratch12).storeExact_slice rfl _ packedbf16_S1920x1024_S128x1024_0_0) (fun _ => rfl)
  sbW := (Memref.isWhole_whole cc0_scratch12).wordExact_slice rfl _ wordsbf16_S1920x1024_S128x1024_0_0
  slW := ((Memref.isWhole_whole cc0_scratch6).wordExact_slice rfl _ wordsbf16_S8x128x1024_S1x128x1024_0_0_0).reshape _ _
  cast := shapeCasts_S128x1024_S128x1024
  cast1 := shapeCasts_S1x128x1024_S128x1024
theorem X_ok1 : XfOK (X 1) where
  hn := h_S128x1024
  h1n := h_S1x128x1024
  cinb := inb_S8x128x1024_S1x128x1024_1_0_0
  sq := squeezes_S1x128x1024_S128x1024
  sinb := inb_S1920x1024_S128x1024_128_0
  soinb := fun c => k0_off3_inb c 0
  doinb := fun c => k0_off5_inb c 0
  sbSt := View.stores_vmem h_S128x1024 ((Memref.isWhole_whole cc0_scratch12).storeExact_slice rfl _ packedbf16_S1920x1024_S128x1024_128_0) (fun _ => rfl)
  sbW := (Memref.isWhole_whole cc0_scratch12).wordExact_slice rfl _ wordsbf16_S1920x1024_S128x1024_128_0
  slW := ((Memref.isWhole_whole cc0_scratch6).wordExact_slice rfl _ wordsbf16_S8x128x1024_S1x128x1024_1_0_0).reshape _ _
  cast := shapeCasts_S128x1024_S128x1024
  cast1 := shapeCasts_S1x128x1024_S128x1024
theorem X_ok2 : XfOK (X 2) where
  hn := h_S64x1024
  h1n := h_S1x64x1024
  cinb := inb_S8x128x1024_S1x64x1024_2_0_0
  sq := squeezes_S1x64x1024_S64x1024
  sinb := inb_S1920x1024_S64x1024_256_0
  soinb := fun c => k0_off6_inb c 0
  doinb := fun c => k0_off8_inb c 0
  sbSt := View.stores_vmem h_S64x1024 ((Memref.isWhole_whole cc0_scratch12).storeExact_slice rfl _ packedbf16_S1920x1024_S64x1024_256_0) (fun _ => rfl)
  sbW := (Memref.isWhole_whole cc0_scratch12).wordExact_slice rfl _ wordsbf16_S1920x1024_S64x1024_256_0
  slW := ((Memref.isWhole_whole cc0_scratch6).wordExact_slice rfl _ wordsbf16_S8x128x1024_S1x64x1024_2_0_0).reshape _ _
  cast := shapeCasts_S64x1024_S64x1024
  cast1 := shapeCasts_S1x64x1024_S64x1024
theorem X_ok3 : XfOK (X 3) where
  hn := h_S64x1024
  h1n := h_S1x64x1024
  cinb := inb_S8x128x1024_S1x64x1024_3_0_0
  sq := squeezes_S1x64x1024_S64x1024
  sinb := inb_S1920x1024_S64x1024_320_0
  soinb := fun c => k0_off7_inb c 0
  doinb := fun c => k0_off9_inb c 0
  sbSt := View.stores_vmem h_S64x1024 ((Memref.isWhole_whole cc0_scratch12).storeExact_slice rfl _ packedbf16_S1920x1024_S64x1024_320_0) (fun _ => rfl)
  sbW := (Memref.isWhole_whole cc0_scratch12).wordExact_slice rfl _ wordsbf16_S1920x1024_S64x1024_320_0
  slW := ((Memref.isWhole_whole cc0_scratch6).wordExact_slice rfl _ wordsbf16_S8x128x1024_S1x64x1024_3_0_0).reshape _ _
  cast := shapeCasts_S64x1024_S64x1024
  cast1 := shapeCasts_S1x64x1024_S64x1024
theorem X_ok4 : XfOK (X 4) where
  hn := h_S32x1024
  h1n := h_S1x32x1024
  cinb := inb_S4x32x1024_S1x32x1024_0_0_0
  sq := squeezes_S1x32x1024_S32x1024
  sinb := inb_S1920x1024_S32x1024_384_0
  soinb := fun c => k0_off10_inb c 0
  doinb := fun c => k0_off12_inb c 0
  sbSt := View.stores_vmem h_S32x1024 ((Memref.isWhole_whole cc0_scratch12).storeExact_slice rfl _ packedbf16_S1920x1024_S32x1024_384_0) (fun _ => rfl)
  sbW := (Memref.isWhole_whole cc0_scratch12).wordExact_slice rfl _ wordsbf16_S1920x1024_S32x1024_384_0
  slW := ((Memref.isWhole_whole cc0_scratch7).wordExact_slice rfl _ wordsbf16_S4x32x1024_S1x32x1024_0_0_0).reshape _ _
  cast := shapeCasts_S32x1024_S32x1024
  cast1 := shapeCasts_S1x32x1024_S32x1024
theorem X_ok5 : XfOK (X 5) where
  hn := h_S32x1024
  h1n := h_S1x32x1024
  cinb := inb_S4x32x1024_S1x32x1024_1_0_0
  sq := squeezes_S1x32x1024_S32x1024
  sinb := inb_S1920x1024_S32x1024_416_0
  soinb := fun c => k0_off11_inb c 0
  doinb := fun c => k0_off13_inb c 0
  sbSt := View.stores_vmem h_S32x1024 ((Memref.isWhole_whole cc0_scratch12).storeExact_slice rfl _ packedbf16_S1920x1024_S32x1024_416_0) (fun _ => rfl)
  sbW := (Memref.isWhole_whole cc0_scratch12).wordExact_slice rfl _ wordsbf16_S1920x1024_S32x1024_416_0
  slW := ((Memref.isWhole_whole cc0_scratch7).wordExact_slice rfl _ wordsbf16_S4x32x1024_S1x32x1024_1_0_0).reshape _ _
  cast := shapeCasts_S32x1024_S32x1024
  cast1 := shapeCasts_S1x32x1024_S32x1024
theorem X_ok6 : XfOK (X 6) where
  hn := h_S16x1024
  h1n := h_S1x16x1024
  cinb := inb_S4x16x1024_S1x16x1024_0_0_0
  sq := squeezes_S1x16x1024_S16x1024
  sinb := inb_S1920x1024_S16x1024_704_0
  soinb := fun c => k0_off14_inb c 0
  doinb := fun c => k0_off16_inb c 0
  sbSt := View.stores_vmem h_S16x1024 ((Memref.isWhole_whole cc0_scratch12).storeExact_slice rfl _ packedbf16_S1920x1024_S16x1024_704_0) (fun _ => rfl)
  sbW := (Memref.isWhole_whole cc0_scratch12).wordExact_slice rfl _ wordsbf16_S1920x1024_S16x1024_704_0
  slW := ((Memref.isWhole_whole cc0_scratch8).wordExact_slice rfl _ wordsbf16_S4x16x1024_S1x16x1024_0_0_0).reshape _ _
  cast := shapeCasts_S16x1024_S16x1024
  cast1 := shapeCasts_S1x16x1024_S16x1024
theorem X_ok7 : XfOK (X 7) where
  hn := h_S16x1024
  h1n := h_S1x16x1024
  cinb := inb_S4x16x1024_S1x16x1024_1_0_0
  sq := squeezes_S1x16x1024_S16x1024
  sinb := inb_S1920x1024_S16x1024_720_0
  soinb := fun c => k0_off15_inb c 0
  doinb := fun c => k0_off17_inb c 0
  sbSt := View.stores_vmem h_S16x1024 ((Memref.isWhole_whole cc0_scratch12).storeExact_slice rfl _ packedbf16_S1920x1024_S16x1024_720_0) (fun _ => rfl)
  sbW := (Memref.isWhole_whole cc0_scratch12).wordExact_slice rfl _ wordsbf16_S1920x1024_S16x1024_720_0
  slW := ((Memref.isWhole_whole cc0_scratch8).wordExact_slice rfl _ wordsbf16_S4x16x1024_S1x16x1024_1_0_0).reshape _ _
  cast := shapeCasts_S16x1024_S16x1024
  cast1 := shapeCasts_S1x16x1024_S16x1024
theorem X_ok8 : XfOK (X 8) where
  hn := h_S16x1024
  h1n := h_S1x16x1024
  cinb := inb_S4x16x1024_S1x16x1024_0_0_0
  sq := squeezes_S1x16x1024_S16x1024
  sinb := inb_S1920x1024_S16x1024_864_0
  soinb := fun c => k0_off16_inb c 0
  doinb := fun c => k0_off14_inb c 0
  sbSt := View.stores_vmem h_S16x1024 ((Memref.isWhole_whole cc0_scratch12).storeExact_slice rfl _ packedbf16_S1920x1024_S16x1024_864_0) (fun _ => rfl)
  sbW := (Memref.isWhole_whole cc0_scratch12).wordExact_slice rfl _ wordsbf16_S1920x1024_S16x1024_864_0
  slW := ((Memref.isWhole_whole cc0_scratch9).wordExact_slice rfl _ wordsbf16_S4x16x1024_S1x16x1024_0_0_0).reshape _ _
  cast := shapeCasts_S16x1024_S16x1024
  cast1 := shapeCasts_S1x16x1024_S16x1024
theorem X_ok9 : XfOK (X 9) where
  hn := h_S16x1024
  h1n := h_S1x16x1024
  cinb := inb_S4x16x1024_S1x16x1024_1_0_0
  sq := squeezes_S1x16x1024_S16x1024
  sinb := inb_S1920x1024_S16x1024_880_0
  soinb := fun c => k0_off17_inb c 0
  doinb := fun c => k0_off15_inb c 0
  sbSt := View.stores_vmem h_S16x1024 ((Memref.isWhole_whole cc0_scratch12).storeExact_slice rfl _ packedbf16_S1920x1024_S16x1024_880_0) (fun _ => rfl)
  sbW := (Memref.isWhole_whole cc0_scratch12).wordExact_slice rfl _ wordsbf16_S1920x1024_S16x1024_880_0
  slW := ((Memref.isWhole_whole cc0_scratch9).wordExact_slice rfl _ wordsbf16_S4x16x1024_S1x16x1024_1_0_0).reshape _ _
  cast := shapeCasts_S16x1024_S16x1024
  cast1 := shapeCasts_S1x16x1024_S16x1024
theorem X_ok10 : XfOK (X 10) where
  hn := h_S32x1024
  h1n := h_S1x32x1024
  cinb := inb_S4x32x1024_S1x32x1024_0_0_0
  sq := squeezes_S1x32x1024_S32x1024
  sinb := inb_S1920x1024_S32x1024_960_0
  soinb := fun c => k0_off12_inb c 0
  doinb := fun c => k0_off10_inb c 0
  sbSt := View.stores_vmem h_S32x1024 ((Memref.isWhole_whole cc0_scratch12).storeExact_slice rfl _ packedbf16_S1920x1024_S32x1024_960_0) (fun _ => rfl)
  sbW := (Memref.isWhole_whole cc0_scratch12).wordExact_slice rfl _ wordsbf16_S1920x1024_S32x1024_960_0
  slW := ((Memref.isWhole_whole cc0_scratch10).wordExact_slice rfl _ wordsbf16_S4x32x1024_S1x32x1024_0_0_0).reshape _ _
  cast := shapeCasts_S32x1024_S32x1024
  cast1 := shapeCasts_S1x32x1024_S32x1024
theorem X_ok11 : XfOK (X 11) where
  hn := h_S32x1024
  h1n := h_S1x32x1024
  cinb := inb_S4x32x1024_S1x32x1024_1_0_0
  sq := squeezes_S1x32x1024_S32x1024
  sinb := inb_S1920x1024_S32x1024_992_0
  soinb := fun c => k0_off13_inb c 0
  doinb := fun c => k0_off11_inb c 0
  sbSt := View.stores_vmem h_S32x1024 ((Memref.isWhole_whole cc0_scratch12).storeExact_slice rfl _ packedbf16_S1920x1024_S32x1024_992_0) (fun _ => rfl)
  sbW := (Memref.isWhole_whole cc0_scratch12).wordExact_slice rfl _ wordsbf16_S1920x1024_S32x1024_992_0
  slW := ((Memref.isWhole_whole cc0_scratch10).wordExact_slice rfl _ wordsbf16_S4x32x1024_S1x32x1024_1_0_0).reshape _ _
  cast := shapeCasts_S32x1024_S32x1024
  cast1 := shapeCasts_S1x32x1024_S32x1024
theorem X_ok12 : XfOK (X 12) where
  hn := h_S64x1024
  h1n := h_S1x64x1024
  cinb := inb_S8x128x1024_S1x64x1024_0_0_0
  sq := squeezes_S1x64x1024_S64x1024
  sinb := inb_S1920x1024_S64x1024_1056_0
  soinb := fun c => k0_off8_inb c 0
  doinb := fun c => k0_off6_inb c 0
  sbSt := View.stores_vmem h_S64x1024 ((Memref.isWhole_whole cc0_scratch12).storeExact_slice rfl _ packedbf16_S1920x1024_S64x1024_1056_0) (fun _ => rfl)
  sbW := (Memref.isWhole_whole cc0_scratch12).wordExact_slice rfl _ wordsbf16_S1920x1024_S64x1024_1056_0
  slW := ((Memref.isWhole_whole cc0_scratch11).wordExact_slice rfl _ wordsbf16_S8x128x1024_S1x64x1024_0_0_0).reshape _ _
  cast := shapeCasts_S64x1024_S64x1024
  cast1 := shapeCasts_S1x64x1024_S64x1024
theorem X_ok13 : XfOK (X 13) where
  hn := h_S64x1024
  h1n := h_S1x64x1024
  cinb := inb_S8x128x1024_S1x64x1024_1_0_0
  sq := squeezes_S1x64x1024_S64x1024
  sinb := inb_S1920x1024_S64x1024_1120_0
  soinb := fun c => k0_off9_inb c 0
  doinb := fun c => k0_off7_inb c 0
  sbSt := View.stores_vmem h_S64x1024 ((Memref.isWhole_whole cc0_scratch12).storeExact_slice rfl _ packedbf16_S1920x1024_S64x1024_1120_0) (fun _ => rfl)
  sbW := (Memref.isWhole_whole cc0_scratch12).wordExact_slice rfl _ wordsbf16_S1920x1024_S64x1024_1120_0
  slW := ((Memref.isWhole_whole cc0_scratch11).wordExact_slice rfl _ wordsbf16_S8x128x1024_S1x64x1024_1_0_0).reshape _ _
  cast := shapeCasts_S64x1024_S64x1024
  cast1 := shapeCasts_S1x64x1024_S64x1024
theorem X_ok14 : XfOK (X 14) where
  hn := h_S128x1024
  h1n := h_S1x128x1024
  cinb := inb_S8x128x1024_S1x128x1024_2_0_0
  sq := squeezes_S1x128x1024_S128x1024
  sinb := inb_S1920x1024_S128x1024_1216_0
  soinb := fun c => k0_off4_inb c 0
  doinb := fun c => k0_off2_inb c 0
  sbSt := View.stores_vmem h_S128x1024 ((Memref.isWhole_whole cc0_scratch12).storeExact_slice rfl _ packedbf16_S1920x1024_S128x1024_1216_0) (fun _ => rfl)
  sbW := (Memref.isWhole_whole cc0_scratch12).wordExact_slice rfl _ wordsbf16_S1920x1024_S128x1024_1216_0
  slW := ((Memref.isWhole_whole cc0_scratch11).wordExact_slice rfl _ wordsbf16_S8x128x1024_S1x128x1024_2_0_0).reshape _ _
  cast := shapeCasts_S128x1024_S128x1024
  cast1 := shapeCasts_S1x128x1024_S128x1024
theorem X_ok15 : XfOK (X 15) where
  hn := h_S128x1024
  h1n := h_S1x128x1024
  cinb := inb_S8x128x1024_S1x128x1024_3_0_0
  sq := squeezes_S1x128x1024_S128x1024
  sinb := inb_S1920x1024_S128x1024_1344_0
  soinb := fun c => k0_off5_inb c 0
  doinb := fun c => k0_off3_inb c 0
  sbSt := View.stores_vmem h_S128x1024 ((Memref.isWhole_whole cc0_scratch12).storeExact_slice rfl _ packedbf16_S1920x1024_S128x1024_1344_0) (fun _ => rfl)
  sbW := (Memref.isWhole_whole cc0_scratch12).wordExact_slice rfl _ wordsbf16_S1920x1024_S128x1024_1344_0
  slW := ((Memref.isWhole_whole cc0_scratch11).wordExact_slice rfl _ wordsbf16_S8x128x1024_S1x128x1024_3_0_0).reshape _ _
  cast := shapeCasts_S128x1024_S128x1024
  cast1 := shapeCasts_S1x128x1024_S128x1024
theorem X_ok16 : XfOK (X 16) where
  hn := h_S128x1024
  h1n := h_S1x128x1024
  cinb := inb_S8x128x1024_S1x128x1024_4_0_0
  sq := squeezes_S1x128x1024_S128x1024
  sinb := inb_S1920x1024_S128x1024_448_0
  soinb := fun c => k0_off2_inb c 1
  doinb := fun c => k0_off4_inb c 1
  sbSt := View.stores_vmem h_S128x1024 ((Memref.isWhole_whole cc0_scratch12).storeExact_slice rfl _ packedbf16_S1920x1024_S128x1024_448_0) (fun _ => rfl)
  sbW := (Memref.isWhole_whole cc0_scratch12).wordExact_slice rfl _ wordsbf16_S1920x1024_S128x1024_448_0
  slW := ((Memref.isWhole_whole cc0_scratch6).wordExact_slice rfl _ wordsbf16_S8x128x1024_S1x128x1024_4_0_0).reshape _ _
  cast := shapeCasts_S128x1024_S128x1024
  cast1 := shapeCasts_S1x128x1024_S128x1024
theorem X_ok17 : XfOK (X 17) where
  hn := h_S128x1024
  h1n := h_S1x128x1024
  cinb := inb_S8x128x1024_S1x128x1024_5_0_0
  sq := squeezes_S1x128x1024_S128x1024
  sinb := inb_S1920x1024_S128x1024_576_0
  soinb := fun c => k0_off3_inb c 1
  doinb := fun c => k0_off5_inb c 1
  sbSt := View.stores_vmem h_S128x1024 ((Memref.isWhole_whole cc0_scratch12).storeExact_slice rfl _ packedbf16_S1920x1024_S128x1024_576_0) (fun _ => rfl)
  sbW := (Memref.isWhole_whole cc0_scratch12).wordExact_slice rfl _ wordsbf16_S1920x1024_S128x1024_576_0
  slW := ((Memref.isWhole_whole cc0_scratch6).wordExact_slice rfl _ wordsbf16_S8x128x1024_S1x128x1024_5_0_0).reshape _ _
  cast := shapeCasts_S128x1024_S128x1024
  cast1 := shapeCasts_S1x128x1024_S128x1024
theorem X_ok18 : XfOK (X 18) where
  hn := h_S64x1024
  h1n := h_S1x64x1024
  cinb := inb_S8x128x1024_S1x64x1024_6_0_0
  sq := squeezes_S1x64x1024_S64x1024
  sinb := inb_S1920x1024_S64x1024_736_0
  soinb := fun c => k0_off6_inb c 1
  doinb := fun c => k0_off8_inb c 1
  sbSt := View.stores_vmem h_S64x1024 ((Memref.isWhole_whole cc0_scratch12).storeExact_slice rfl _ packedbf16_S1920x1024_S64x1024_736_0) (fun _ => rfl)
  sbW := (Memref.isWhole_whole cc0_scratch12).wordExact_slice rfl _ wordsbf16_S1920x1024_S64x1024_736_0
  slW := ((Memref.isWhole_whole cc0_scratch6).wordExact_slice rfl _ wordsbf16_S8x128x1024_S1x64x1024_6_0_0).reshape _ _
  cast := shapeCasts_S64x1024_S64x1024
  cast1 := shapeCasts_S1x64x1024_S64x1024
theorem X_ok19 : XfOK (X 19) where
  hn := h_S64x1024
  h1n := h_S1x64x1024
  cinb := inb_S8x128x1024_S1x64x1024_7_0_0
  sq := squeezes_S1x64x1024_S64x1024
  sinb := inb_S1920x1024_S64x1024_800_0
  soinb := fun c => k0_off7_inb c 1
  doinb := fun c => k0_off9_inb c 1
  sbSt := View.stores_vmem h_S64x1024 ((Memref.isWhole_whole cc0_scratch12).storeExact_slice rfl _ packedbf16_S1920x1024_S64x1024_800_0) (fun _ => rfl)
  sbW := (Memref.isWhole_whole cc0_scratch12).wordExact_slice rfl _ wordsbf16_S1920x1024_S64x1024_800_0
  slW := ((Memref.isWhole_whole cc0_scratch6).wordExact_slice rfl _ wordsbf16_S8x128x1024_S1x64x1024_7_0_0).reshape _ _
  cast := shapeCasts_S64x1024_S64x1024
  cast1 := shapeCasts_S1x64x1024_S64x1024
theorem X_ok20 : XfOK (X 20) where
  hn := h_S32x1024
  h1n := h_S1x32x1024
  cinb := inb_S4x32x1024_S1x32x1024_2_0_0
  sq := squeezes_S1x32x1024_S32x1024
  sinb := inb_S1920x1024_S32x1024_896_0
  soinb := fun c => k0_off10_inb c 1
  doinb := fun c => k0_off12_inb c 1
  sbSt := View.stores_vmem h_S32x1024 ((Memref.isWhole_whole cc0_scratch12).storeExact_slice rfl _ packedbf16_S1920x1024_S32x1024_896_0) (fun _ => rfl)
  sbW := (Memref.isWhole_whole cc0_scratch12).wordExact_slice rfl _ wordsbf16_S1920x1024_S32x1024_896_0
  slW := ((Memref.isWhole_whole cc0_scratch7).wordExact_slice rfl _ wordsbf16_S4x32x1024_S1x32x1024_2_0_0).reshape _ _
  cast := shapeCasts_S32x1024_S32x1024
  cast1 := shapeCasts_S1x32x1024_S32x1024
theorem X_ok21 : XfOK (X 21) where
  hn := h_S32x1024
  h1n := h_S1x32x1024
  cinb := inb_S4x32x1024_S1x32x1024_3_0_0
  sq := squeezes_S1x32x1024_S32x1024
  sinb := inb_S1920x1024_S32x1024_928_0
  soinb := fun c => k0_off11_inb c 1
  doinb := fun c => k0_off13_inb c 1
  sbSt := View.stores_vmem h_S32x1024 ((Memref.isWhole_whole cc0_scratch12).storeExact_slice rfl _ packedbf16_S1920x1024_S32x1024_928_0) (fun _ => rfl)
  sbW := (Memref.isWhole_whole cc0_scratch12).wordExact_slice rfl _ wordsbf16_S1920x1024_S32x1024_928_0
  slW := ((Memref.isWhole_whole cc0_scratch7).wordExact_slice rfl _ wordsbf16_S4x32x1024_S1x32x1024_3_0_0).reshape _ _
  cast := shapeCasts_S32x1024_S32x1024
  cast1 := shapeCasts_S1x32x1024_S32x1024
theorem X_ok22 : XfOK (X 22) where
  hn := h_S16x1024
  h1n := h_S1x16x1024
  cinb := inb_S4x16x1024_S1x16x1024_2_0_0
  sq := squeezes_S1x16x1024_S16x1024
  sinb := inb_S1920x1024_S16x1024_1024_0
  soinb := fun c => k0_off14_inb c 1
  doinb := fun c => k0_off16_inb c 1
  sbSt := View.stores_vmem h_S16x1024 ((Memref.isWhole_whole cc0_scratch12).storeExact_slice rfl _ packedbf16_S1920x1024_S16x1024_1024_0) (fun _ => rfl)
  sbW := (Memref.isWhole_whole cc0_scratch12).wordExact_slice rfl _ wordsbf16_S1920x1024_S16x1024_1024_0
  slW := ((Memref.isWhole_whole cc0_scratch8).wordExact_slice rfl _ wordsbf16_S4x16x1024_S1x16x1024_2_0_0).reshape _ _
  cast := shapeCasts_S16x1024_S16x1024
  cast1 := shapeCasts_S1x16x1024_S16x1024
theorem X_ok23 : XfOK (X 23) where
  hn := h_S16x1024
  h1n := h_S1x16x1024
  cinb := inb_S4x16x1024_S1x16x1024_3_0_0
  sq := squeezes_S1x16x1024_S16x1024
  sinb := inb_S1920x1024_S16x1024_1040_0
  soinb := fun c => k0_off15_inb c 1
  doinb := fun c => k0_off17_inb c 1
  sbSt := View.stores_vmem h_S16x1024 ((Memref.isWhole_whole cc0_scratch12).storeExact_slice rfl _ packedbf16_S1920x1024_S16x1024_1040_0) (fun _ => rfl)
  sbW := (Memref.isWhole_whole cc0_scratch12).wordExact_slice rfl _ wordsbf16_S1920x1024_S16x1024_1040_0
  slW := ((Memref.isWhole_whole cc0_scratch8).wordExact_slice rfl _ wordsbf16_S4x16x1024_S1x16x1024_3_0_0).reshape _ _
  cast := shapeCasts_S16x1024_S16x1024
  cast1 := shapeCasts_S1x16x1024_S16x1024
theorem X_ok24 : XfOK (X 24) where
  hn := h_S16x1024
  h1n := h_S1x16x1024
  cinb := inb_S4x16x1024_S1x16x1024_2_0_0
  sq := squeezes_S1x16x1024_S16x1024
  sinb := inb_S1920x1024_S16x1024_1184_0
  soinb := fun c => k0_off16_inb c 1
  doinb := fun c => k0_off14_inb c 1
  sbSt := View.stores_vmem h_S16x1024 ((Memref.isWhole_whole cc0_scratch12).storeExact_slice rfl _ packedbf16_S1920x1024_S16x1024_1184_0) (fun _ => rfl)
  sbW := (Memref.isWhole_whole cc0_scratch12).wordExact_slice rfl _ wordsbf16_S1920x1024_S16x1024_1184_0
  slW := ((Memref.isWhole_whole cc0_scratch9).wordExact_slice rfl _ wordsbf16_S4x16x1024_S1x16x1024_2_0_0).reshape _ _
  cast := shapeCasts_S16x1024_S16x1024
  cast1 := shapeCasts_S1x16x1024_S16x1024
theorem X_ok25 : XfOK (X 25) where
  hn := h_S16x1024
  h1n := h_S1x16x1024
  cinb := inb_S4x16x1024_S1x16x1024_3_0_0
  sq := squeezes_S1x16x1024_S16x1024
  sinb := inb_S1920x1024_S16x1024_1200_0
  soinb := fun c => k0_off17_inb c 1
  doinb := fun c => k0_off15_inb c 1
  sbSt := View.stores_vmem h_S16x1024 ((Memref.isWhole_whole cc0_scratch12).storeExact_slice rfl _ packedbf16_S1920x1024_S16x1024_1200_0) (fun _ => rfl)
  sbW := (Memref.isWhole_whole cc0_scratch12).wordExact_slice rfl _ wordsbf16_S1920x1024_S16x1024_1200_0
  slW := ((Memref.isWhole_whole cc0_scratch9).wordExact_slice rfl _ wordsbf16_S4x16x1024_S1x16x1024_3_0_0).reshape _ _
  cast := shapeCasts_S16x1024_S16x1024
  cast1 := shapeCasts_S1x16x1024_S16x1024
theorem X_ok26 : XfOK (X 26) where
  hn := h_S32x1024
  h1n := h_S1x32x1024
  cinb := inb_S4x32x1024_S1x32x1024_2_0_0
  sq := squeezes_S1x32x1024_S32x1024
  sinb := inb_S1920x1024_S32x1024_1472_0
  soinb := fun c => k0_off12_inb c 1
  doinb := fun c => k0_off10_inb c 1
  sbSt := View.stores_vmem h_S32x1024 ((Memref.isWhole_whole cc0_scratch12).storeExact_slice rfl _ packedbf16_S1920x1024_S32x1024_1472_0) (fun _ => rfl)
  sbW := (Memref.isWhole_whole cc0_scratch12).wordExact_slice rfl _ wordsbf16_S1920x1024_S32x1024_1472_0
  slW := ((Memref.isWhole_whole cc0_scratch10).wordExact_slice rfl _ wordsbf16_S4x32x1024_S1x32x1024_2_0_0).reshape _ _
  cast := shapeCasts_S32x1024_S32x1024
  cast1 := shapeCasts_S1x32x1024_S32x1024
theorem X_ok27 : XfOK (X 27) where
  hn := h_S32x1024
  h1n := h_S1x32x1024
  cinb := inb_S4x32x1024_S1x32x1024_3_0_0
  sq := squeezes_S1x32x1024_S32x1024
  sinb := inb_S1920x1024_S32x1024_1504_0
  soinb := fun c => k0_off13_inb c 1
  doinb := fun c => k0_off11_inb c 1
  sbSt := View.stores_vmem h_S32x1024 ((Memref.isWhole_whole cc0_scratch12).storeExact_slice rfl _ packedbf16_S1920x1024_S32x1024_1504_0) (fun _ => rfl)
  sbW := (Memref.isWhole_whole cc0_scratch12).wordExact_slice rfl _ wordsbf16_S1920x1024_S32x1024_1504_0
  slW := ((Memref.isWhole_whole cc0_scratch10).wordExact_slice rfl _ wordsbf16_S4x32x1024_S1x32x1024_3_0_0).reshape _ _
  cast := shapeCasts_S32x1024_S32x1024
  cast1 := shapeCasts_S1x32x1024_S32x1024
theorem X_ok28 : XfOK (X 28) where
  hn := h_S64x1024
  h1n := h_S1x64x1024
  cinb := inb_S8x128x1024_S1x64x1024_4_0_0
  sq := squeezes_S1x64x1024_S64x1024
  sinb := inb_S1920x1024_S64x1024_1536_0
  soinb := fun c => k0_off8_inb c 1
  doinb := fun c => k0_off6_inb c 1
  sbSt := View.stores_vmem h_S64x1024 ((Memref.isWhole_whole cc0_scratch12).storeExact_slice rfl _ packedbf16_S1920x1024_S64x1024_1536_0) (fun _ => rfl)
  sbW := (Memref.isWhole_whole cc0_scratch12).wordExact_slice rfl _ wordsbf16_S1920x1024_S64x1024_1536_0
  slW := ((Memref.isWhole_whole cc0_scratch11).wordExact_slice rfl _ wordsbf16_S8x128x1024_S1x64x1024_4_0_0).reshape _ _
  cast := shapeCasts_S64x1024_S64x1024
  cast1 := shapeCasts_S1x64x1024_S64x1024
theorem X_ok29 : XfOK (X 29) where
  hn := h_S64x1024
  h1n := h_S1x64x1024
  cinb := inb_S8x128x1024_S1x64x1024_5_0_0
  sq := squeezes_S1x64x1024_S64x1024
  sinb := inb_S1920x1024_S64x1024_1600_0
  soinb := fun c => k0_off9_inb c 1
  doinb := fun c => k0_off7_inb c 1
  sbSt := View.stores_vmem h_S64x1024 ((Memref.isWhole_whole cc0_scratch12).storeExact_slice rfl _ packedbf16_S1920x1024_S64x1024_1600_0) (fun _ => rfl)
  sbW := (Memref.isWhole_whole cc0_scratch12).wordExact_slice rfl _ wordsbf16_S1920x1024_S64x1024_1600_0
  slW := ((Memref.isWhole_whole cc0_scratch11).wordExact_slice rfl _ wordsbf16_S8x128x1024_S1x64x1024_5_0_0).reshape _ _
  cast := shapeCasts_S64x1024_S64x1024
  cast1 := shapeCasts_S1x64x1024_S64x1024
theorem X_ok30 : XfOK (X 30) where
  hn := h_S128x1024
  h1n := h_S1x128x1024
  cinb := inb_S8x128x1024_S1x128x1024_6_0_0
  sq := squeezes_S1x128x1024_S128x1024
  sinb := inb_S1920x1024_S128x1024_1664_0
  soinb := fun c => k0_off4_inb c 1
  doinb := fun c => k0_off2_inb c 1
  sbSt := View.stores_vmem h_S128x1024 ((Memref.isWhole_whole cc0_scratch12).storeExact_slice rfl _ packedbf16_S1920x1024_S128x1024_1664_0) (fun _ => rfl)
  sbW := (Memref.isWhole_whole cc0_scratch12).wordExact_slice rfl _ wordsbf16_S1920x1024_S128x1024_1664_0
  slW := ((Memref.isWhole_whole cc0_scratch11).wordExact_slice rfl _ wordsbf16_S8x128x1024_S1x128x1024_6_0_0).reshape _ _
  cast := shapeCasts_S128x1024_S128x1024
  cast1 := shapeCasts_S1x128x1024_S128x1024
theorem X_ok31 : XfOK (X 31) where
  hn := h_S128x1024
  h1n := h_S1x128x1024
  cinb := inb_S8x128x1024_S1x128x1024_7_0_0
  sq := squeezes_S1x128x1024_S128x1024
  sinb := inb_S1920x1024_S128x1024_1792_0
  soinb := fun c => k0_off5_inb c 1
  doinb := fun c => k0_off3_inb c 1
  sbSt := View.stores_vmem h_S128x1024 ((Memref.isWhole_whole cc0_scratch12).storeExact_slice rfl _ packedbf16_S1920x1024_S128x1024_1792_0) (fun _ => rfl)
  sbW := (Memref.isWhole_whole cc0_scratch12).wordExact_slice rfl _ wordsbf16_S1920x1024_S128x1024_1792_0
  slW := ((Memref.isWhole_whole cc0_scratch11).wordExact_slice rfl _ wordsbf16_S8x128x1024_S1x128x1024_7_0_0).reshape _ _
  cast := shapeCasts_S128x1024_S128x1024
  cast1 := shapeCasts_S1x128x1024_S128x1024
theorem X_ok : ∀ k, XfOK (X k)
  | 0 => X_ok0
  | 1 => X_ok1
  | 2 => X_ok2
  | 3 => X_ok3
  | 4 => X_ok4
  | 5 => X_ok5
  | 6 => X_ok6
  | 7 => X_ok7
  | 8 => X_ok8
  | 9 => X_ok9
  | 10 => X_ok10
  | 11 => X_ok11
  | 12 => X_ok12
  | 13 => X_ok13
  | 14 => X_ok14
  | 15 => X_ok15
  | 16 => X_ok16
  | 17 => X_ok17
  | 18 => X_ok18
  | 19 => X_ok19
  | 20 => X_ok20
  | 21 => X_ok21
  | 22 => X_ok22
  | 23 => X_ok23
  | 24 => X_ok24
  | 25 => X_ok25
  | 26 => X_ok26
  | 27 => X_ok27
  | 28 => X_ok28
  | 29 => X_ok29
  | 30 => X_ok30
  | 31 => X_ok31
  | ⟨_ + 32, h⟩ => absurd h (Nat.not_lt.2 (Nat.le_add_left _ _))

/-! ## The pieces -/

/-- The rows of the send buffer that transfer `k` goes out of. -/
abbrev sbR (k : Fin 32) : Rect S1920x1024 := Rect.unit (s := S1920x1024) ![(X k).so, 0] (Sr (X k).n).size (X_ok k).sinb
abbrev sbV (k : Fin 32) : Memref sig .tc .vmem (Sr (X k).n) .bf16 := sbM.slice (sbR k) (fun _ => rfl)
/-- The slot that transfer `k` lands in. -/
abbrev slR (k : Fin 32) : Rect (Sc (X k).a (X k).b) := Rect.unit (s := Sc (X k).a (X k).b) ![(X k).j, 0, 0] (Sq (X k).n).size (X_ok k).cinb
abbrev slV (k : Fin 32) : Memref sig .tc .vmem (Sr (X k).n) .bf16 := ((X k).cM.slice (slR k) (fun _ => rfl)).squeeze (Sr (X k).n) (X_ok k).sq
/-- The output rows that transfer `k` reads on its sender, and those that it changes on its receiver. -/
abbrev soR (k : Fin 32) (c : Dev nD) : Rect S1024x1024 := Rect.unit (s := S1024x1024) ((X k).soff c) (Sr (X k).n).size ((X_ok k).soinb c)
abbrev doR (k : Fin 32) (c : Dev nD) : Rect S1024x1024 := Rect.unit (s := S1024x1024) ((X k).doff c) (Sr (X k).n).size ((X_ok k).doinb c)

theorem inb32 : ∀ (k : Fin 32) a, (![k.val] : Fin 1 → ℕ) a + S1.size a ≤ S32.size a := by decide
abbrev sendS (k : Fin 32) : DmaSem sig := (((cc0_scratch14 : DmaSems sig S32).slice (Rect.unit (s := S32) ![k.val] S1.size (inb32 k))).squeeze S_ squeezes_S1_S_).sem
abbrev recvS (k : Fin 32) : DmaSem sig := (((cc0_scratch15 : DmaSems sig S32).slice (Rect.unit (s := S32) ![k.val] S1.size (inb32 k))).squeeze S_ squeezes_S1_S_).sem
theorem inb2 : ∀ (k : Fin 2) a, (![k.val] : Fin 1 → ℕ) a + S1.size a ≤ S2.size a := by decide
abbrev locS (k : Fin 2) : DmaSem sig := (((cc0_scratch13 : DmaSems sig S2).slice (Rect.unit (s := S2) ![k.val] S1.size (inb2 k))).squeeze S_ squeezes_S1_S_).sem
abbrev barS : Sem sig := (SemArray.scalar (sig.barrier 0 rfl) : Sems sig S_).sem

/-- What a transfer narrows its rows to. -/
def sendPay (k : Fin 32) (v : Vec F (Sr (X k).n) .f32) : FVec F (Sr (X k).n) .bf16 :=
  shapeCast (Sr (X k).n) (truncf .bf16 (shapeCast (Sr (X k).n) v (X_ok k).cast : FVec F (Sr (X k).n) .f32) bitsLt_bf16_f32 : FVec F (Sr (X k).n) .bf16) (X_ok k).cast
/-- The landed rows, widened. -/
def wide (k : Fin 32) (w : Vec F (Sq (X k).n) .bf16) : FVec F (Sr (X k).n) .f32 :=
  extf .f32 (shapeCast (Sr (X k).n) w (X_ok k).cast1 : FVec F (Sr (X k).n) .bf16) bitsLt_bf16_f32
/-- The landed rows, widened and added to the output's. -/
def accPay (k : Fin 32) (w : Vec F (Sq (X k).n) .bf16) (v : Vec F (Sr (X k).n) .f32) : FVec F (Sr (X k).n) .f32 :=
  addf (shapeCast (Sr (X k).n) v (X_ok k).cast : FVec F (Sr (X k).n) .f32) (wide k w)

abbrev PG (F : FTy → Type) : Type 1 := Prog (TpuEff nD τ sig (Elt F) Λ₀ .tc) PUnit

/-- Send transfer `k`. -/
def sendP (k : Fin 32) (c : Dev nD) : PG F := do
  let v ← Prog.lift (.load oM (soR k c).toLoadRect (View.loadsAt_vmem (X_ok k).hn))
  let _ ← Prog.lift (.load sbM (sbR k).toLoadRect (View.loadsAt_vmem (X_ok k).hn))
  Prog.lift (.store sbM (sbR k) (sendPay k v) Finset.univ (X_ok k).sbSt (.inl rfl))
  Prog.lift (.enqueueDma (sbV k) (.remote (Dev.tc ((X k).dev c)) (slV k) (.dma (sendS k))) (.dma (recvS k)) (X_ok k).sbW (X_ok k).slW ⟨⟨rfl, Or.inl rfl⟩, trivial⟩)

/-- Receive transfer `k`. -/
def finP (k : Fin 32) (c : Dev nD) : PG F := do
  Prog.lift (.waitDma2 (recvS k) (sbV k) (slV k) (X_ok k).sbW (X_ok k).slW)
  let w ← Prog.lift (.load (X k).cM (slR k).toLoadRect (View.loadsAt_vmem (X_ok k).h1n))
  match (X k).acc with
  | true => do
    let v ← Prog.lift (.load oM (doR k c).toLoadRect (View.loadsAt_vmem (X_ok k).hn))
    let _ ← Prog.lift (.load oM (doR k c).toLoadRect (View.loadsAt_vmem (X_ok k).hn))
    Prog.lift (.store oM (doR k c) (accPay k w v) Finset.univ (View.stores_vmem_bits_univ (X_ok k).hn rfl) (.inl rfl))
  | false => do
    let _ ← Prog.lift (.load oM (doR k c).toLoadRect (View.loadsAt_vmem (X_ok k).hn))
    Prog.lift (.store oM (doR k c) (wide k w) Finset.univ (View.stores_vmem_bits_univ (X_ok k).hn rfl) (.inl rfl))

/-- Wait until transfer `k` has left the send buffer. -/
def waitP (k : Fin 32) : PG F :=
  Prog.lift (.waitDma2 (sendS k) (slV k) (sbV k) (X_ok k).slW (X_ok k).sbW)

/-! The rectangles of the computation. -/
theorem inb_q (g : Fin 2) : ∀ a, (![512 * g.val, 0] : Fin 2 → ℕ) a + S512x1024.size a ≤ S1024x1024.size a := by revert g; decide
theorem inb_kv (g : Fin 2) : ∀ a, (![512 * g.val, 0] : Fin 2 → ℕ) a + S512x256.size a ≤ S1024x256.size a := by revert g; decide
theorem inb_ah (b : Fin 4) (h : Fin 8) : ∀ a, (![256 * b.val, 128 * h.val] : Fin 2 → ℕ) a + S256x128.size a ≤ S1024x1024.size a := by revert b h; decide
theorem inb_kh (b : Fin 4) (h : Fin 8) : ∀ a, (![256 * b.val, 128 * (h.val / 4)] : Fin 2 → ℕ) a + S256x128.size a ≤ S1024x256.size a := by revert b h; decide
abbrev qR (g : Fin 2) : Rect S1024x1024 := Rect.unit (s := S1024x1024) ![512 * g.val, 0] S512x1024.size (inb_q g)
abbrev kvR (g : Fin 2) : Rect S1024x256 := Rect.unit (s := S1024x256) ![512 * g.val, 0] S512x256.size (inb_kv g)
abbrev ahR (b : Fin 4) (h : Fin 8) : Rect S1024x1024 := Rect.unit (s := S1024x1024) ![256 * b.val, 128 * h.val] S256x128.size (inb_ah b h)
abbrev khR (b : Fin 4) (h : Fin 8) : Rect S1024x256 := Rect.unit (s := S1024x256) ![256 * b.val, 128 * (h.val / 4)] S256x128.size (inb_kh b h)
abbrev wR : Rect S1024x1024 := Rect.unit (s := S1024x1024) ![0, 0] S1024x1024.size inb_S1024x1024_S1024x1024_0_0
abbrev wkvR : Rect S1024x256 := Rect.unit (s := S1024x256) ![0, 0] S1024x256.size inb_S1024x256_S1024x256_0_0
abbrev xR : Rect S4x256x1024 := Rect.unit (s := S4x256x1024) ![0, 0, 0] S4x256x1024.size inb_S4x256x1024_S4x256x1024_0_0_0

def qPay (g : Fin 2) (x : FVec F S1024x1024 .f32) (w : Vec F S1024x1024 .f32) : FVec F S512x1024 .f32 :=
  match g with | 0 => k0_pay3 x w | 1 => k0_pay35 x w
def kPay (g : Fin 2) (x : FVec F S1024x1024 .f32) (w : Vec F S1024x256 .f32) : FVec F S512x256 .f32 :=
  match g with | 0 => k0_pay4 x w | 1 => k0_pay36 x w
def vPay (g : Fin 2) (x : FVec F S1024x1024 .f32) (w : Vec F S1024x256 .f32) : FVec F S512x256 .f32 :=
  match g with | 0 => k0_pay5 x w | 1 => k0_pay37 x w

/-- The projections of two batches to queries, keys and values. -/
def qkvP (x : FVec F S1024x1024 .f32) (g : Fin 2) : PG F := do
  let w ← Prog.lift (.load wqM wR.toLoadRect (View.loadsAt_vmem h_S1024x1024))
  let _ ← Prog.lift (.load qM (qR g).toLoadRect (View.loadsAt_vmem h_S512x1024))
  Prog.lift (.store qM (qR g) (qPay g x w) Finset.univ (View.stores_vmem_bits_univ h_S512x1024 rfl) (.inl rfl))
  let w ← Prog.lift (.load wkM wkvR.toLoadRect (View.loadsAt_vmem h_S1024x256))
  let _ ← Prog.lift (.load kM (kvR g).toLoadRect (View.loadsAt_vmem h_S512x256))
  Prog.lift (.store kM (kvR g) (kPay g x w) Finset.univ (View.stores_vmem_bits_univ h_S512x256 rfl) (.inl rfl))
  let w ← Prog.lift (.load wvM wkvR.toLoadRect (View.loadsAt_vmem h_S1024x256))
  let _ ← Prog.lift (.load vM (kvR g).toLoadRect (View.loadsAt_vmem h_S512x256))
  Prog.lift (.store vM (kvR g) (vPay g x w) Finset.univ (View.stores_vmem_bits_univ h_S512x256 rfl) (.inl rfl))

/-- One head of one batch. -/
def attnP (b : Fin 4) (h : Fin 8) : PG F := do
  let q ← Prog.lift (.load qM (ahR b h).toLoadRect (View.loadsAt_vmem h_S256x128))
  let k ← Prog.lift (.load kM (khR b h).toLoadRect (View.loadsAt_vmem h_S256x128))
  let v ← Prog.lift (.load vM (khR b h).toLoadRect (View.loadsAt_vmem h_S256x128))
  let _ ← Prog.lift (.load aM (ahR b h).toLoadRect (View.loadsAt_vmem h_S256x128))
  Prog.lift (.store aM (ahR b h) (k0_pay11 q k v) Finset.univ (View.stores_vmem_bits_univ h_S256x128 rfl) (.inl rfl))

/-- The output projection of two batches. -/
def woP (g : Fin 2) : PG F := do
  let a ← Prog.lift (.load aM (qR g).toLoadRect (View.loadsAt_vmem h_S512x1024))
  let w ← Prog.lift (.load woM wR.toLoadRect (View.loadsAt_vmem h_S1024x1024))
  let _ ← Prog.lift (.load oM (qR g).toLoadRect (View.loadsAt_vmem h_S512x1024))
  Prog.lift (.store oM (qR g) (k0_pay30 a w) Finset.univ (View.stores_vmem_bits_univ h_S512x1024 rfl) (.inl rfl))

def bdev (c : Dev nD) : Fin 4 → Dev nD
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩

/-- Tell the four neighbours that this device is ready, and wait for them. -/
def barP (c : Dev nD) : PG F := do
  semSignalWord (bdev c 0) barS 1#32
  semSignalWord (bdev c 1) barS 1#32
  semSignalWord (bdev c 2) barS 1#32
  semSignalWord (bdev c 3) barS 1#32
  semWaitWord barS 4#32

inductive Act where
  | qkv (g : Fin 2) | attn (b : Fin 4) (h : Fin 8) | wo (g : Fin 2) | barrier
  | send (k : Fin 32) | fin (k : Fin 32) | waitS (k : Fin 32)
  deriving DecidableEq

def Act.run (x : FVec F S1024x1024 .f32) (c : Dev nD) : Act → PG F
  | .qkv g => qkvP x g
  | .attn b h => attnP b h
  | .wo g => woP g
  | .barrier => barP c
  | .send k => sendP k c
  | .fin k => finP k c
  | .waitS k => waitP k

def runL (x : FVec F S1024x1024 .f32) (c : Dev nD) : List Act → PG F
  | [] => pure ⟨⟩
  | a :: l => Prog.bind (a.run x c) fun _ => runL x c l

/-- The actions, in program order. -/
def acts : List Act := [
  .qkv 0, .attn 0 0, .attn 0 1, .attn 0 2, .attn 0 3, .attn 0 4, .attn 0 5, .attn 0 6,
  .attn 0 7, .attn 1 0, .attn 1 1, .attn 1 2, .attn 1 3, .attn 1 4, .attn 1 5, .attn 1 6,
  .attn 1 7, .wo 0, .barrier, .send 0, .send 1, .qkv 1, .fin 0, .fin 1,
  .send 2, .send 3, .attn 2 0, .attn 2 1, .attn 2 2, .attn 2 3, .attn 2 4, .attn 2 5,
  .attn 2 6, .attn 2 7, .attn 3 0, .attn 3 1, .attn 3 2, .attn 3 3, .attn 3 4, .attn 3 5,
  .attn 3 6, .attn 3 7, .fin 2, .fin 3, .send 4, .send 5, .wo 1, .send 16,
  .send 17, .fin 4, .fin 5, .fin 16, .fin 17, .waitS 0, .waitS 1, .send 6,
  .send 7, .send 18, .send 19, .fin 6, .fin 7, .fin 18, .fin 19, .waitS 2,
  .waitS 3, .send 8, .send 9, .send 20, .send 21, .fin 8, .fin 9, .fin 20,
  .fin 21, .waitS 4, .waitS 5, .waitS 16, .waitS 17, .send 10, .send 11, .send 22,
  .send 23, .fin 10, .fin 11, .fin 22, .fin 23, .waitS 6, .waitS 7, .waitS 18,
  .waitS 19, .send 12, .send 13, .send 24, .send 25, .fin 12, .fin 13, .fin 24,
  .fin 25, .waitS 8, .waitS 9, .waitS 20, .waitS 21, .send 14, .send 15, .send 26,
  .send 27, .fin 14, .fin 15, .fin 26, .fin 27, .waitS 10, .waitS 11, .waitS 22,
  .waitS 23, .send 28, .send 29, .fin 28, .fin 29, .waitS 12, .waitS 13, .waitS 24,
  .waitS 25, .send 30, .send 31, .fin 30, .fin 31, .waitS 14, .waitS 15, .waitS 26,
  .waitS 27, .waitS 28, .waitS 29, .waitS 30, .waitS 31]

abbrev hR (c : Dev nD) : Rect S1024x4096 := Rect.unit (s := S1024x4096) (k0_off1 c) S1024x256.size (k0_off1_inb c)
abbrev hkV (c : Dev nD) : Memref sig .tc .hbm S1024x256 .f32 := hkM.slice (hR c) (fun _ => rfl)
abbrev hvV (c : Dev nD) : Memref sig .tc .hbm S1024x256 .f32 := hvM.slice (hR c) (fun _ => rfl)

/-- The whole body. -/
def body : PG F := do
  let c ← Prog.lift .deviceId
  Prog.lift (.enqueueDma (hkV c) (.here wkM) (.dma (locS 0)) (View.wordExact_bits rfl) (Memref.isWhole_whole cc0_scratch0).wordExact ⟨Or.inl rfl, trivial⟩)
  Prog.lift (.enqueueDma (hvV c) (.here wvM) (.dma (locS 1)) (View.wordExact_bits rfl) (Memref.isWhole_whole cc0_scratch1).wordExact ⟨Or.inl rfl, trivial⟩)
  let x ← Prog.lift (.load xM xR.toLoadRect (View.loadsAt_vmem h_S4x256x1024))
  Prog.lift (.waitDma2 (locS 0) (hkV c) wkM (View.wordExact_bits rfl) (Memref.isWhole_whole cc0_scratch0).wordExact)
  Prog.lift (.waitDma2 (locS 1) (hvV c) wvM (View.wordExact_bits rfl) (Memref.isWhole_whole cc0_scratch1).wordExact)
  runL (k0_pay1 x) c acts

end Cert.Attn

end
-- ==== Proof.Geometry.lean ====
/-
  Where the transfers read and write: each is an exchange between two devices, over the rows of one of four channels of the
  output, at one of eight stages.  All facts here are finite: 32 transfers on 16 devices.
-/
module

public import proofs.«01_k».proof.Proof.Program

@[expose] public section

noncomputable section

namespace Cert.Attn

open Cert.KernelIdeal Cert.KernelIdeal.Gen
open Idealize.ShloMosaic Idealize.ShloMosaic.TcCoe Idealize.SL.Sem

/-- The channel of a transfer: the output rows `256 * ch k` to `256 * ch k + 255`. -/
def ch (k : Fin 32) : Fin 4 := ⟨2 * (k.val / 16) + k.val % 2, by omega⟩
/-- The stage of a transfer on its channel. -/
def stage (k : Fin 32) : ℕ := k.val % 16 / 2
/-- The transfer of a channel at a stage. -/
def kOf (h : Fin 4) (j : Fin 8) : Fin 32 := ⟨16 * (h.val / 2) + 2 * j.val + h.val % 2, by omega⟩

/-- The device at the other end of a transfer. -/
abbrev peer (k : Fin 32) (c : Dev nD) : Dev nD := (X k).dev c

/-- Which of the four neighbours the other end is. -/
def dir : Fin 32 → Fin 4 := ![0, 1, 1, 0, 2, 2, 3, 3, 3, 3, 2, 2, 1, 0, 0, 1, 0, 1, 1, 0, 2, 2, 3, 3, 3, 3, 2, 2, 1, 0, 0, 1]

/-- The place of a transfer in the order of sends. -/
def ord : Fin 32 → ℕ := ![0, 1, 2, 3, 4, 5, 8, 9, 12, 13, 16, 17, 20, 21, 24, 25, 6, 7, 10, 11, 14, 15, 18, 19, 22, 23, 26, 27, 28, 29, 30, 31]

theorem bdev_bdev : ∀ (d : Fin 4) (c : Dev nD), bdev (bdev c d) d = c := by decide +kernel
theorem peer_eq : ∀ (k : Fin 32) (c : Dev nD), peer k c = bdev c (dir k) := by decide +kernel
theorem peer_peer (k : Fin 32) (c : Dev nD) : peer k (peer k c) = c := by
  rw [peer_eq, peer_eq]; exact bdev_bdev _ _
theorem bdev_ne : ∀ (d d' : Fin 4) (c : Dev nD), bdev c d = bdev c d' → d = d' := by decide +kernel

theorem soff_peer : ∀ (k : Fin 32) (c : Dev nD) (a : Fin 2), (X k).soff (peer k c) a = (X k).doff c a := by decide +kernel
theorem soff_col : ∀ (k : Fin 32) (c : Dev nD), (X k).soff c 1 = 0 := by decide +kernel
theorem doff_col : ∀ (k : Fin 32) (c : Dev nD), (X k).doff c 1 = 0 := by decide +kernel
theorem doff_row : ∀ (k : Fin 32) (c : Dev nD), 256 * (ch k).val ≤ (X k).doff c 0 ∧ (X k).doff c 0 + (X k).n ≤ 256 * (ch k).val + 256 := by decide +kernel
theorem soff_row : ∀ (k : Fin 32) (c : Dev nD), 256 * (ch k).val ≤ (X k).soff c 0 ∧ (X k).soff c 0 + (X k).n ≤ 256 * (ch k).val + 256 := by decide +kernel
theorem kOf_ch : ∀ k : Fin 32, kOf (ch k) ⟨stage k, by unfold stage; omega⟩ = k := by decide +kernel
theorem so_disjoint : ∀ k k' : Fin 32, k ≠ k' → (X k).so + (X k).n ≤ (X k').so ∨ (X k').so + (X k').n ≤ (X k).so := by decide +kernel
theorem credit_eq : ∀ k : Fin 32, (sbV k).view.dmaCredit = (slV k).view.dmaCredit := by
  intro k; fin_cases k <;> rfl

end Cert.Attn

end
-- ==== Proof.Contents.lean ====
/-
  What the buffers hold, as functions of the launch memory: the projections, the attention of one head, this device's output
  projection, and the output after each stage of the exchange.
-/
module

public import proofs.«01_k».proof.Proof.Geometry
public import Idealize.ShloMosaic.Lib.ValueIdxCore

@[expose] public section

noncomputable section

namespace Cert.Attn

open Cert.KernelIdeal Cert.KernelIdeal.Gen
open Idealize.ShloMosaic Idealize.ShloMosaic.TcCoe Idealize.SL.Sem
open Idealize.ShloMosaic.ValueIdx (ix2)

variable {F : FTy → Type} [FloatOps F] [Named F]

/-! ## Whole buffers read and written through a rectangle -/

omit [FloatOps F] [Named F] in
theorem readAt_at (b : Ref sig .tc) (r : Rect b.ty.shape) (f : b.ty.Contents (Elt F)) (x : r.shape.Idx) :
    (View.whole b).readAt (Elt F) r.toLoadRect f x = f (r.emb x) := rfl

omit [FloatOps F] [Named F] in
theorem write_hit (b : Ref sig .tc) (r : Rect b.ty.shape) (f : b.ty.Contents (Elt F)) (w : r.shape.Idx → Elt F b.ty.elt) (x : r.shape.Idx) :
    ((View.whole b).slice r).write (Elt F) f w Finset.univ (r.emb x) = w x :=
  View.write_emb_of_mem (v := (View.whole b).slice r) f w (Finset.mem_univ x)

omit [FloatOps F] [Named F] in
theorem write_miss (b : Ref sig .tc) (r : Rect b.ty.shape) (f : b.ty.Contents (Elt F)) (w : r.shape.Idx → Elt F b.ty.elt) (i : b.ty.Idx)
    (h : i ∉ r.set) : ((View.whole b).slice r).write (Elt F) f w Finset.univ i = f i :=
  View.write_of_not_mem (v := (View.whole b).slice r) f w Finset.univ (fun hm => h (by
    rw [View.setOn_univ, View.set_slice_whole] at hm; exact hm))

/-- Every element of a rectangle is the image of a position in it. -/
theorem exists_pos {s : Shape} (r : Rect s) {i : s.Idx} (h : i ∈ r.set) : ∃ x, r.emb x = i := by
  rw [← Rect.map_emb_univ] at h
  obtain ⟨x, -, hx⟩ := Finset.mem_map.mp h
  exact ⟨x, hx⟩

/-! ## The operands -/

variable (m : (ℓ : Loc nD τ sig) → Buf (Elt F) ℓ)

/-- The staged blocks of the three windowed operands. -/
def xB (c : Dev nD) : (cc0_stg0_0 : Ref sig .tc).ty.Contents (Elt F) := (win0_0.blk (0 : Fin 1)).view.read (Elt F) (m ((c : Thread nD τ).loc main_arg0))
def wqB (c : Dev nD) : (cc0_stg1_0 : Ref sig .tc).ty.Contents (Elt F) := (win0_1.blk (0 : Fin 1)).view.read (Elt F) (m ((c : Thread nD τ).loc main_arg1))
def woB (c : Dev nD) : (cc0_stg2_0 : Ref sig .tc).ty.Contents (Elt F) := (win0_2.blk (0 : Fin 1)).view.read (Elt F) (m ((c : Thread nD τ).loc main_arg2))
/-- The columns of the key and value weights that this device uses. -/
def wkC (c : Dev nD) : (cc0_scratch0 : Ref sig .tc).ty.Contents (Elt F) := (hkV c).view.read (Elt F) (m ((c : Thread nD τ).loc main_arg3))
def wvC (c : Dev nD) : (cc0_scratch1 : Ref sig .tc).ty.Contents (Elt F) := (hvV c).view.read (Elt F) (m ((c : Thread nD τ).loc main_arg4))

def xval (c : Dev nD) : FVec F S1024x1024 .f32 := k0_pay1 (xM.view.readAt (Elt F) xR.toLoadRect (xB m c))
def wqv (c : Dev nD) : Vec F S1024x1024 .f32 := wqM.view.readAt (Elt F) wR.toLoadRect (wqB m c)
def wov (c : Dev nD) : Vec F S1024x1024 .f32 := woM.view.readAt (Elt F) wR.toLoadRect (woB m c)
def wkv (c : Dev nD) : Vec F S1024x256 .f32 := wkM.view.readAt (Elt F) wkvR.toLoadRect (wkC m c)
def wvv (c : Dev nD) : Vec F S1024x256 .f32 := wvM.view.readAt (Elt F) wkvR.toLoadRect (wvC m c)

/-! ## The projections and the attention -/

abbrev rw5 (i : Fin 1024) : Fin 512 := ⟨i.val % 512, Nat.mod_lt _ (by decide)⟩
abbrev gr5 (i : Fin 1024) : Fin 2 := ⟨i.val / 512, by omega⟩

def QV (c : Dev nD) : (cc0_scratch2 : Ref sig .tc).ty.Contents (Elt F) :=
  fun i => qPay (gr5 (i 0)) (xval m c) (wqv m c) (ix2 (n0 := 512) (n1 := 1024) (rw5 (i 0)) (i 1))
def KV (c : Dev nD) : (cc0_scratch3 : Ref sig .tc).ty.Contents (Elt F) :=
  fun i => kPay (gr5 (i 0)) (xval m c) (wkv m c) (ix2 (n0 := 512) (n1 := 256) (rw5 (i 0)) (i 1))
def VV (c : Dev nD) : (cc0_scratch4 : Ref sig .tc).ty.Contents (Elt F) :=
  fun i => vPay (gr5 (i 0)) (xval m c) (wvv m c) (ix2 (n0 := 512) (n1 := 256) (rw5 (i 0)) (i 1))

abbrev bt (i : Fin 1024) : Fin 4 := ⟨i.val / 256, by omega⟩
abbrev hd (i : Fin 1024) : Fin 8 := ⟨i.val / 128, by omega⟩

/-- One head of one batch of the attention. -/
def headV (c : Dev nD) (b : Fin 4) (h : Fin 8) : FVec F S256x128 .f32 :=
  k0_pay11 (qM.view.readAt (Elt F) (ahR b h).toLoadRect (QV m c)) (kM.view.readAt (Elt F) (khR b h).toLoadRect (KV m c))
    (vM.view.readAt (Elt F) (khR b h).toLoadRect (VV m c))
def AV (c : Dev nD) : (cc0_scratch5 : Ref sig .tc).ty.Contents (Elt F) :=
  fun i => headV m c (bt (i 0)) (hd (i 1)) (ix2 (n0 := 256) (n1 := 128) ⟨(i 0).val % 256, Nat.mod_lt _ (by decide)⟩ ⟨(i 1).val % 128, Nat.mod_lt _ (by decide)⟩)

/-- This device's output projection. -/
def OV (c : Dev nD) : (cc0_stg3_0 : Ref sig .tc).ty.Contents (Elt F) :=
  fun i => k0_pay30 (aM.view.readAt (Elt F) (qR (gr5 (i 0))).toLoadRect (AV m c)) (wov m c) (ix2 (n0 := 512) (n1 := 1024) (rw5 (i 0)) (i 1))

/-! ## The exchange -/

/-- What a transfer carries off a device whose output holds `o`. -/
def carried (k : Fin 32) (c : Dev nD) (o : (cc0_stg3_0 : Ref sig .tc).ty.Contents (Elt F)) : FVec F (Sr (X k).n) .bf16 :=
  sendPay k (oM.view.readAt (Elt F) (soR k c).toLoadRect o)
/-- What a receive stores: the carried rows widened, added to the rows held if it accumulates. -/
def newV (k : Fin 32) (v : Vec F (Sr (X k).n) .f32) (s : FVec F (Sr (X k).n) .bf16) : FVec F (Sr (X k).n) .f32 :=
  match (X k).acc with
  | true => addf (shapeCast (Sr (X k).n) v (X_ok k).cast : FVec F (Sr (X k).n) .f32) (extf .f32 s bitsLt_bf16_f32)
  | false => extf .f32 s bitsLt_bf16_f32
/-- One receive, on every device's output. -/
def stepO (k : Fin 32) (o : Dev nD → (cc0_stg3_0 : Ref sig .tc).ty.Contents (Elt F)) (c : Dev nD) : (cc0_stg3_0 : Ref sig .tc).ty.Contents (Elt F) :=
  (oM.access (doR k c) : View sig .tc _ _ _).write (Elt F) (o c)
    (newV k (oM.view.readAt (Elt F) (doR k c).toLoadRect (o c)) (carried k (peer k c) (o (peer k c)))) Finset.univ

/-- The output, on the rows of channel `h`, after `j` stages. -/
def OO (h : Fin 4) : ℕ → Dev nD → (cc0_stg3_0 : Ref sig .tc).ty.Contents (Elt F)
  | 0 => OV m
  | j + 1 => stepO (kOf h ⟨j % 8, Nat.mod_lt _ (by decide)⟩) (OO h j)

/-- What transfer `k` carries off device `c`. -/
def sent (k : Fin 32) (c : Dev nD) : FVec F (Sr (X k).n) .bf16 := carried k c (OO m (ch k) (stage k) c)

theorem stage_lt (k : Fin 32) : stage k < 8 := by unfold stage; omega

theorem OO_succ (k : Fin 32) (c : Dev nD) : OO m (ch k) (stage k + 1) c = stepO k (OO m (ch k) (stage k)) c := by
  have h : kOf (ch k) ⟨stage k % 8, Nat.mod_lt _ (by decide)⟩ = k := by
    have := kOf_ch k
    conv_rhs => rw [← this]
    congr 1; exact Fin.ext (Nat.mod_eq_of_lt (stage_lt k))
  show stepO _ _ c = _
  rw [h]

/-! ## What holds of the buffers on the way -/

def QOK (n : ℕ) (c : Dev nD) (f : (cc0_scratch2 : Ref sig .tc).ty.Contents (Elt F)) : Prop := ∀ i : S1024x1024.Idx, (i 0).val / 512 < n → f i = QV m c i
def KOK (n : ℕ) (c : Dev nD) (f : (cc0_scratch3 : Ref sig .tc).ty.Contents (Elt F)) : Prop := ∀ i : S1024x256.Idx, (i 0).val / 512 < n → f i = KV m c i
def VOK (n : ℕ) (c : Dev nD) (f : (cc0_scratch4 : Ref sig .tc).ty.Contents (Elt F)) : Prop := ∀ i : S1024x256.Idx, (i 0).val / 512 < n → f i = VV m c i
def AOK (n : ℕ) (c : Dev nD) (f : (cc0_scratch5 : Ref sig .tc).ty.Contents (Elt F)) : Prop :=
  ∀ i : S1024x1024.Idx, 8 * ((i 0).val / 256) + (i 1).val / 128 < n → f i = AV m c i
def OutOK (js : Fin 4 → ℕ) (c : Dev nD) (f : (cc0_stg3_0 : Ref sig .tc).ty.Contents (Elt F)) : Prop :=
  ∀ (h : Fin 4) (j : ℕ), js h = j + 1 → ∀ i : S1024x1024.Idx, (i 0).val / 256 = h.val → f i = OO m h j c i

variable {m}

theorem QOK.step {g : Fin 2} {c : Dev nD} {f : (cc0_scratch2 : Ref sig .tc).ty.Contents (Elt F)} (hf : QOK m g.val c f) :
    QOK m (g.val + 1) c ((qM.access (qR g) : View sig .tc _ _ _).write (Elt F) f (qPay g (xval m c) (wqv m c)) Finset.univ) := by
  intro i hi
  by_cases h : i ∈ (qR g).set
  · obtain ⟨x, hx⟩ := exists_pos _ h
    have h0 : (i 0).val = 512 * g.val + 1 * (x 0).val := by rw [← hx]; rfl
    have h1 : (i 1).val = 0 + 1 * (x 1).val := by rw [← hx]; rfl
    have hx0 : (x 0).val < 512 := (x 0).isLt
    refine (congrArg _ hx.symm).trans ((write_hit cc0_scratch2 (qR g) f _ x).trans ?_)
    unfold QV
    have e1 : gr5 (i 0) = g := Fin.ext (by show (i 0).val / 512 = _; omega)
    have e2 : ix2 (n0 := 512) (n1 := 1024) (rw5 (i 0)) (i 1) = x := by
      funext a; match a with
      | ⟨0, _⟩ => exact Fin.ext (by show (i 0).val % 512 = (x 0).val; omega)
      | ⟨1, _⟩ => exact Fin.ext (by show (i 1).val = (x 1).val; omega)
    rw [e1, e2]
  · refine (write_miss cc0_scratch2 (qR g) f _ i h).trans (hf i ?_)
    by_contra hn
    refine h (Rect.mem_set_unit.mpr fun a => ?_)
    match a with
    | ⟨0, _⟩ => exact ⟨by show 512 * g.val ≤ (i 0).val; omega, by show (i 0).val < 512 * g.val + 512; omega⟩
    | ⟨1, _⟩ => exact ⟨Nat.zero_le _, by show (i 1).val < 0 + 1024; have := (i 1).isLt; simpa using this⟩

theorem KOK.step {g : Fin 2} {c : Dev nD} {f : (cc0_scratch3 : Ref sig .tc).ty.Contents (Elt F)} (hf : KOK m g.val c f) :
    KOK m (g.val + 1) c ((kM.access (kvR g) : View sig .tc _ _ _).write (Elt F) f (kPay g (xval m c) (wkv m c)) Finset.univ) := by
  intro i hi
  by_cases h : i ∈ (kvR g).set
  · obtain ⟨x, hx⟩ := exists_pos _ h
    have h0 : (i 0).val = 512 * g.val + 1 * (x 0).val := by rw [← hx]; rfl
    have h1 : (i 1).val = 0 + 1 * (x 1).val := by rw [← hx]; rfl
    have hx0 : (x 0).val < 512 := (x 0).isLt
    refine (congrArg _ hx.symm).trans ((write_hit cc0_scratch3 (kvR g) f _ x).trans ?_)
    unfold KV
    have e1 : gr5 (i 0) = g := Fin.ext (by show (i 0).val / 512 = _; omega)
    have e2 : ix2 (n0 := 512) (n1 := 256) (rw5 (i 0)) (i 1) = x := by
      funext a; match a with
      | ⟨0, _⟩ => exact Fin.ext (by show (i 0).val % 512 = (x 0).val; omega)
      | ⟨1, _⟩ => exact Fin.ext (by show (i 1).val = (x 1).val; omega)
    rw [e1, e2]
  · refine (write_miss cc0_scratch3 (kvR g) f _ i h).trans (hf i ?_)
    by_contra hn
    refine h (Rect.mem_set_unit.mpr fun a => ?_)
    match a with
    | ⟨0, _⟩ => exact ⟨by show 512 * g.val ≤ (i 0).val; omega, by show (i 0).val < 512 * g.val + 512; omega⟩
    | ⟨1, _⟩ => exact ⟨Nat.zero_le _, by show (i 1).val < 0 + 256; have := (i 1).isLt; simpa using this⟩

theorem VOK.step {g : Fin 2} {c : Dev nD} {f : (cc0_scratch4 : Ref sig .tc).ty.Contents (Elt F)} (hf : VOK m g.val c f) :
    VOK m (g.val + 1) c ((vM.access (kvR g) : View sig .tc _ _ _).write (Elt F) f (vPay g (xval m c) (wvv m c)) Finset.univ) := by
  intro i hi
  by_cases h : i ∈ (kvR g).set
  · obtain ⟨x, hx⟩ := exists_pos _ h
    have h0 : (i 0).val = 512 * g.val + 1 * (x 0).val := by rw [← hx]; rfl
    have h1 : (i 1).val = 0 + 1 * (x 1).val := by rw [← hx]; rfl
    have hx0 : (x 0).val < 512 := (x 0).isLt
    refine (congrArg _ hx.symm).trans ((write_hit cc0_scratch4 (kvR g) f _ x).trans ?_)
    unfold VV
    have e1 : gr5 (i 0) = g := Fin.ext (by show (i 0).val / 512 = _; omega)
    have e2 : ix2 (n0 := 512) (n1 := 256) (rw5 (i 0)) (i 1) = x := by
      funext a; match a with
      | ⟨0, _⟩ => exact Fin.ext (by show (i 0).val % 512 = (x 0).val; omega)
      | ⟨1, _⟩ => exact Fin.ext (by show (i 1).val = (x 1).val; omega)
    rw [e1, e2]
  · refine (write_miss cc0_scratch4 (kvR g) f _ i h).trans (hf i ?_)
    by_contra hn
    refine h (Rect.mem_set_unit.mpr fun a => ?_)
    match a with
    | ⟨0, _⟩ => exact ⟨by show 512 * g.val ≤ (i 0).val; omega, by show (i 0).val < 512 * g.val + 512; omega⟩
    | ⟨1, _⟩ => exact ⟨Nat.zero_le _, by show (i 1).val < 0 + 256; have := (i 1).isLt; simpa using this⟩

theorem QOK.read {n : ℕ} {c : Dev nD} {f : (cc0_scratch2 : Ref sig .tc).ty.Contents (Elt F)} (hf : QOK m n c f) (b : Fin 4) (h : Fin 8) (hb : b.val / 2 < n) :
    qM.view.readAt (Elt F) (ahR b h).toLoadRect f = qM.view.readAt (Elt F) (ahR b h).toLoadRect (QV m c) :=
  funext fun x => hf ((ahR b h).emb x) (by
    show (256 * b.val + 1 * (x 0).val) / 512 < n
    have : (x 0).val < 256 := (x 0).isLt
    omega)
theorem KOK.read {n : ℕ} {c : Dev nD} {f : (cc0_scratch3 : Ref sig .tc).ty.Contents (Elt F)} (hf : KOK m n c f) (b : Fin 4) (h : Fin 8) (hb : b.val / 2 < n) :
    kM.view.readAt (Elt F) (khR b h).toLoadRect f = kM.view.readAt (Elt F) (khR b h).toLoadRect (KV m c) :=
  funext fun x => hf ((khR b h).emb x) (by
    show (256 * b.val + 1 * (x 0).val) / 512 < n
    have : (x 0).val < 256 := (x 0).isLt
    omega)
theorem VOK.read {n : ℕ} {c : Dev nD} {f : (cc0_scratch4 : Ref sig .tc).ty.Contents (Elt F)} (hf : VOK m n c f) (b : Fin 4) (h : Fin 8) (hb : b.val / 2 < n) :
    vM.view.readAt (Elt F) (khR b h).toLoadRect f = vM.view.readAt (Elt F) (khR b h).toLoadRect (VV m c) :=
  funext fun x => hf ((khR b h).emb x) (by
    show (256 * b.val + 1 * (x 0).val) / 512 < n
    have : (x 0).val < 256 := (x 0).isLt
    omega)

theorem AOK.step {b : Fin 4} {h : Fin 8} {c : Dev nD} {f : (cc0_scratch5 : Ref sig .tc).ty.Contents (Elt F)} (hf : AOK m (8 * b.val + h.val) c f) :
    AOK m (8 * b.val + h.val + 1) c ((aM.access (ahR b h) : View sig .tc _ _ _).write (Elt F) f (headV m c b h) Finset.univ) := by
  intro i hi
  by_cases hm : i ∈ (ahR b h).set
  · obtain ⟨x, hx⟩ := exists_pos _ hm
    have h0 : (i 0).val = 256 * b.val + 1 * (x 0).val := by rw [← hx]; rfl
    have h1 : (i 1).val = 128 * h.val + 1 * (x 1).val := by rw [← hx]; rfl
    have hx0 : (x 0).val < 256 := (x 0).isLt
    have hx1 : (x 1).val < 128 := (x 1).isLt
    refine (congrArg _ hx.symm).trans ((write_hit cc0_scratch5 (ahR b h) f _ x).trans ?_)
    unfold AV
    have e1 : bt (i 0) = b := Fin.ext (by show (i 0).val / 256 = _; omega)
    have e1' : hd (i 1) = h := Fin.ext (by show (i 1).val / 128 = _; omega)
    have e2 : ix2 (n0 := 256) (n1 := 128) ⟨(i 0).val % 256, Nat.mod_lt _ (by decide)⟩ ⟨(i 1).val % 128, Nat.mod_lt _ (by decide)⟩ = x := by
      funext a; match a with
      | ⟨0, _⟩ => exact Fin.ext (by show (i 0).val % 256 = (x 0).val; omega)
      | ⟨1, _⟩ => exact Fin.ext (by show (i 1).val % 128 = (x 1).val; omega)
    rw [e1, e1', e2]
  · refine (write_miss cc0_scratch5 (ahR b h) f _ i hm).trans (hf i ?_)
    have i0 : (i 0).val < 1024 := (i 0).isLt
    have i1 : (i 1).val < 1024 := (i 1).isLt
    by_contra hn
    refine hm (Rect.mem_set_unit.mpr fun a => ?_)
    have hh := h.isLt
    match a with
    | ⟨0, _⟩ => exact ⟨by show 256 * b.val ≤ (i 0).val; omega, by show (i 0).val < 256 * b.val + 256; omega⟩
    | ⟨1, _⟩ => exact ⟨by show 128 * h.val ≤ (i 1).val; omega, by show (i 1).val < 128 * h.val + 128; omega⟩

theorem AOK.read {n : ℕ} {c : Dev nD} {f : (cc0_scratch5 : Ref sig .tc).ty.Contents (Elt F)} (hf : AOK m n c f) (g : Fin 2) (hg : 16 * (g.val + 1) ≤ n) :
    aM.view.readAt (Elt F) (qR g).toLoadRect f = aM.view.readAt (Elt F) (qR g).toLoadRect (AV m c) :=
  funext fun x => hf ((qR g).emb x) (by
    show 8 * ((512 * g.val + 1 * (x 0).val) / 256) + (0 + 1 * (x 1).val) / 128 < n
    have : (x 0).val < 512 := (x 0).isLt
    have : (x 1).val < 1024 := (x 1).isLt
    omega)

theorem OutOK.wo {js : Fin 4 → ℕ} {c : Dev nD} {f : (cc0_stg3_0 : Ref sig .tc).ty.Contents (Elt F)} (hf : OutOK m js c f) (g : Fin 2) :
    OutOK m (fun h => if h.val / 2 = g.val then 1 else js h) c ((oM.access (qR g) : View sig .tc _ _ _).write (Elt F) f
      (k0_pay30 (aM.view.readAt (Elt F) (qR g).toLoadRect (AV m c)) (wov m c)) Finset.univ) := by
  intro h j hj i hi
  have i1 : (i 1).val < 1024 := (i 1).isLt
  by_cases hg : h.val / 2 = g.val
  · have hj' : (if h.val / 2 = g.val then 1 else js h) = j + 1 := hj
    rw [if_pos hg] at hj'
    obtain rfl : j = 0 := by omega
    have hm : i ∈ (qR g).set := Rect.mem_set_unit.mpr fun a => by
      match a with
      | ⟨0, _⟩ => exact ⟨by show 512 * g.val ≤ (i 0).val; omega, by show (i 0).val < 512 * g.val + 512; omega⟩
      | ⟨1, _⟩ => exact ⟨Nat.zero_le _, by show (i 1).val < 0 + 1024; omega⟩
    obtain ⟨x, hx⟩ := exists_pos _ hm
    have h0 : (i 0).val = 512 * g.val + 1 * (x 0).val := by rw [← hx]; rfl
    have h1 : (i 1).val = 0 + 1 * (x 1).val := by rw [← hx]; rfl
    have hx0 : (x 0).val < 512 := (x 0).isLt
    refine (congrArg _ hx.symm).trans ((write_hit cc0_stg3_0 (qR g) f _ x).trans ?_)
    show _ = OV m c i
    unfold OV
    have e1 : gr5 (i 0) = g := Fin.ext (by show (i 0).val / 512 = _; omega)
    have e2 : ix2 (n0 := 512) (n1 := 1024) (rw5 (i 0)) (i 1) = x := by
      funext a; match a with
      | ⟨0, _⟩ => exact Fin.ext (by show (i 0).val % 512 = (x 0).val; omega)
      | ⟨1, _⟩ => exact Fin.ext (by show (i 1).val = (x 1).val; omega)
    rw [e1, e2]
  · have hj' : (if h.val / 2 = g.val then 1 else js h) = j + 1 := hj
    rw [if_neg hg] at hj'
    refine (write_miss cc0_stg3_0 (qR g) f _ i ?_).trans (hf h j hj' i hi)
    intro hm
    have := Rect.mem_set_unit.mp hm (0 : Fin 2)
    have a1 : 512 * g.val ≤ (i 0).val := this.1
    have a2 : (i 0).val < 512 * g.val + 512 := this.2
    omega

theorem mem_doR {k : Fin 32} {c : Dev nD} {i : S1024x1024.Idx} (hm : i ∈ (doR k c).set) : (i 0).val / 256 = (ch k).val := by
  have := Rect.mem_set_unit.mp hm (0 : Fin 2)
  have a1 : (X k).doff c 0 ≤ (i 0).val := this.1
  have a2 : (i 0).val < (X k).doff c 0 + (X k).n := this.2
  have := doff_row k c
  omega
theorem mem_soR {k : Fin 32} {c : Dev nD} {i : S1024x1024.Idx} (hm : i ∈ (soR k c).set) : (i 0).val / 256 = (ch k).val := by
  have := Rect.mem_set_unit.mp hm (0 : Fin 2)
  have a1 : (X k).soff c 0 ≤ (i 0).val := this.1
  have a2 : (i 0).val < (X k).soff c 0 + (X k).n := this.2
  have := soff_row k c
  omega
theorem emb_mem {s : Shape} (r : Rect s) (x : r.shape.Idx) : r.emb x ∈ r.set := by
  rw [← Rect.map_emb_univ]; exact Finset.mem_map_of_mem _ (Finset.mem_univ x)

theorem OutOK.readS {js : Fin 4 → ℕ} {c : Dev nD} {f : (cc0_stg3_0 : Ref sig .tc).ty.Contents (Elt F)} (hf : OutOK m js c f) (k : Fin 32) (hk : js (ch k) = stage k + 1) :
    oM.view.readAt (Elt F) (soR k c).toLoadRect f = oM.view.readAt (Elt F) (soR k c).toLoadRect (OO m (ch k) (stage k) c) :=
  funext fun x => hf (ch k) (stage k) hk ((soR k c).emb x) (mem_soR (emb_mem _ x))
theorem OutOK.readD {js : Fin 4 → ℕ} {c : Dev nD} {f : (cc0_stg3_0 : Ref sig .tc).ty.Contents (Elt F)} (hf : OutOK m js c f) (k : Fin 32) (hk : js (ch k) = stage k + 1) :
    oM.view.readAt (Elt F) (doR k c).toLoadRect f = oM.view.readAt (Elt F) (doR k c).toLoadRect (OO m (ch k) (stage k) c) :=
  funext fun x => hf (ch k) (stage k) hk ((doR k c).emb x) (mem_doR (emb_mem _ x))

theorem OutOK.fin {js : Fin 4 → ℕ} {c : Dev nD} {f : (cc0_stg3_0 : Ref sig .tc).ty.Contents (Elt F)} (hf : OutOK m js c f) (k : Fin 32) (hk : js (ch k) = stage k + 1) :
    OutOK m (fun h => if h = ch k then stage k + 2 else js h) c ((oM.access (doR k c) : View sig .tc _ _ _).write (Elt F) f
      (newV k (oM.view.readAt (Elt F) (doR k c).toLoadRect (OO m (ch k) (stage k) c)) (sent m k (peer k c))) Finset.univ) := by
  intro h j hj i hi
  have hj' : (if h = ch k then stage k + 2 else js h) = j + 1 := hj
  by_cases hh : h = ch k
  · subst hh
    rw [if_pos rfl] at hj'
    obtain rfl : j = stage k + 1 := by omega
    rw [OO_succ]
    unfold stepO
    by_cases hm : i ∈ (doR k c).set
    · obtain ⟨x, hx⟩ := exists_pos _ hm
      refine (congrArg _ hx.symm).trans ((write_hit cc0_stg3_0 (doR k c) f _ x).trans ?_)
      exact ((congrArg _ hx.symm).trans (write_hit cc0_stg3_0 (doR k c) _ _ x)).symm
    · exact (write_miss cc0_stg3_0 (doR k c) f _ i hm).trans ((hf (ch k) (stage k) hk i hi).trans
        (write_miss cc0_stg3_0 (doR k c) _ _ i hm).symm)
  · rw [if_neg hh] at hj'
    refine (write_miss cc0_stg3_0 (doR k c) f _ i ?_).trans (hf h j hj' i hi)
    intro hm
    exact hh (Fin.ext (hi.symm.trans (mem_doR hm)))

end Cert.Attn

end
-- ==== Proof.Schedule.lean ====
/-
  The protocol.  Every device has two semaphore cells for its copies from the weights, one cell per transfer on the sending and on
  the receiving side, and the barrier cell.  Each cell is used for one round.  The barrier round of a device has four duties, one per
  neighbour: the neighbour hands over the slots of its own receive buffers that this device will write.  A receiving round hands over
  the slot holding what the sender carried; a sending round hands back the rows of the send buffer.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Tactic

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The kernel's own semaphores: two for local copies, 32 for sends, 32 for receives; -/
abbrev OK : Type := Fin 2 ⊕ (Fin 32 ⊕ Fin 32)
/-- and the barrier. -/
abbrev CK : Type := OK ⊕ Unit

def osem : OK → SemLoc sig
  | .inl i => .dma (locS i)
  | .inr (.inl k) => .dma (sendS k)
  | .inr (.inr k) => .dma (recvS k)
def csem : CK → SemLoc sig
  | .inl o => osem o
  | .inr _ => .reg barS

/-- Which cell a semaphore is. -/
def kindOf : SemLoc sig → Option CK
  | .reg s => if s = barS then some (.inr ()) else none
  | .dma q => if h : 38 ≤ q.val ∧ q.val < 70 then some (.inl (.inr (.inr ⟨q.val - 38, by omega⟩)))
      else if h : 6 ≤ q.val ∧ q.val < 38 then some (.inl (.inr (.inl ⟨q.val - 6, by omega⟩)))
      else if h : 4 ≤ q.val ∧ q.val < 6 then some (.inl (.inl ⟨q.val - 4, by omega⟩))
      else none

theorem kind_loc : ∀ i : Fin 2, kindOf (.dma (locS i)) = some (.inl (.inl i)) := by decide +kernel
theorem kind_send : ∀ k : Fin 32, kindOf (.dma (sendS k)) = some (.inl (.inr (.inl k))) := by decide +kernel
theorem kind_recv : ∀ k : Fin 32, kindOf (.dma (recvS k)) = some (.inl (.inr (.inr k))) := by decide +kernel
theorem kind_bar : kindOf (.reg barS) = some (.inr ()) := by unfold kindOf; exact if_pos rfl
theorem kind_csem (ck : CK) : kindOf (csem ck) = some ck := by
  rcases ck with (i | k | k) | u
  · exact kind_loc i
  · exact kind_send k
  · exact kind_recv k
  · exact kind_bar

abbrev kcell (x : Dev nD × CK) : GSem nD τ sig := ((x.1 : Thread nD τ), csem x.2)
abbrev barCell (c : Dev nD) : GSem nD τ sig := ((c : Thread nD τ), .reg barS)
abbrev sendCell (k : Fin 32) (c : Dev nD) : GSem nD τ sig := ((c : Thread nD τ), .dma (sendS k))
abbrev recvCell (k : Fin 32) (c : Dev nD) : GSem nD τ sig := ((c : Thread nD τ), .dma (recvS k))
abbrev locCell (i : Fin 2) (c : Dev nD) : GSem nD τ sig := ((c : Thread nD τ), .dma (locS i))

theorem kcell_injective : Function.Injective kcell := by
  rintro ⟨c, k⟩ ⟨c', k'⟩ h
  have h1 : c = c' := congrArg (fun g : GSem nD τ sig => g.1.1) h
  have h2 : csem k = csem k' := congrArg Prod.snd h
  have h3 := congrArg kindOf h2
  rw [kind_csem, kind_csem] at h3
  rw [h1, Option.some.inj h3]

/-! ## What the cells hand over -/

variable (m : (ℓ : Loc nD τ sig) → Buf (Elt F) ℓ)

/-- The slot of transfer `k` on device `c`, holding `f`; -/
def slotAt (k : Fin 32) (c : Dev nD) (f : Buf (Elt F) ((slV k).view.loc (c : Thread nD τ))) : sProp 𝕄 :=
  (slV k).view.loc (c : Thread nD τ) ↦[(slV k).view.set]{fullShare} f
/-- its rows of the send buffer. -/
def sbAt (k : Fin 32) (c : Dev nD) (f : Buf (Elt F) ((sbV k).view.loc (c : Thread nD τ))) : sProp 𝕄 :=
  (sbV k).view.loc (c : Thread nD τ) ↦[(sbV k).view.set]{fullShare} f

def slotEx (k : Fin 32) (c : Dev nD) : sProp 𝕄 := iprop(∃ f, slotAt (F := F) k c f)
def sbEx (k : Fin 32) (c : Dev nD) : sProp 𝕄 := iprop(∃ f, sbAt (F := F) k c f)

def hkPts (c : Dev nD) : sProp 𝕄 :=
  (hkV c).view.loc (c : Thread nD τ) ↦[(hkV c).view.set]{fullShare} m ((c : Thread nD τ).loc main_arg3)
def hvPts (c : Dev nD) : sProp 𝕄 :=
  (hvV c).view.loc (c : Thread nD τ) ↦[(hvV c).view.set]{fullShare} m ((c : Thread nD τ).loc main_arg4)
def wkPts (c : Dev nD) (f : Buf (Elt F) (wkM.view.loc (c : Thread nD τ))) : sProp 𝕄 :=
  wkM.view.loc (c : Thread nD τ) ↦[wkM.view.set]{fullShare} f
def wvPts (c : Dev nD) (f : Buf (Elt F) (wvM.view.loc (c : Thread nD τ))) : sProp 𝕄 :=
  wvM.view.loc (c : Thread nD τ) ↦[wvM.view.set]{fullShare} f

def locPay (i : Fin 2) (c : Dev nD) : sProp 𝕄 :=
  match i with
  | 0 => iprop(wkPts c (wkC m c) ∗ hkPts m c)
  | 1 => iprop(wvPts c (wvC m c) ∗ hvPts m c)
def recvGets (k : Fin 32) (c : Dev nD) : sProp 𝕄 :=
  iprop(∃ f, ⌜(slV k).view.read (Elt F) f = sent m k (peer k c)⌝ ∗ slotAt (F := F) k c f)
def barPay (d : Fin 4) (c : Dev nD) : sProp 𝕄 :=
  bigSep (Finset.univ.filter fun k : Fin 32 => dir k = d) fun k => slotEx (F := F) k (bdev c d)

instance slotAt_storable (k : Fin 32) (c : Dev nD) (f) : BI.Storable (upEmb : UEmb _ 𝕄) (slotAt (F := F) k c f) := by unfold slotAt; infer_instance
instance sbAt_storable (k : Fin 32) (c : Dev nD) (f) : BI.Storable (upEmb : UEmb _ 𝕄) (sbAt (F := F) k c f) := by unfold sbAt; infer_instance
instance slotEx_storable (k : Fin 32) (c : Dev nD) : BI.Storable (upEmb : UEmb _ 𝕄) (slotEx (F := F) k c) := by unfold slotEx; infer_instance
instance sbEx_storable (k : Fin 32) (c : Dev nD) : BI.Storable (upEmb : UEmb _ 𝕄) (sbEx (F := F) k c) := by unfold sbEx; infer_instance
instance locPay_storable (i : Fin 2) (c : Dev nD) : BI.Storable (upEmb : UEmb _ 𝕄) (locPay (F := F) m i c) := by
  unfold locPay wkPts wvPts hkPts hvPts; split <;> infer_instance
instance recvGets_storable (k : Fin 32) (c : Dev nD) : BI.Storable (upEmb : UEmb _ 𝕄) (recvGets (F := F) m k c) := by unfold recvGets; infer_instance
instance barPay_storable (d : Fin 4) (c : Dev nD) : BI.Storable (upEmb : UEmb _ 𝕄) (barPay (F := F) d c) := by unfold barPay; infer_instance

/-- The credit of one transfer. -/
def crd (k : Fin 32) : ℕ := (slV k).view.dmaCredit
def lcrd (i : Fin 2) : ℕ := match i with | 0 => wkM.view.dmaCredit | 1 => wvM.view.dmaCredit

theorem crd_pos (k : Fin 32) : 0 < crd k := View.dmaCredit_pos _ (X_ok k).hn
theorem lcrd_pos (i : Fin 2) : 0 < lcrd i := by
  unfold lcrd; split
  · exact View.dmaCredit_pos _ (by decide)
  · exact View.dmaCredit_pos _ (by decide)

def dutiesK : CK → Finset (Fin 4)
  | .inr _ => Finset.univ
  | .inl _ => {0}
def amountK : CK → ℕ
  | .inl (.inl i) => lcrd i
  | .inl (.inr (.inl k)) => crd k
  | .inl (.inr (.inr k)) => crd k
  | .inr _ => 1
def payK (c : Dev nD) (d : Fin 4) : CK → sProp 𝕄
  | .inl (.inl i) => locPay m i c
  | .inl (.inr (.inl k)) => sbEx k c
  | .inl (.inr (.inr k)) => recvGets m k c
  | .inr _ => barPay d c

theorem amountK_pos (ck : CK) : 0 < amountK ck := by
  rcases ck with (i | k | k) | u
  · exact lcrd_pos i
  · exact crd_pos k
  · exact crd_pos k
  · exact Nat.one_pos

instance payK_storable (c : Dev nD) (d : Fin 4) (ck : CK) : BI.Storable (upEmb : UEmb _ 𝕄) (payK (F := F) m c d ck) := by
  rcases ck with (i | k | k) | u
  · exact locPay_storable m i c
  · exact sbEx_storable k c
  · exact recvGets_storable m k c
  · exact barPay_storable d c

def Rd : Rounds.Schedule (GSem nD τ sig) (Fin 4) 𝕄 where
  duties g r := if r = 0 ∧ g.1.2 = .tc then (match kindOf g.2 with | some ck => dutiesK ck | none => ∅) else ∅
  unitless _ := False
  amount g _ _ := match kindOf g.2 with | some ck => amountK ck | none => 1
  payload g _ d := match kindOf g.2 with | some ck => payK m g.1.1 d ck | none => iprop(emp)
  amount_pos g _ _ _ := by
    cases kindOf g.2 with
    | none => exact Nat.one_pos
    | some ck => exact amountK_pos ck

instance Rd_storable (g : GSem nD τ sig) (r : ℕ) (d : Fin 4) : BI.Storable (upEmb : UEmb _ 𝕄) ((Rd (F := F) m).payload g r d) := by
  show BI.Storable upEmb (match kindOf g.2 with | some ck => payK m g.1.1 d ck | none => iprop(emp))
  cases kindOf g.2 with
  | none => infer_instance
  | some ck => exact payK_storable m _ d ck

theorem duties_at (c : Dev nD) (ck : CK) (sm : SemLoc sig) (h : kindOf sm = some ck) : (Rd (F := F) m).duties ((c : Thread nD τ), sm) 0 = dutiesK ck := by
  dsimp only [Rd]; rw [if_pos ⟨rfl, rfl⟩, h]
theorem amount_at (c : Dev nD) (ck : CK) (sm : SemLoc sig) (h : kindOf sm = some ck) (d : Fin 4) : (Rd (F := F) m).amount ((c : Thread nD τ), sm) 0 d = amountK ck := by
  dsimp only [Rd]; rw [h]
theorem payload_at (c : Dev nD) (ck : CK) (sm : SemLoc sig) (h : kindOf sm = some ck) (d : Fin 4) : (Rd (F := F) m).payload ((c : Thread nD τ), sm) 0 d = payK m c d ck := by
  dsimp only [Rd]; rw [h]
theorem duties_later (g : GSem nD τ sig) : ∀ r, 1 ≤ r → (Rd (F := F) m).duties g r = ∅ :=
  fun r hr => by dsimp only [Rd]; rw [if_neg fun h => by omega]

theorem expect_one (c : Dev nD) (o : OK) : (Rd (F := F) m).expect ((c : Thread nD τ), osem o) 0 = amountK (.inl o) := by
  unfold Schedule.expect Schedule.amountOf
  rw [duties_at m c (.inl o) (osem o) (kind_csem (.inl o))]
  show Finset.sum {0} _ = _
  rw [Finset.sum_singleton, amount_at m c (.inl o) (osem o) (kind_csem (.inl o))]
theorem expect_bar (c : Dev nD) : (Rd (F := F) m).expect (barCell c) 0 = 4 := by
  unfold Schedule.expect Schedule.amountOf
  rw [duties_at m c (.inr ()) _ kind_bar, Finset.sum_congr rfl fun d _ => amount_at m c (.inr ()) _ kind_bar d]
  rfl
theorem rest_one (c : Dev nD) (o : OK) :
    bigSep ((Rd (F := F) m).duties ((c : Thread nD τ), osem o) 0 \ ∅) (fun d => (Rd (F := F) m).payload ((c : Thread nD τ), osem o) 0 d) = payK m c 0 (.inl o) := by
  rw [Finset.sdiff_empty, duties_at m c (.inl o) (osem o) (kind_csem (.inl o))]
  show bigSep {0} _ = _
  rw [bigSep_singleton, payload_at m c (.inl o) (osem o) (kind_csem (.inl o))]
theorem rest_bar (c : Dev nD) :
    bigSep ((Rd (F := F) m).duties (barCell c) 0 \ ∅) (fun d => (Rd (F := F) m).payload (barCell c) 0 d) = bigSep Finset.univ fun d : Fin 4 => barPay (F := F) d c := by
  rw [Finset.sdiff_empty, duties_at m c (.inr ()) _ kind_bar]
  exact bigSep_congr fun d _ => payload_at m c (.inr ()) _ kind_bar d

/-! ## What a device owes, and the levels -/

/-- The arrivals that device `c` owes for the transfers in `S`. -/
def owS (S : Finset (Fin 32)) (c : Dev nD) : CellTallies nD τ sig Unit := ∑ k ∈ S, tallyAt (recvCell k (peer k c)) () (crd k)
/-- The barrier units it owes its neighbours from the `d`-th on. -/
def owB (c : Dev nD) : CellTallies nD τ sig Unit :=
  tallyAt (barCell (bdev c 3)) () 1 + tallyAt (barCell (bdev c 2)) () 1 + tallyAt (barCell (bdev c 1)) () 1 + tallyAt (barCell (bdev c 0)) () 1
def O₀ (c : Dev nD) : CellTallies nD τ sig Unit := owS Finset.univ c + owB c

theorem owS_erase (S : Finset (Fin 32)) (k : Fin 32) (hk : k ∈ S) (c : Dev nD) :
    owS S c = owS (S.erase k) c + tallyAt (recvCell k (peer k c)) () (crd k) := by
  unfold owS; exact (Finset.sum_erase_add S _ hk).symm

def L (g : GSem nD τ sig) : Finset Unit := if g.1.2 = .tc then {()} else ∅
def lvK : CK → ℕ
  | .inl (.inr (.inr k)) => 2 + ord k
  | .inr _ => 1
  | _ => 0
/-- Barrier cells are at level 1, receiving cells above it in the order of the sends, everything else at 0. -/
def lv (g : GSem nD τ sig) (_ : Unit) : ℕ := match kindOf g.2 with | some ck => lvK ck | none => 0

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (ck : CK) (sm : SemLoc sig) (h : kindOf sm = some ck) (u : Unit) : lv ((c : Thread nD τ), sm) u = lvK ck := by
  unfold lv; rw [h]

theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

theorem owS_pos {S : Finset (Fin 32)} {c : Dev nD} {g : GSem nD τ sig} {u : Unit} (h : 0 < owS S c g u) : ∃ k ∈ S, g = recvCell k (peer k c) := by
  induction S using Finset.induction_on with
  | empty =>
    unfold owS at h; rw [Finset.sum_empty] at h
    exact absurd h (Nat.lt_irrefl 0)
  | insert a S ha ih =>
    unfold owS at h
    rw [Finset.sum_insert ha, Pi.add_apply, Finsupp.add_apply] at h
    by_cases h1 : 0 < (tallyAt (recvCell a (peer a c)) () (crd a) : CellTallies nD τ sig Unit) g u
    · exact ⟨a, Finset.mem_insert_self _ _, tally_pos h1⟩
    · obtain ⟨k, hk, e⟩ := ih (by unfold owS; omega)
      exact ⟨k, Finset.mem_insert_of_mem hk, e⟩

theorem owB_pos {c : Dev nD} {g : GSem nD τ sig} {u : Unit} (h : 0 < owB c g u) : ∃ d, g = barCell (bdev c d) := by
  unfold owB at h
  rw [Pi.add_apply, Finsupp.add_apply, Pi.add_apply, Finsupp.add_apply, Pi.add_apply, Finsupp.add_apply] at h
  by_contra hn
  rw [not_exists] at hn
  have z (d : Fin 4) : (tallyAt (barCell (bdev c d)) () 1 : CellTallies nD τ sig Unit) g u = 0 := by
    by_contra hz; exact hn d (tally_pos (Nat.pos_of_ne_zero hz))
  rw [z, z, z, z] at h
  exact Nat.lt_irrefl 0 h

/-- A wait at a cell below every level owed is allowed. -/
theorem mayWait_of (c : Dev nD) (sm : SemLoc sig) (n : ℕ) (hn : ∀ u, lv ((c : Thread nD τ), sm) u ≤ n) (O : CellTallies nD τ sig Unit)
    (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn _)
    (fun g u hg => (hO g u hg).2)

theorem owS_lv {S : Finset (Fin 32)} {c : Dev nD} {n : ℕ} (hS : ∀ k ∈ S, n < 2 + ord k) (g : GSem nD τ sig) (u : Unit) (h : 0 < owS S c g u) :
    g.1.2 = .tc ∧ n < lv g u := by
  obtain ⟨k, hk, rfl⟩ := owS_pos h
  exact ⟨rfl, by rw [lv_at (peer k c) _ _ (kind_recv k)]; exact hS k hk⟩

theorem O₀_lv {c : Dev nD} (g : GSem nD τ sig) (u : Unit) (h : 0 < O₀ c g u) : g.1.2 = .tc ∧ 0 < lv g u := by
  unfold O₀ at h
  rw [Pi.add_apply, Finsupp.add_apply] at h
  by_cases h1 : 0 < owS Finset.univ c g u
  · exact owS_lv (fun k _ => by omega) g u h1
  · obtain ⟨d, rfl⟩ := owB_pos (c := c) (g := g) (u := u) (by omega)
    exact ⟨rfl, by rw [lv_at (bdev c d) _ _ kind_bar]; exact Nat.one_pos⟩

end Cert.Attn

end
-- ==== Proof.Inv.lean ====
/-
  What a device holds between two actions, and the actions that only compute.
-/
module

public import proofs.«01_k».proof.Proof.Schedule

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- How far a device has come: groups projected, heads done, stages done (plus one) by each quarter of the output, whether the
    barrier is behind it, how far each send is (0 not sent, 1 under way, 2 waited for), and which receives are done. -/
structure St where
  nq : ℕ
  na : ℕ
  js : Fin 4 → ℕ
  bar : Bool
  s : Fin 32 → ℕ
  r : Fin 32 → Bool

def St.step (t : St) : Act → St
  | .qkv g => { t with nq := g.val + 1 }
  | .attn b h => { t with na := 8 * b.val + h.val + 1 }
  | .wo g => { t with js := fun h => if h.val / 2 = g.val then 1 else t.js h }
  | .barrier => { t with bar := true }
  | .send k => { t with s := fun l => if l = k then 1 else t.s l }
  | .fin k => { t with js := (fun h => if h = ch k then stage k + 2 else t.js h), r := fun l => if l = k then true else t.r l }
  | .waitS k => { t with s := fun l => if l = k then 2 else t.s l }

/-- When an action may run. -/
def St.ok (t : St) : Act → Prop
  | .qkv g => t.nq = g.val
  | .attn b h => t.na = 8 * b.val + h.val ∧ b.val / 2 < t.nq
  | .wo g => 16 * (g.val + 1) ≤ t.na
  | .barrier => t.bar = false ∧ ∀ k, t.s k = 0
  | .send k => t.bar = true ∧ t.s k = 0 ∧ t.js (ch k) = stage k + 1
  | .fin k => t.bar = true ∧ t.r k = false ∧ t.js (ch k) = stage k + 1 ∧ ∀ l, t.s l = 0 → ord k < ord l
  | .waitS k => t.bar = true ∧ t.s k = 1

instance (t : St) (a : Act) : Decidable (t.ok a) := by cases a <;> unfold St.ok <;> infer_instance

def St.run (t : St) : List Act → St
  | [] => t
  | a :: l => (t.step a).run l
def St.okL (t : St) : List Act → Prop
  | [] => True
  | a :: l => t.ok a ∧ (t.step a).okL l
def St.okB (t : St) : List Act → Bool
  | [] => true
  | a :: l => decide (t.ok a) && (t.step a).okB l
theorem St.okB_okL (l : List Act) : ∀ t : St, t.okB l = true → t.okL l := by
  induction l with
  | nil => exact fun _ _ => trivial
  | cons a l ih =>
    intro t h
    unfold St.okB at h
    rw [Bool.and_eq_true] at h
    exact ⟨of_decide_eq_true h.1, ih _ h.2⟩

def st₀ : St := ⟨0, 0, fun _ => 0, false, fun _ => 0, fun _ => false⟩

theorem acts_ok : st₀.okL acts := St.okB_okL _ _ (by decide +kernel)
theorem end_bar : (st₀.run acts).bar = true := by decide +kernel
theorem end_js : ∀ h, (st₀.run acts).js h = 9 := by decide +kernel
theorem end_s : ∀ k, (st₀.run acts).s k = 2 := by decide +kernel
theorem end_r : ∀ k, (st₀.run acts).r k = true := by decide +kernel

variable (m : (ℓ : Loc nD τ sig) → Buf (Elt F) ℓ) (K : Dev nD × CK → ℕ)

/-! ## What a device holds -/

/-- A whole buffer, and what is known of it. -/
def part (b : Ref sig .tc) (c : Dev nD) (P : b.ty.Contents (Elt F) → Prop) : sProp 𝕄 :=
  iprop(∃ f : Buf (Elt F) ((c : Thread nD τ).loc b), ⌜P f⌝ ∗ ((c : Thread nD τ).loc b ↦{fullShare} f))

def sndR (k : Fin 32) (c : Dev nD) (bar : Bool) : ℕ → sProp 𝕄
  | 0 => iprop(dutyTok ER (sendCell k c) 0 0 ∗ dutyTok ER (recvCell k (peer k c)) 0 0 ∗ sbEx k c ∗ atPos ER (sendCell k c) 0 ∅ 0
      ∗ (match bar with | true => slotEx k (peer k c) | false => iprop(emp)))
  | 1 => iprop(cred (tallyAt (sendCell k c) () (crd k)) ∗ atPos ER (sendCell k c) 0 ∅ 0)
  | _ => iprop(atPos ER (sendCell k c) 1 ∅ 0 ∗ sbEx k c)
def rcvR (k : Fin 32) (c : Dev nD) : Bool → sProp 𝕄
  | false => iprop(cred (tallyAt (recvCell k c) () (crd k)) ∗ atPos ER (recvCell k c) 0 ∅ 0)
  | true => iprop(atPos ER (recvCell k c) 1 ∅ 0 ∗ slotEx k c)
def barR (c : Dev nD) : Bool → sProp 𝕄
  | false => iprop(atPos ER (barCell c) 0 ∅ 0 ∗ cred (tallyAt (barCell c) () 4)
      ∗ (dutyTok ER (barCell (bdev c 0)) 0 0 ∗ dutyTok ER (barCell (bdev c 1)) 0 1 ∗ dutyTok ER (barCell (bdev c 2)) 0 2 ∗ dutyTok ER (barCell (bdev c 3)) 0 3)
      ∗ (barPay 0 (bdev c 0) ∗ barPay 1 (bdev c 1) ∗ barPay 2 (bdev c 2) ∗ barPay 3 (bdev c 3)))
  | true => atPos ER (barCell c) 1 ∅ 0
def unsent (t : St) : Finset (Fin 32) := Finset.univ.filter fun k => t.s k = 0
def owedB (c : Dev nD) : Bool → CellTallies nD τ sig Unit
  | false => owB c
  | true => 0
def owR (c : Dev nD) (t : St) : sProp 𝕄 := iprop(∃ W, owes (c : Thread nD τ) (owS (unsent t) c + owedB c t.bar) W)

/-- The standing facts: the cells' invariants, that each is past the start of its round, and the levels. -/
def records : sProp 𝕄 :=
  iprop((bigSep Finset.univ fun ck : Dev nD × CK => cellInv ER (Rd m) (K ck) (kcell ck))
    ∗ bigSep Finset.univ fun ck : Dev nD × CK => reached ER (kcell ck) 0)
def pers : sProp 𝕄 := iprop(records m K ∗ levAts L lv)

instance records_persistent : BI.Persistent (records m K) := by unfold records; infer_instance
instance pers_persistent : BI.Persistent (pers m K) := by unfold pers; infer_instance

theorem inv_at (ck : Dev nD × CK) : pers m K ⊢ cellInv ER (Rd m) (K ck) (kcell ck) := by
  unfold pers records
  iintro ⟨⟨H, -⟩, -⟩
  iapply (show (bigSep Finset.univ fun ck : Dev nD × CK => (cellInv ER (Rd m) (K ck) (kcell ck) : sProp 𝕄)) ⊢ cellInv ER (Rd m) (K ck) (kcell ck) from
    bigSep_elim (Finset.mem_univ ck))
  iexact H
theorem reached_at (ck : Dev nD × CK) : pers m K ⊢ reached ER (kcell ck) 0 := by
  unfold pers records
  iintro ⟨⟨-, H⟩, -⟩
  iapply (show (bigSep Finset.univ fun ck : Dev nD × CK => (reached ER (kcell ck) 0 : sProp 𝕄)) ⊢ reached ER (kcell ck) 0 from
    bigSep_elim (Finset.mem_univ ck))
  iexact H
theorem pers_lev : pers m K ⊢ levAts L lv := by
  unfold pers; iintro ⟨-, H⟩; iexact H

def wqPts (c : Dev nD) : sProp 𝕄 := (c : Thread nD τ).loc cc0_stg1_0 ↦{fullShare} wqB m c
def woPts (c : Dev nD) : sProp 𝕄 := (c : Thread nD τ).loc cc0_stg2_0 ↦{fullShare} woB m c

/-- Everything the actions use. -/
def inv (c : Dev nD) (t : St) : sProp 𝕄 :=
  iprop((wqPts m c ∗ woPts m c ∗ wkPts c (wkC m c) ∗ wvPts c (wvC m c))
    ∗ (part cc0_scratch2 c (QOK m t.nq c) ∗ part cc0_scratch3 c (KOK m t.nq c) ∗ part cc0_scratch4 c (VOK m t.nq c))
    ∗ part cc0_scratch5 c (AOK m t.na c) ∗ part cc0_stg3_0 c (OutOK m t.js c)
    ∗ owR c t ∗ barR c t.bar
    ∗ (bigSep Finset.univ fun k : Fin 32 => sndR k c t.bar (t.s k))
    ∗ (bigSep Finset.univ fun k : Fin 32 => rcvR k c (t.r k)))

/-- Running `p` on device `c` from `P` leaves `Q`. -/
abbrev runs (c : Dev nD) (p : PG F) (P Q : sProp 𝕄) : Prop :=
  P ⊢ wp frame (wpE (defs₀ (F := F)) 𝒱₀ (c : Thread nD τ) none) Set.univ p (fun _ => Q)

/-! ## The actions that compute -/

theorem run_qkv (c : Dev nD) (t : St) (g : Fin 2) (h : t.ok (.qkv g)) :
    runs c (qkvP (xval m c) g) (inv m c t) (inv m c (t.step (.qkv g))) := by
  have h' : t.nq = g.val := h
  unfold inv qkvP
  simp only [Prog.lift, Prog.bind_op, Prog.bind_ret, Prog.pure_eq_ret]
  unfold part wqPts wkPts wvPts
  iintro ⟨⟨Hwq, Hwo, Hwk, Hwv⟩, ⟨⟨%fq, %hq, Hq⟩, ⟨%fk, %hk, Hk⟩, ⟨%fv, %hv, Hv⟩⟩, Hrest⟩
  iapply (wp_load 𝒱₀ (c : Thread nD τ) none Set.univ (m := wqM) (Finset.subset_univ _)) $$ Hwq; iintro Hwq
  iapply (wp_load 𝒱₀ (c : Thread nD τ) none Set.univ (m := qM) (Finset.subset_univ _)) $$ Hq; iintro Hq
  iapply (wp_store 𝒱₀ (c : Thread nD τ) none Set.univ (m := qM) (r := qR g) (Mk := Finset.univ) (Finset.subset_univ _)) $$ Hq; iintro Hq
  iapply (wp_load 𝒱₀ (c : Thread nD τ) none Set.univ (m := wkM) (by rw [View.set_whole]; exact Finset.subset_univ _)) $$ Hwk; iintro Hwk
  iapply (wp_load 𝒱₀ (c : Thread nD τ) none Set.univ (m := kM) (Finset.subset_univ _)) $$ Hk; iintro Hk
  iapply (wp_store 𝒱₀ (c : Thread nD τ) none Set.univ (m := kM) (r := kvR g) (Mk := Finset.univ) (Finset.subset_univ _)) $$ Hk; iintro Hk
  iapply (wp_load 𝒱₀ (c : Thread nD τ) none Set.univ (m := wvM) (by rw [View.set_whole]; exact Finset.subset_univ _)) $$ Hwv; iintro Hwv
  iapply (wp_load 𝒱₀ (c : Thread nD τ) none Set.univ (m := vM) (Finset.subset_univ _)) $$ Hv; iintro Hv
  iapply (wp_store 𝒱₀ (c : Thread nD τ) none Set.univ (m := vM) (r := kvR g) (Mk := Finset.univ) (Finset.subset_univ _)) $$ Hv; iintro Hv
  rw [wp_ret]; imodintro
  rw [h'] at hq hk hv
  isplitl [Hwq Hwo Hwk Hwv]
  · isplitl [Hwq]; · iexact Hwq
    isplitl [Hwo]; · iexact Hwo
    isplitl [Hwk]; · iexact Hwk
    iexact Hwv
  isplitl [Hq Hk Hv]
  · isplitl [Hq]
    · iexists _; isplitr; · ipureintro; exact hq.step
      iexact Hq
    isplitl [Hk]
    · iexists _; isplitr; · ipureintro; exact hk.step
      iexact Hk
    · iexists _; isplitr; · ipureintro; exact hv.step
      iexact Hv
  iexact Hrest

theorem run_attn (c : Dev nD) (t : St) (b : Fin 4) (h : Fin 8) (hok : t.ok (.attn b h)) :
    runs c (attnP b h) (inv m c t) (inv m c (t.step (.attn b h))) := by
  obtain ⟨h1, h2⟩ : t.na = 8 * b.val + h.val ∧ b.val / 2 < t.nq := hok
  unfold inv attnP
  simp only [Prog.lift, Prog.bind_op, Prog.bind_ret, Prog.pure_eq_ret]
  unfold part
  iintro ⟨Hw, ⟨⟨%fq, %hq, Hq⟩, ⟨%fk, %hk, Hk⟩, ⟨%fv, %hv, Hv⟩⟩, ⟨%fa, %ha, Ha⟩, Hrest⟩
  iapply (wp_load 𝒱₀ (c : Thread nD τ) none Set.univ (m := qM) (Finset.subset_univ _)) $$ Hq; iintro Hq
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := aM) (Finset.subset_univ _)) $$ Ha; iintro Ha
  iapply (wp_store 𝒱₀ (c : Thread nD τ) none Set.univ (m := aM) (r := ahR b h) (Mk := Finset.univ) (Finset.subset_univ _)) $$ Ha; iintro Ha
  rw [hq.read b h h2, hk.read b h h2, hv.read b h h2]
  rw [wp_ret]; imodintro
  rw [h1] at ha
  isplitl [Hw]; · iexact Hw
  isplitl [Hq Hk Hv]
  · isplitl [Hq]
    · iexists _; isplitr; · ipureintro; exact hq
      iexact Hq
    isplitl [Hk]
    · iexists _; isplitr; · ipureintro; exact hk
      iexact Hk
    · iexists _; isplitr; · ipureintro; exact hv
      iexact Hv
  isplitl [Ha]
  · iexists _; isplitr; · ipureintro; exact ha.step
    iexact Ha
  iexact Hrest

theorem run_wo (c : Dev nD) (t : St) (g : Fin 2) (hok : t.ok (.wo g)) :
    runs c (woP g) (inv m c t) (inv m c (t.step (.wo g))) := by
  have h1 : 16 * (g.val + 1) ≤ t.na := hok
  unfold inv woP
  simp only [Prog.lift, Prog.bind_op, Prog.bind_ret, Prog.pure_eq_ret]
  unfold part woPts
  iintro ⟨⟨Hwq, Hwo, Hwkv⟩, Hqkv, ⟨%fa, %ha, Ha⟩, ⟨%fo, %ho, Ho⟩, Hrest⟩
  iapply (wp_load 𝒱₀ (c : Thread nD τ) none Set.univ (m := aM) (Finset.subset_univ _)) $$ Ha; iintro Ha
  iapply (wp_load 𝒱₀ (c : Thread nD τ) none Set.univ (m := woM) (Finset.subset_univ _)) $$ Hwo; iintro Hwo
  iapply (wp_load 𝒱₀ (c : Thread nD τ) none Set.univ (m := oM) (Finset.subset_univ _)) $$ Ho; iintro Ho
  iapply (wp_store 𝒱₀ (c : Thread nD τ) none Set.univ (m := oM) (r := qR g) (Mk := Finset.univ) (Finset.subset_univ _)) $$ Ho; iintro Ho
  rw [ha.read g h1]
  rw [wp_ret]; imodintro
  isplitl [Hwq Hwo Hwkv]
  · isplitl [Hwq]; · iexact Hwq
    isplitl [Hwo]; · iexact Hwo
    iexact Hwkv
  isplitl [Hqkv]; · iexact Hqkv
  isplitl [Ha]
  · iexists _; isplitr; · ipureintro; exact ha
    iexact Ha
  isplitl [Ho]
  · iexists _; isplitr; · ipureintro; exact ho.wo g
    iexact Ho
  iexact Hrest

end Cert.Attn

end
-- ==== Proof.Steps.lean ====
/-
  The actions that talk to other devices: the barrier, a send, a receive, and the wait for a send.
-/
module

public import proofs.«01_k».proof.Proof.Inv

@[expose] public section

set_option maxRecDepth 10000

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CK → ℕ)

/-- Change one entry of a family. -/
theorem upd (Φ Ψ : Fin 32 → sProp 𝕄) (k : Fin 32) (h : ∀ l, l ≠ k → Φ l = Ψ l) :
    bigSep Finset.univ Φ ⊢ iprop(Φ k ∗ (Ψ k -∗ bigSep Finset.univ Ψ)) := by
  rw [bigSep_univ_at Φ k, bigSep_univ_at Ψ k, bigSep_congr (s := Finset.univ.erase k) (fun l hl => h l (Finset.ne_of_mem_erase hl))]
  iintro ⟨H1, H2⟩
  isplitl [H1]; · iexact H1
  iintro H3
  isplitl [H3]; · iexact H3
  iexact H2

theorem snd_zero (k : Fin 32) (c : Dev nD) : sndR (F := F) k c true 0 = iprop(dutyTok ER (sendCell k c) 0 0 ∗ dutyTok ER (recvCell k (peer k c)) 0 0
    ∗ sbEx k c ∗ atPos ER (sendCell k c) 0 ∅ 0 ∗ slotEx k (peer k c)) := rfl
theorem snd_zero' (k : Fin 32) (c : Dev nD) : sndR (F := F) k c false 0 = iprop(dutyTok ER (sendCell k c) 0 0 ∗ dutyTok ER (recvCell k (peer k c)) 0 0
    ∗ sbEx k c ∗ atPos ER (sendCell k c) 0 ∅ 0 ∗ emp) := rfl
theorem snd_two (k : Fin 32) (c : Dev nD) (b : Bool) : sndR (F := F) k c b 2 = iprop(atPos ER (sendCell k c) 1 ∅ 0 ∗ sbEx k c) := rfl
theorem snd_one (k : Fin 32) (c : Dev nD) (b : Bool) : sndR (F := F) k c b 1 = iprop(cred (tallyAt (sendCell k c) () (crd k)) ∗ atPos ER (sendCell k c) 0 ∅ 0) := rfl

theorem snd_open (c : Dev nD) : (bigSep Finset.univ fun k : Fin 32 => iprop(sndR (F := F) k c false 0 ∗ slotEx (F := F) k (peer k c)))
    ⊢ bigSep Finset.univ fun k : Fin 32 => sndR (F := F) k c true 0 :=
  bigSep_mono fun k _ => by
    show iprop(sndR (F := F) k c false 0 ∗ slotEx (F := F) k (peer k c)) ⊢ sndR (F := F) k c true 0
    rw [snd_zero, snd_zero']
    iintro ⟨⟨H1, H2, H3, H4, -⟩, H5⟩
    isplitl [H1]; · iexact H1
    isplitl [H2]; · iexact H2
    isplitl [H3]; · iexact H3
    isplitl [H4]; · iexact H4
    iexact H5

theorem image_dir : (Finset.univ.image dir : Finset (Fin 4)) = Finset.univ := by decide +kernel

/-- The slots that the four neighbours hand over are the ones this device will write. -/
theorem bar_slots (c : Dev nD) :
    (bigSep Finset.univ fun d : Fin 4 => barPay (F := F) d c) = bigSep Finset.univ fun k : Fin 32 => slotEx (F := F) k (peer k c) := by
  rw [bigSep_fiberwise Finset.univ dir (fun k : Fin 32 => slotEx (F := F) k (peer k c)), image_dir]
  refine bigSep_congr fun d _ => ?_
  unfold barPay
  refine bigSep_congr fun k hk => ?_
  rw [peer_eq, (Finset.mem_filter.mp hk).2]

theorem unsent_all (t : St) (h : ∀ k, t.s k = 0) : unsent t = Finset.univ := Finset.filter_true_of_mem fun k _ => h k

theorem payload_bar (c : Dev nD) (d : Fin 4) : (Rd (F := F) m).payload (barCell c) 0 d = barPay d c := payload_at m c (.inr ()) _ kind_bar d
theorem payload_send (k : Fin 32) (c : Dev nD) : (Rd (F := F) m).payload (sendCell k c) 0 0 = sbEx k c := payload_at m c _ _ (kind_send k) 0
theorem payload_recv (k : Fin 32) (c : Dev nD) : (Rd (F := F) m).payload (recvCell k c) 0 0 = recvGets m k c := payload_at m c _ _ (kind_recv k) 0
theorem rest_send (k : Fin 32) (c : Dev nD) :
    bigSep ((Rd (F := F) m).duties (sendCell k c) 0 \ ∅) (fun d => (Rd (F := F) m).payload (sendCell k c) 0 d) = sbEx k c := rest_one m c (.inr (.inl k))
theorem rest_recv (k : Fin 32) (c : Dev nD) :
    bigSep ((Rd (F := F) m).duties (recvCell k c) 0 \ ∅) (fun d => (Rd (F := F) m).payload (recvCell k c) 0 d) = recvGets m k c := rest_one m c (.inr (.inr k))

/-- Signalling a neighbour: the slots that it will write go along. -/
theorem wp_ready (c : Dev nD) (d : Fin 4) (O : CellTallies nD τ sig Unit) (W : Waits sig Unit) {α : Type} {Q : α → sProp 𝕄}
    {k : PUnit → Prog (TpuEff nD τ sig (Elt F) Λ₀ .tc) α} :
    iprop(pers m K ∗ owes (c : Thread nD τ) (O + tallyAt (barCell (bdev c d)) () 1) W ∗ dutyTok ER (barCell (bdev c d)) 0 d ∗ barPay d (bdev c d))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (bdev c d, .tc) barS (1#32).toInt) k) Q) := by
  iintro ⟨#HP, HO, Ht, Hp⟩
  iapply (Rounds.wp_signal 𝒱₀ ER (Rd m) (c : Thread nD τ) none (dst := (bdev c d : Thread nD τ)) (κ := K (bdev c d, .inr ())) (r := 0)
      (d := d) (by rw [duties_at m (bdev c d) _ _ kind_bar]; exact Finset.mem_univ _) ((amount_at m (bdev c d) _ _ kind_bar d).trans (by decide : (1 : ℕ) = 1)) ()
      (O₀ := O + tallyAt (barCell (bdev c d)) () 1) O rfl (W := W)) $$ [HO Ht Hp]
  · isplitr; · iapply (inv_at m K (bdev c d, .inr ())); iexact HP
    isplitl [HO]; · iexact HO
    isplitl [Ht]; · iexact Ht
    isplitl [Hp]; · rw [payload_bar m (bdev c d) d]; iexact Hp
    iapply (reached_at m K (bdev c d, .inr ())); iexact HP

theorem run_barrier (c : Dev nD) (t : St) (hok : t.ok .barrier) :
    runs c (barP c) iprop(pers m K ∗ inv m c t) (inv m c (t.step .barrier)) := by
  obtain ⟨hb, hs⟩ : t.bar = false ∧ ∀ k, t.s k = 0 := hok
  have hsnd (b : Bool) : (bigSep Finset.univ fun k : Fin 32 => sndR (F := F) k c b (t.s k)) = bigSep Finset.univ fun k : Fin 32 => sndR k c b 0 :=
    bigSep_congr fun k _ => by rw [hs k]
  unfold inv barP
  simp only [semSignalWord, semWaitWord, Prog.lift, Prog.bind_op, Prog.bind_ret, Prog.pure_eq_ret]
  rw [show (t.step .barrier).bar = true from rfl, show (t.step .barrier).s = t.s from rfl, hb, hsnd, hsnd]
  unfold owR
  rw [show unsent (t.step .barrier) = unsent t from rfl, show (t.step .barrier).bar = true from rfl, hb]
  unfold barR
  iintro ⟨#HP, Hw, Hqkv, Ha, Hout, ⟨%W, HO⟩, ⟨HatB, HcB, ⟨Ht0, Ht1, Ht2, Ht3⟩, Hp0, Hp1, Hp2, Hp3⟩, Hsnd, Hrcv⟩
  ihave #Hlev := (show pers m K ⊢ levAts L lv from pers_lev m K) $$ HP
  ihave HO := (Entails.of_eq (congrArg (fun O => (owes (c : Thread nD τ) O W : sProp 𝕄))
    (show owS (unsent t) c + owedB c false = ((((owS (unsent t) c + tallyAt (barCell (bdev c 3)) () 1) + tallyAt (barCell (bdev c 2)) () 1)
      + tallyAt (barCell (bdev c 1)) () 1) + tallyAt (barCell (bdev c 0)) () 1) by unfold owedB owB; simp only [add_assoc]))) $$ HO
  iapply (wp_ready m K c 0) $$ [HO Ht0 Hp0]
  · isplitr; · iexact HP
    isplitl [HO]; · iexact HO
    isplitl [Ht0]; · iexact Ht0
    iexact Hp0
  iintro HO
  iapply (wp_ready m K c 1) $$ [HO Ht1 Hp1]
  · isplitr; · iexact HP
    isplitl [HO]; · iexact HO
    isplitl [Ht1]; · iexact Ht1
    iexact Hp1
  iintro HO
  iapply (wp_ready m K c 2) $$ [HO Ht2 Hp2]
  · isplitr; · iexact HP
    isplitl [HO]; · iexact HO
    isplitl [Ht2]; · iexact Ht2
    iexact Hp2
  iintro HO
  iapply (wp_ready m K c 3) $$ [HO Ht3 Hp3]
  · isplitr; · iexact HP
    isplitl [HO]; · iexact HO
    isplitl [Ht3]; · iexact Ht3
    iexact Hp3
  iintro HO
  iapply (Rounds.wp_wait_rest_token 𝒱₀ ER (Rd m) (c : Thread nD τ) none (κ := K (c, .inr ()))
      (wpE_semWait_eq 𝒱₀ (c : Thread nD τ) none Set.univ) (Set.mem_univ _) () (O := owS (unsent t) c) (W := W) (R := 0) (m := 0) (T := ∅)
      (by rw [expect_bar]; decide)) $$ [HcB HO HatB]
  · isplitr; · iapply (inv_at m K (c, .inr ())); iexact HP
    isplitl [HcB]; · iexact HcB
    isplitl [HO]; · iexact HO
    isplitr
    · iapply (mayWait_of c (.reg barS) 1 (fun u => le_of_eq (lv_at c _ _ kind_bar u)) _ (owS_lv fun k _ => by omega)); iexact Hlev
    iexact HatB
  iintro ⟨HO, HatB, -, Hpay⟩
  ihave Hsl := (Entails.of_eq ((rest_bar m c).trans (bar_slots c))) $$ Hpay
  rw [wp_ret]; imodintro
  isplitl [Hw]; · iexact Hw
  isplitl [Hqkv]; · iexact Hqkv
  isplitl [Ha]; · iexact Ha
  isplitl [Hout]; · iexact Hout
  isplitl [HO]
  · iexists _; unfold owedB; rw [add_zero]; iexact HO
  isplitl [HatB]; · iexact HatB
  isplitl [Hsnd Hsl]
  · ihave H := (Entails.of_eq (bigSep_sep' Finset.univ (fun k : Fin 32 => sndR (F := F) k c false 0) (fun k : Fin 32 => slotEx (F := F) k (peer k c))).symm) $$ [Hsnd Hsl]
    · isplitl [Hsnd]; · iexact Hsnd
      iexact Hsl
    iapply (snd_open c); iexact H
  iexact Hrcv

/-! ## The transfers -/

theorem slot_set (k : Fin 32) : (X k).cM.view.setOn (slR k).set ⊆ (slV k).view.set := by
  rw [View.set_reshape, View.set_slice]; exact Finset.Subset.refl _
theorem sb_set (k : Fin 32) : sbM.view.setOn (sbR k).set ⊆ (sbV k).view.set := by
  rw [View.set_slice]; exact Finset.Subset.refl _
theorem sb_acc (k : Fin 32) : (sbM.access (sbR k)).setOn Finset.univ ⊆ (sbV k).view.set := by
  rw [View.setOn_univ]
theorem sb_read (k : Fin 32) (c : Dev nD) (f : Buf (Elt F) ((sbV k).view.loc (c : Thread nD τ))) (w : FVec F (Sr (X k).n) .bf16) :
    (sbV k).view.read (Elt F) ((sbM.access (sbR k) : View sig .tc _ _ _).write (Elt F) f w Finset.univ) = w :=
  View.read_write_univ _ _

/-- What lands is what was sent. -/
theorem recv_pay (k : Fin 32) (c : Dev nD) (fd : Buf (Elt F) ((slV k).view.loc (peer k c : Thread nD τ))) (fs : Buf (Elt F) ((sbV k).view.loc (c : Thread nD τ)))
    (h : (sbV k).view.read (Elt F) fs = sent m k c) :
    ((slV k).view.loc (peer k c : Thread nD τ) ↦[(slV k).view.set]{fullShare} (slV k).view.write (Elt F) fd ((sbV k).view.read (Elt F) fs) Finset.univ : sProp 𝕄)
      ⊢ recvGets m k (peer k c) := by
  unfold recvGets slotAt
  iintro H
  iexists ((slV k).view.write (Elt F) fd ((sbV k).view.read (Elt F) fs) Finset.univ)
  isplitr
  · ipureintro
    rw [View.read_write_univ, h, peer_peer]
  iexact H

theorem unsent_send (t : St) (k : Fin 32) : unsent (t.step (.send k)) = (unsent t).erase k := by
  ext l
  unfold unsent
  rw [Finset.mem_erase, Finset.mem_filter, Finset.mem_filter]
  show (_ ∧ (if l = k then 1 else t.s l) = 0) ↔ _
  by_cases h : l = k
  · rw [if_pos h]; exact ⟨fun h' => absurd h'.2 one_ne_zero, fun h' => absurd h h'.1⟩
  · rw [if_neg h]; exact ⟨fun h' => ⟨h, h'⟩, fun h' => h'.2⟩

theorem run_send (c : Dev nD) (t : St) (k : Fin 32) (hok : t.ok (.send k)) :
    runs c (sendP k c) iprop(pers m K ∗ inv m c t) (inv m c (t.step (.send k))) := by
  obtain ⟨hb, hs, hj⟩ : t.bar = true ∧ t.s k = 0 ∧ t.js (ch k) = stage k + 1 := hok
  have hmem : k ∈ unsent t := Finset.mem_filter.mpr ⟨Finset.mem_univ _, hs⟩
  unfold inv sendP
  simp only [Prog.lift, Prog.bind_op, Prog.bind_ret, Prog.pure_eq_ret]
  rw [show (t.step (.send k)).bar = t.bar from rfl, hb]
  unfold owR part
  rw [unsent_send, show (t.step (.send k)).bar = t.bar from rfl, hb]
  iintro ⟨#HP, Hw, Hqkv, Ha, ⟨%fo, %ho, Hout⟩, ⟨%W, HO⟩, HatB, Hsnd, Hrcv⟩
  ihave H := (upd (fun l : Fin 32 => sndR (F := F) l c true (t.s l)) (fun l : Fin 32 => sndR (F := F) l c true ((t.step (.send k)).s l)) k
    (fun l hl => by rw [show (t.step (.send k)).s l = t.s l from if_neg hl])) $$ Hsnd
  rw [hs, show (t.step (.send k)).s k = 1 from if_pos rfl]
  rw [snd_zero, snd_one]
  unfold sbEx slotEx sbAt
  icases H with ⟨⟨HtS, HtV, ⟨%fs, Hsb⟩, HatS, ⟨%fd, Hsl⟩⟩, Hback⟩
  iapply (wp_load 𝒱₀ (c : Thread nD τ) none Set.univ (m := oM) (Finset.subset_univ _)) $$ Hout; iintro Hout
  iapply (wp_load 𝒱₀ (c : Thread nD τ) none Set.univ (m := sbM) (sb_set k)) $$ Hsb; iintro Hsb
  iapply (wp_store 𝒱₀ (c : Thread nD τ) none Set.univ (m := sbM) (r := sbR k) (Mk := Finset.univ) (sb_acc k)) $$ Hsb; iintro Hsb
  rw [ho.readS k hj]
  unfold slotAt
  iapply (Rounds.wp_send_pointsTo 𝒱₀ ER (Rd m) (c : Thread nD τ) none (κ₁ := K (c, .inl (.inr (.inl k)))) (κ₂ := K (peer k c, .inl (.inr (.inr k))))
      (c' := (peer k c : Thread nD τ)) (src := sbV k) (dst := slV k)
      (r₁ := 0) (r₂ := 0) (d₁ := 0) (d₂ := 0) (fd := fd) (q := fullShare)
      (fs := (sbM.access (sbR k) : View sig .tc _ _ _).write (Elt F) fs (sendPay k (oM.view.readAt (Elt F) (soR k c).toLoadRect (OO m (ch k) (stage k) c))) Finset.univ)
      (by rw [duties_at m c _ _ (kind_send k)]; exact Finset.mem_singleton_self _)
      (by rw [duties_at m (peer k c) _ _ (kind_recv k)]; exact Finset.mem_singleton_self _)
      () () (crd k) rfl (amount_at m c _ _ (kind_send k) 0) (amount_at m (peer k c) _ _ (kind_recv k) 0)
      (owS ((unsent t).erase k) c + owedB c true) (O₀ := owS (unsent t) c + owedB c true) (by rw [owS_erase (unsent t) k hmem c]; unfold owedB; rw [add_zero, add_zero]) (W := W)
      (by rw [payload_send m k c]; unfold sbEx sbAt; iintro H; iexists _; iexact H)
      (by rw [payload_recv m k (peer k c)]; exact recv_pay m k c fd _ (sb_read k c fs _))) $$ [Hsb Hsl HO HtS HtV]
  · isplitr; · iapply (inv_at m K (c, .inl (.inr (.inl k)))); iexact HP
    isplitr; · iapply (inv_at m K (peer k c, .inl (.inr (.inr k)))); iexact HP
    isplitl [Hsb]; · iexact Hsb
    isplitl [Hsl]; · iexact Hsl
    isplitl [HO]; · iexact HO
    isplitl [HtS]; · iexact HtS
    isplitr; · iapply (reached_at m K (c, .inl (.inr (.inl k)))); iexact HP
    isplitl [HtV]; · iexact HtV
    iapply (reached_at m K (peer k c, .inl (.inr (.inr k)))); iexact HP
  iintro ⟨HcS, HO⟩
  rw [wp_ret]; imodintro
  isplitl [Hw]; · iexact Hw
  isplitl [Hqkv]; · iexact Hqkv
  isplitl [Ha]; · iexact Ha
  isplitl [Hout]
  · iexists _; isplitr; · ipureintro; exact ho
    iexact Hout
  isplitl [HO]
  · iexists _; iexact HO
  isplitl [HatB]; · iexact HatB
  isplitl [Hback HcS HatS]
  · iapply Hback
    isplitl [HcS]; · iexact HcS
    iexact HatS
  iexact Hrcv

theorem unsent_fin (t : St) (k : Fin 32) : unsent (t.step (.fin k)) = unsent t := rfl
theorem unsent_waitS (t : St) (k : Fin 32) (hs : t.s k = 1) : unsent (t.step (.waitS k)) = unsent t := by
  unfold unsent
  refine Finset.filter_congr fun l _ => ?_
  show (if l = k then 2 else t.s l) = 0 ↔ _
  by_cases h : l = k
  · subst h; rw [if_pos rfl, hs]; exact ⟨fun h => absurd h (by decide), fun h => absurd h (by decide)⟩
  · rw [if_neg h]

theorem run_waitS (c : Dev nD) (t : St) (k : Fin 32) (hok : t.ok (.waitS k)) :
    runs c (waitP k) iprop(pers m K ∗ inv m c t) (inv m c (t.step (.waitS k))) := by
  obtain ⟨hb, hs⟩ : t.bar = true ∧ t.s k = 1 := hok
  unfold inv waitP
  simp only [Prog.lift, Prog.bind_op, Prog.bind_ret, Prog.pure_eq_ret]
  rw [show (t.step (.waitS k)).bar = t.bar from rfl, hb]
  unfold owR
  rw [unsent_waitS t k hs, show (t.step (.waitS k)).bar = t.bar from rfl, hb]
  iintro ⟨#HP, Hw, Hqkv, Ha, Hout, ⟨%W, HO⟩, HatB, Hsnd, Hrcv⟩
  ihave #Hlev := (show pers m K ⊢ levAts L lv from pers_lev m K) $$ HP
  ihave H := (upd (fun l : Fin 32 => sndR (F := F) l c true (t.s l)) (fun l : Fin 32 => sndR (F := F) l c true ((t.step (.waitS k)).s l)) k
    (fun l hl => by rw [show (t.step (.waitS k)).s l = t.s l from if_neg hl])) $$ Hsnd
  rw [hs, show (t.step (.waitS k)).s k = 2 from if_pos rfl]
  rw [snd_one, snd_two]
  icases H with ⟨⟨HcS, HatS⟩, Hback⟩
  iapply (Rounds.wp_wait_rest_token 𝒱₀ ER (Rd m) (c : Thread nD τ) none (κ := K (c, .inl (.inr (.inl k))))
      (wpE_waitDma2_eq 𝒱₀ (c : Thread nD τ) none Set.univ) (Set.mem_univ _) () (O := owS (unsent t) c + owedB c true) (W := W) (R := 0) (m := 0) (T := ∅)
      (by rw [Nat.zero_add]; exact (credit_eq k).trans (expect_one m c (.inr (.inl k))).symm)) $$ [HcS HO HatS]
  · isplitr; · iapply (inv_at m K (c, .inl (.inr (.inl k)))); iexact HP
    isplitl [HcS]; · rw [credit_eq k]; iexact HcS
    isplitl [HO]; · iexact HO
    isplitr
    · iapply (mayWait_of c (.dma (sendS k)) 0 (fun u => le_of_eq (lv_at c _ _ (kind_send k) u)) _
        (by unfold owedB; rw [add_zero]; exact owS_lv fun k _ => by omega)); iexact Hlev
    iexact HatS
  iintro ⟨HO, HatS, -, Hpay⟩
  ihave Hsb := (Entails.of_eq (rest_send m k c)) $$ Hpay
  rw [wp_ret]; imodintro
  isplitl [Hw]; · iexact Hw
  isplitl [Hqkv]; · iexact Hqkv
  isplitl [Ha]; · iexact Ha
  isplitl [Hout]; · iexact Hout
  isplitl [HO]
  · iexists _; iexact HO
  isplitl [HatB]; · iexact HatB
  isplitl [Hback Hsb HatS]
  · iapply Hback
    isplitl [HatS]; · iexact HatS
    iexact Hsb
  iexact Hrcv

/-- What a receive loads from its slot. -/
theorem slot_read (k : Fin 32) (c : Dev nD) (f : Buf (Elt F) ((slV k).view.loc (c : Thread nD τ))) :
    (shapeCast (Sr (X k).n) ((X k).cM.view.readAt (Elt F) (slR k).toLoadRect f) (X_ok k).cast1 : FVec F (Sr (X k).n) .bf16) = (slV k).view.read (Elt F) f := rfl

theorem run_fin (c : Dev nD) (t : St) (k : Fin 32) (hok : t.ok (.fin k)) :
    runs c (finP k c) iprop(pers m K ∗ inv m c t) (inv m c (t.step (.fin k))) := by
  obtain ⟨hb, hr, hj, hlt⟩ : t.bar = true ∧ t.r k = false ∧ t.js (ch k) = stage k + 1 ∧ ∀ l, t.s l = 0 → ord k < ord l := hok
  unfold inv finP
  simp only [Prog.lift, Prog.bind_op, Prog.bind_ret, Prog.pure_eq_ret]
  rw [show (t.step (.fin k)).bar = t.bar from rfl, hb]
  unfold owR
  rw [unsent_fin, show (t.step (.fin k)).bar = t.bar from rfl, hb]
  unfold part
  iintro ⟨#HP, Hw, Hqkv, Ha, ⟨%fo, %ho, Hout⟩, ⟨%W, HO⟩, HatB, Hsnd, Hrcv⟩
  ihave #Hlev := (show pers m K ⊢ levAts L lv from pers_lev m K) $$ HP
  ihave H := (upd (fun l : Fin 32 => rcvR (F := F) l c (t.r l)) (fun l : Fin 32 => rcvR (F := F) l c ((t.step (.fin k)).r l)) k
    (fun l hl => by rw [show (t.step (.fin k)).r l = t.r l from if_neg hl])) $$ Hrcv
  rw [hr, show (t.step (.fin k)).r k = true from if_pos rfl]
  dsimp only [rcvR]
  icases H with ⟨⟨HcV, HatV⟩, Hback⟩
  iapply (Rounds.wp_wait_rest_token 𝒱₀ ER (Rd m) (c : Thread nD τ) none (κ := K (c, .inl (.inr (.inr k))))
      (wpE_waitDma2_eq 𝒱₀ (c : Thread nD τ) none Set.univ) (Set.mem_univ _) () (O := owS (unsent t) c + owedB c true) (W := W) (R := 0) (m := 0) (T := ∅)
      (by rw [Nat.zero_add]; exact (expect_one m c (.inr (.inr k))).symm)) $$ [HcV HO HatV]
  · isplitr; · iapply (inv_at m K (c, .inl (.inr (.inr k)))); iexact HP
    isplitl [HcV]; · iexact HcV
    isplitl [HO]; · iexact HO
    isplitr
    · iapply (mayWait_of c (.dma (recvS k)) (2 + ord k) (fun u => le_of_eq (lv_at c _ _ (kind_recv k) u)) _
        (by
          unfold owedB; rw [add_zero]
          exact owS_lv fun l hl => by have := hlt l (Finset.mem_filter.mp hl).2; omega)); iexact Hlev
    iexact HatV
  iintro ⟨HO, HatV, -, Hpay⟩
  ihave Hg := (Entails.of_eq (rest_recv m k c)) $$ Hpay
  unfold recvGets slotAt
  icases Hg with ⟨%fw, %hw, Hsl⟩
  iapply (wp_load 𝒱₀ (c : Thread nD τ) none Set.univ (m := (X k).cM) (slot_set k)) $$ Hsl; iintro Hsl
  have hstep := ho.fin k hj
  rw [← ho.readD k hj, ← hw, ← slot_read k c fw] at hstep
  cases hacc : (X k).acc with
  | true =>
    simp only [Prog.bind_op, Prog.bind_ret]
    iapply (wp_load 𝒱₀ (c : Thread nD τ) none Set.univ (m := oM) (Finset.subset_univ _)) $$ Hout; iintro Hout
    iapply (wp_load 𝒱₀ (c : Thread nD τ) none Set.univ (m := oM) (Finset.subset_univ _)) $$ Hout; iintro Hout
    iapply (wp_store 𝒱₀ (c : Thread nD τ) none Set.univ (m := oM) (r := doR k c) (Mk := Finset.univ) (Finset.subset_univ _)) $$ Hout; iintro Hout
    rw [wp_ret]; imodintro
    isplitl [Hw]; · iexact Hw
    isplitl [Hqkv]; · iexact Hqkv
    isplitl [Ha]; · iexact Ha
    isplitl [Hout]
    · iexists _; isplitr
      · ipureintro
        simp only [newV, hacc] at hstep
        exact hstep
      iexact Hout
    isplitl [HO]
    · iexists _; iexact HO
    isplitl [HatB]; · iexact HatB
    isplitl [Hsnd]; · iexact Hsnd
    iapply Hback
    isplitl [HatV]; · iexact HatV
    unfold slotEx slotAt
    iexists _; iexact Hsl
  | false =>
    simp only [Prog.bind_op, Prog.bind_ret]
    iapply (wp_load 𝒱₀ (c : Thread nD τ) none Set.univ (m := oM) (Finset.subset_univ _)) $$ Hout; iintro Hout
    iapply (wp_store 𝒱₀ (c : Thread nD τ) none Set.univ (m := oM) (r := doR k c) (Mk := Finset.univ) (Finset.subset_univ _)) $$ Hout; iintro Hout
    rw [wp_ret]; imodintro
    isplitl [Hw]; · iexact Hw
    isplitl [Hqkv]; · iexact Hqkv
    isplitl [Ha]; · iexact Ha
    isplitl [Hout]
    · iexists _; isplitr
      · ipureintro
        simp only [newV, hacc] at hstep
        exact hstep
      iexact Hout
    isplitl [HO]
    · iexists _; iexact HO
    isplitl [HatB]; · iexact HatB
    isplitl [Hsnd]; · iexact Hsnd
    iapply Hback
    isplitl [HatV]; · iexact HatV
    unfold slotEx slotAt
    iexists _; iexact Hsl

/-! ## The list -/

theorem run_act (c : Dev nD) (t : St) (a : Act) (hok : t.ok a) :
    runs c (a.run (xval m c) c) iprop(pers m K ∗ inv m c t) (inv m c (t.step a)) := by
  cases a with
  | qkv g => exact sep_elim_right.trans (run_qkv m c t g hok)
  | attn b h => exact sep_elim_right.trans (run_attn m c t b h hok)
  | wo g => exact sep_elim_right.trans (run_wo m c t g hok)
  | barrier => exact run_barrier m K c t hok
  | send k => exact run_send m K c t k hok
  | fin k => exact run_fin m K c t k hok
  | waitS k => exact run_waitS m K c t k hok

theorem run_list (c : Dev nD) (l : List Act) : ∀ t : St, t.okL l →
    runs c (runL (xval m c) c l) iprop(pers m K ∗ inv m c t) (inv m c (t.run l)) := by
  induction l with
  | nil =>
    intro t _
    show _ ⊢ wp _ _ _ (Prog.ret PUnit.unit) _
    rw [wp_ret]
    iintro ⟨-, H⟩; imodintro; iexact H
  | cons a l ih =>
    intro t h
    show _ ⊢ wp _ _ _ ((a.run (xval m c) c) >>= fun _ => runL (xval m c) c l) _
    rw [wp_bind]
    have h1 : iprop(pers m K ∗ inv m c t) ⊢ iprop(pers m K ∗ wp frame (wpE (defs₀ (F := F)) 𝒱₀ (c : Thread nD τ) none) Set.univ (a.run (xval m c) c) (fun _ => inv m c (t.step a))) := by
      iintro ⟨#HP, H⟩
      isplitr; · iexact HP
      iapply (run_act m K c t a h.1)
      isplitr; · iexact HP
      iexact H
    refine h1.trans ((wp_frame_l _ _ _).trans (wp_mono _ _ _ fun _ => ih (t.step a) h.2))

end Cert.Attn

end
-- ==== Proof.Buffers.lean ====
/-
  Cutting the receive buffers into the slots of the transfers and the send buffer into their rows, and putting them together again.
-/
module

public import proofs.«01_k».proof.Proof.Steps
public import Idealize.ShloMosaic.Lib.Ring.FamCut

@[expose] public section

set_option maxRecDepth 10000

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- A whole buffer, and a part of it, at unknown contents. -/
def someOf (b : Ref sig .tc) (c : Dev nD) : sProp 𝕄 := iprop(∃ f : Buf (Elt F) ((c : Thread nD τ).loc b), ((c : Thread nD τ).loc b ↦{fullShare} f))
def someOn (b : Ref sig .tc) (c : Dev nD) (S : Finset b.ty.Idx) : sProp 𝕄 :=
  iprop(∃ f : Buf (Elt F) ((c : Thread nD τ).loc b), ((c : Thread nD τ).loc b ↦[S]{fullShare} f))

/-- What a family of parts leaves. -/
abbrev rest {B : Type} [Fintype B] {b : Ref sig .tc} (I : B → Finset b.ty.Idx) : Finset b.ty.Idx := Finset.univ \ Finset.univ.biUnion I

theorem cut {B : Type} [Fintype B] [DecidableEq B] (b : Ref sig .tc) (c : Dev nD) (I : B → Finset b.ty.Idx) (hd : ∀ j j', j ≠ j' → Disjoint (I j) (I j')) :
    someOf (F := F) b c ⊢ iprop((bigSep Finset.univ fun j => someOn b c (I j)) ∗ someOn b c (rest I)) :=
  Ring.fam_split_ex (ℓ := (c : Thread nD τ).loc b) I hd
theorem glue {B : Type} [Fintype B] [DecidableEq B] (b : Ref sig .tc) (c : Dev nD) (I : B → Finset b.ty.Idx) (hd : ∀ j j', j ≠ j' → Disjoint (I j) (I j')) :
    iprop((bigSep Finset.univ fun j => someOn b c (I j)) ∗ someOn b c (rest I)) ⊢ someOf (F := F) b c := by
  unfold someOn someOf
  iintro ⟨H, %f₀, H'⟩
  iapply (Ring.fam_join (q := fullShare) (ℓ := (c : Thread nD τ).loc b) I hd f₀)
  isplitl [H]; · iexact H
  iexists f₀; iexact H'

/-! ## The slots -/

theorem slot_inb (a b : ℕ) (nn : Fin a → ℕ) (hn : ∀ j, nn j ≤ b) (j : Fin a) : ∀ x, (![j.val, 0, 0] : Fin 3 → ℕ) x + (Sq (nn j)).size x ≤ (Sc a b).size x
  | ⟨0, _⟩ => j.isLt
  | ⟨1, _⟩ => by show 0 + nn j ≤ b; rw [Nat.zero_add]; exact hn j
  | ⟨2, _⟩ => by show 0 + 1024 ≤ 1024; exact Nat.le_refl _
/-- The `j`-th slot of a buffer. -/
def slotI (a b : ℕ) (nn : Fin a → ℕ) (hn : ∀ j, nn j ≤ b) (j : Fin a) : Finset (Sc a b).Idx :=
  (Rect.unit (s := Sc a b) ![j.val, 0, 0] (Sq (nn j)).size (slot_inb a b nn hn j)).set
theorem slotI_disj (a b : ℕ) (nn : Fin a → ℕ) (hn : ∀ j, nn j ≤ b) (j j' : Fin a) (h : j ≠ j') : Disjoint (slotI a b nn hn j) (slotI a b nn hn j') := by
  rw [Finset.disjoint_left]
  intro i h1 h2
  have a1 := Rect.mem_set_unit.mp h1 (0 : Fin 3)
  have a2 := Rect.mem_set_unit.mp h2 (0 : Fin 3)
  have b1 : j.val ≤ (i 0).val ∧ (i 0).val < j.val + 1 := a1
  have b2 : j'.val ≤ (i 0).val ∧ (i 0).val < j'.val + 1 := a2
  exact h (Fin.ext (by omega))

theorem bigSep_fin8' (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin4' (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin32' (Φ : Fin 32 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

def n6 : Fin 8 → ℕ := ![128, 128, 64, 64, 128, 128, 64, 64]
theorem n6_le : ∀ j, n6 j ≤ 128 := by decide
abbrev I6 : Fin 8 → Finset (cc0_scratch6 : Ref sig .tc).ty.Idx := slotI 8 128 n6 n6_le
theorem slot_eq0 (c : Dev nD) : someOn (F := F) cc0_scratch6 c (I6 0) = slotEx 0 c :=
  congrArg (fun S => (iprop(∃ f : Buf (Elt F) ((c : Thread nD τ).loc cc0_scratch6), ((c : Thread nD τ).loc cc0_scratch6 ↦[S]{fullShare} f)) : sProp 𝕄))
    ((View.set_reshape _ _).trans (View.set_slice_whole cc0_scratch6 _)).symm
theorem slot_eq1 (c : Dev nD) : someOn (F := F) cc0_scratch6 c (I6 1) = slotEx 1 c :=
  congrArg (fun S => (iprop(∃ f : Buf (Elt F) ((c : Thread nD τ).loc cc0_scratch6), ((c : Thread nD τ).loc cc0_scratch6 ↦[S]{fullShare} f)) : sProp 𝕄))
    ((View.set_reshape _ _).trans (View.set_slice_whole cc0_scratch6 _)).symm
theorem slot_eq2 (c : Dev nD) : someOn (F := F) cc0_scratch6 c (I6 2) = slotEx 2 c :=
  congrArg (fun S => (iprop(∃ f : Buf (Elt F) ((c : Thread nD τ).loc cc0_scratch6), ((c : Thread nD τ).loc cc0_scratch6 ↦[S]{fullShare} f)) : sProp 𝕄))
    ((View.set_reshape _ _).trans (View.set_slice_whole cc0_scratch6 _)).symm
theorem slot_eq3 (c : Dev nD) : someOn (F := F) cc0_scratch6 c (I6 3) = slotEx 3 c :=
  congrArg (fun S => (iprop(∃ f : Buf (Elt F) ((c : Thread nD τ).loc cc0_scratch6), ((c : Thread nD τ).loc cc0_scratch6 ↦[S]{fullShare} f)) : sProp 𝕄))
    ((View.set_reshape _ _).trans (View.set_slice_whole cc0_scratch6 _)).symm
theorem slot_eq16 (c : Dev nD) : someOn (F := F) cc0_scratch6 c (I6 4) = slotEx 16 c :=
  congrArg (fun S => (iprop(∃ f : Buf (Elt F) ((c : Thread nD τ).loc cc0_scratch6), ((c : Thread nD τ).loc cc0_scratch6 ↦[S]{fullShare} f)) : sProp 𝕄))
    ((View.set_reshape _ _).trans (View.set_slice_whole cc0_scratch6 _)).symm
theorem slot_eq17 (c : Dev nD) : someOn (F := F) cc0_scratch6 c (I6 5) = slotEx 17 c :=
  congrArg (fun S => (iprop(∃ f : Buf (Elt F) ((c : Thread nD τ).loc cc0_scratch6), ((c : Thread nD τ).loc cc0_scratch6 ↦[S]{fullShare} f)) : sProp 𝕄))
    ((View.set_reshape _ _).trans (View.set_slice_whole cc0_scratch6 _)).symm
theorem slot_eq18 (c : Dev nD) : someOn (F := F) cc0_scratch6 c (I6 6) = slotEx 18 c :=
  congrArg (fun S => (iprop(∃ f : Buf (Elt F) ((c : Thread nD τ).loc cc0_scratch6), ((c : Thread nD τ).loc cc0_scratch6 ↦[S]{fullShare} f)) : sProp 𝕄))
    ((View.set_reshape _ _).trans (View.set_slice_whole cc0_scratch6 _)).symm
theorem slot_eq19 (c : Dev nD) : someOn (F := F) cc0_scratch6 c (I6 7) = slotEx 19 c :=
  congrArg (fun S => (iprop(∃ f : Buf (Elt F) ((c : Thread nD τ).loc cc0_scratch6), ((c : Thread nD τ).loc cc0_scratch6 ↦[S]{fullShare} f)) : sProp 𝕄))
    ((View.set_reshape _ _).trans (View.set_slice_whole cc0_scratch6 _)).symm
theorem slots6 (c : Dev nD) : (bigSep Finset.univ fun j => someOn (F := F) cc0_scratch6 c (I6 j)) = iprop(slotEx 0 c ∗ slotEx 1 c ∗ slotEx 2 c ∗ slotEx 3 c ∗ slotEx 16 c ∗ slotEx 17 c ∗ slotEx 18 c ∗ slotEx 19 c) := by
  rw [bigSep_fin8', slot_eq0, slot_eq1, slot_eq2, slot_eq3, slot_eq16, slot_eq17, slot_eq18, slot_eq19]

def n7 : Fin 4 → ℕ := ![32, 32, 32, 32]
theorem n7_le : ∀ j, n7 j ≤ 32 := by decide
abbrev I7 : Fin 4 → Finset (cc0_scratch7 : Ref sig .tc).ty.Idx := slotI 4 32 n7 n7_le
theorem slot_eq4 (c : Dev nD) : someOn (F := F) cc0_scratch7 c (I7 0) = slotEx 4 c :=
  congrArg (fun S => (iprop(∃ f : Buf (Elt F) ((c : Thread nD τ).loc cc0_scratch7), ((c : Thread nD τ).loc cc0_scratch7 ↦[S]{fullShare} f)) : sProp 𝕄))
    ((View.set_reshape _ _).trans (View.set_slice_whole cc0_scratch7 _)).symm
theorem slot_eq5 (c : Dev nD) : someOn (F := F) cc0_scratch7 c (I7 1) = slotEx 5 c :=
  congrArg (fun S => (iprop(∃ f : Buf (Elt F) ((c : Thread nD τ).loc cc0_scratch7), ((c : Thread nD τ).loc cc0_scratch7 ↦[S]{fullShare} f)) : sProp 𝕄))
    ((View.set_reshape _ _).trans (View.set_slice_whole cc0_scratch7 _)).symm
theorem slot_eq20 (c : Dev nD) : someOn (F := F) cc0_scratch7 c (I7 2) = slotEx 20 c :=
  congrArg (fun S => (iprop(∃ f : Buf (Elt F) ((c : Thread nD τ).loc cc0_scratch7), ((c : Thread nD τ).loc cc0_scratch7 ↦[S]{fullShare} f)) : sProp 𝕄))
    ((View.set_reshape _ _).trans (View.set_slice_whole cc0_scratch7 _)).symm
theorem slot_eq21 (c : Dev nD) : someOn (F := F) cc0_scratch7 c (I7 3) = slotEx 21 c :=
  congrArg (fun S => (iprop(∃ f : Buf (Elt F) ((c : Thread nD τ).loc cc0_scratch7), ((c : Thread nD τ).loc cc0_scratch7 ↦[S]{fullShare} f)) : sProp 𝕄))
    ((View.set_reshape _ _).trans (View.set_slice_whole cc0_scratch7 _)).symm
theorem slots7 (c : Dev nD) : (bigSep Finset.univ fun j => someOn (F := F) cc0_scratch7 c (I7 j)) = iprop(slotEx 4 c ∗ slotEx 5 c ∗ slotEx 20 c ∗ slotEx 21 c) := by
  rw [bigSep_fin4', slot_eq4, slot_eq5, slot_eq20, slot_eq21]

def n8 : Fin 4 → ℕ := ![16, 16, 16, 16]
theorem n8_le : ∀ j, n8 j ≤ 16 := by decide
abbrev I8 : Fin 4 → Finset (cc0_scratch8 : Ref sig .tc).ty.Idx := slotI 4 16 n8 n8_le
theorem slot_eq6 (c : Dev nD) : someOn (F := F) cc0_scratch8 c (I8 0) = slotEx 6 c :=
  congrArg (fun S => (iprop(∃ f : Buf (Elt F) ((c : Thread nD τ).loc cc0_scratch8), ((c : Thread nD τ).loc cc0_scratch8 ↦[S]{fullShare} f)) : sProp 𝕄))
    ((View.set_reshape _ _).trans (View.set_slice_whole cc0_scratch8 _)).symm
theorem slot_eq7 (c : Dev nD) : someOn (F := F) cc0_scratch8 c (I8 1) = slotEx 7 c :=
  congrArg (fun S => (iprop(∃ f : Buf (Elt F) ((c : Thread nD τ).loc cc0_scratch8), ((c : Thread nD τ).loc cc0_scratch8 ↦[S]{fullShare} f)) : sProp 𝕄))
    ((View.set_reshape _ _).trans (View.set_slice_whole cc0_scratch8 _)).symm
theorem slot_eq22 (c : Dev nD) : someOn (F := F) cc0_scratch8 c (I8 2) = slotEx 22 c :=
  congrArg (fun S => (iprop(∃ f : Buf (Elt F) ((c : Thread nD τ).loc cc0_scratch8), ((c : Thread nD τ).loc cc0_scratch8 ↦[S]{fullShare} f)) : sProp 𝕄))
    ((View.set_reshape _ _).trans (View.set_slice_whole cc0_scratch8 _)).symm
theorem slot_eq23 (c : Dev nD) : someOn (F := F) cc0_scratch8 c (I8 3) = slotEx 23 c :=
  congrArg (fun S => (iprop(∃ f : Buf (Elt F) ((c : Thread nD τ).loc cc0_scratch8), ((c : Thread nD τ).loc cc0_scratch8 ↦[S]{fullShare} f)) : sProp 𝕄))
    ((View.set_reshape _ _).trans (View.set_slice_whole cc0_scratch8 _)).symm
theorem slots8 (c : Dev nD) : (bigSep Finset.univ fun j => someOn (F := F) cc0_scratch8 c (I8 j)) = iprop(slotEx 6 c ∗ slotEx 7 c ∗ slotEx 22 c ∗ slotEx 23 c) := by
  rw [bigSep_fin4', slot_eq6, slot_eq7, slot_eq22, slot_eq23]

def n9 : Fin 4 → ℕ := ![16, 16, 16, 16]
theorem n9_le : ∀ j, n9 j ≤ 16 := by decide
abbrev I9 : Fin 4 → Finset (cc0_scratch9 : Ref sig .tc).ty.Idx := slotI 4 16 n9 n9_le
theorem slot_eq8 (c : Dev nD) : someOn (F := F) cc0_scratch9 c (I9 0) = slotEx 8 c :=
  congrArg (fun S => (iprop(∃ f : Buf (Elt F) ((c : Thread nD τ).loc cc0_scratch9), ((c : Thread nD τ).loc cc0_scratch9 ↦[S]{fullShare} f)) : sProp 𝕄))
    ((View.set_reshape _ _).trans (View.set_slice_whole cc0_scratch9 _)).symm
theorem slot_eq9 (c : Dev nD) : someOn (F := F) cc0_scratch9 c (I9 1) = slotEx 9 c :=
  congrArg (fun S => (iprop(∃ f : Buf (Elt F) ((c : Thread nD τ).loc cc0_scratch9), ((c : Thread nD τ).loc cc0_scratch9 ↦[S]{fullShare} f)) : sProp 𝕄))
    ((View.set_reshape _ _).trans (View.set_slice_whole cc0_scratch9 _)).symm
theorem slot_eq24 (c : Dev nD) : someOn (F := F) cc0_scratch9 c (I9 2) = slotEx 24 c :=
  congrArg (fun S => (iprop(∃ f : Buf (Elt F) ((c : Thread nD τ).loc cc0_scratch9), ((c : Thread nD τ).loc cc0_scratch9 ↦[S]{fullShare} f)) : sProp 𝕄))
    ((View.set_reshape _ _).trans (View.set_slice_whole cc0_scratch9 _)).symm
theorem slot_eq25 (c : Dev nD) : someOn (F := F) cc0_scratch9 c (I9 3) = slotEx 25 c :=
  congrArg (fun S => (iprop(∃ f : Buf (Elt F) ((c : Thread nD τ).loc cc0_scratch9), ((c : Thread nD τ).loc cc0_scratch9 ↦[S]{fullShare} f)) : sProp 𝕄))
    ((View.set_reshape _ _).trans (View.set_slice_whole cc0_scratch9 _)).symm
theorem slots9 (c : Dev nD) : (bigSep Finset.univ fun j => someOn (F := F) cc0_scratch9 c (I9 j)) = iprop(slotEx 8 c ∗ slotEx 9 c ∗ slotEx 24 c ∗ slotEx 25 c) := by
  rw [bigSep_fin4', slot_eq8, slot_eq9, slot_eq24, slot_eq25]

def n10 : Fin 4 → ℕ := ![32, 32, 32, 32]
theorem n10_le : ∀ j, n10 j ≤ 32 := by decide
abbrev I10 : Fin 4 → Finset (cc0_scratch10 : Ref sig .tc).ty.Idx := slotI 4 32 n10 n10_le
theorem slot_eq10 (c : Dev nD) : someOn (F := F) cc0_scratch10 c (I10 0) = slotEx 10 c :=
  congrArg (fun S => (iprop(∃ f : Buf (Elt F) ((c : Thread nD τ).loc cc0_scratch10), ((c : Thread nD τ).loc cc0_scratch10 ↦[S]{fullShare} f)) : sProp 𝕄))
    ((View.set_reshape _ _).trans (View.set_slice_whole cc0_scratch10 _)).symm
theorem slot_eq11 (c : Dev nD) : someOn (F := F) cc0_scratch10 c (I10 1) = slotEx 11 c :=
  congrArg (fun S => (iprop(∃ f : Buf (Elt F) ((c : Thread nD τ).loc cc0_scratch10), ((c : Thread nD τ).loc cc0_scratch10 ↦[S]{fullShare} f)) : sProp 𝕄))
    ((View.set_reshape _ _).trans (View.set_slice_whole cc0_scratch10 _)).symm
theorem slot_eq26 (c : Dev nD) : someOn (F := F) cc0_scratch10 c (I10 2) = slotEx 26 c :=
  congrArg (fun S => (iprop(∃ f : Buf (Elt F) ((c : Thread nD τ).loc cc0_scratch10), ((c : Thread nD τ).loc cc0_scratch10 ↦[S]{fullShare} f)) : sProp 𝕄))
    ((View.set_reshape _ _).trans (View.set_slice_whole cc0_scratch10 _)).symm
theorem slot_eq27 (c : Dev nD) : someOn (F := F) cc0_scratch10 c (I10 3) = slotEx 27 c :=
  congrArg (fun S => (iprop(∃ f : Buf (Elt F) ((c : Thread nD τ).loc cc0_scratch10), ((c : Thread nD τ).loc cc0_scratch10 ↦[S]{fullShare} f)) : sProp 𝕄))
    ((View.set_reshape _ _).trans (View.set_slice_whole cc0_scratch10 _)).symm
theorem slots10 (c : Dev nD) : (bigSep Finset.univ fun j => someOn (F := F) cc0_scratch10 c (I10 j)) = iprop(slotEx 10 c ∗ slotEx 11 c ∗ slotEx 26 c ∗ slotEx 27 c) := by
  rw [bigSep_fin4', slot_eq10, slot_eq11, slot_eq26, slot_eq27]

def n11 : Fin 8 → ℕ := ![64, 64, 128, 128, 64, 64, 128, 128]
theorem n11_le : ∀ j, n11 j ≤ 128 := by decide
abbrev I11 : Fin 8 → Finset (cc0_scratch11 : Ref sig .tc).ty.Idx := slotI 8 128 n11 n11_le
theorem slot_eq12 (c : Dev nD) : someOn (F := F) cc0_scratch11 c (I11 0) = slotEx 12 c :=
  congrArg (fun S => (iprop(∃ f : Buf (Elt F) ((c : Thread nD τ).loc cc0_scratch11), ((c : Thread nD τ).loc cc0_scratch11 ↦[S]{fullShare} f)) : sProp 𝕄))
    ((View.set_reshape _ _).trans (View.set_slice_whole cc0_scratch11 _)).symm
theorem slot_eq13 (c : Dev nD) : someOn (F := F) cc0_scratch11 c (I11 1) = slotEx 13 c :=
  congrArg (fun S => (iprop(∃ f : Buf (Elt F) ((c : Thread nD τ).loc cc0_scratch11), ((c : Thread nD τ).loc cc0_scratch11 ↦[S]{fullShare} f)) : sProp 𝕄))
    ((View.set_reshape _ _).trans (View.set_slice_whole cc0_scratch11 _)).symm
theorem slot_eq14 (c : Dev nD) : someOn (F := F) cc0_scratch11 c (I11 2) = slotEx 14 c :=
  congrArg (fun S => (iprop(∃ f : Buf (Elt F) ((c : Thread nD τ).loc cc0_scratch11), ((c : Thread nD τ).loc cc0_scratch11 ↦[S]{fullShare} f)) : sProp 𝕄))
    ((View.set_reshape _ _).trans (View.set_slice_whole cc0_scratch11 _)).symm
theorem slot_eq15 (c : Dev nD) : someOn (F := F) cc0_scratch11 c (I11 3) = slotEx 15 c :=
  congrArg (fun S => (iprop(∃ f : Buf (Elt F) ((c : Thread nD τ).loc cc0_scratch11), ((c : Thread nD τ).loc cc0_scratch11 ↦[S]{fullShare} f)) : sProp 𝕄))
    ((View.set_reshape _ _).trans (View.set_slice_whole cc0_scratch11 _)).symm
theorem slot_eq28 (c : Dev nD) : someOn (F := F) cc0_scratch11 c (I11 4) = slotEx 28 c :=
  congrArg (fun S => (iprop(∃ f : Buf (Elt F) ((c : Thread nD τ).loc cc0_scratch11), ((c : Thread nD τ).loc cc0_scratch11 ↦[S]{fullShare} f)) : sProp 𝕄))
    ((View.set_reshape _ _).trans (View.set_slice_whole cc0_scratch11 _)).symm
theorem slot_eq29 (c : Dev nD) : someOn (F := F) cc0_scratch11 c (I11 5) = slotEx 29 c :=
  congrArg (fun S => (iprop(∃ f : Buf (Elt F) ((c : Thread nD τ).loc cc0_scratch11), ((c : Thread nD τ).loc cc0_scratch11 ↦[S]{fullShare} f)) : sProp 𝕄))
    ((View.set_reshape _ _).trans (View.set_slice_whole cc0_scratch11 _)).symm
theorem slot_eq30 (c : Dev nD) : someOn (F := F) cc0_scratch11 c (I11 6) = slotEx 30 c :=
  congrArg (fun S => (iprop(∃ f : Buf (Elt F) ((c : Thread nD τ).loc cc0_scratch11), ((c : Thread nD τ).loc cc0_scratch11 ↦[S]{fullShare} f)) : sProp 𝕄))
    ((View.set_reshape _ _).trans (View.set_slice_whole cc0_scratch11 _)).symm
theorem slot_eq31 (c : Dev nD) : someOn (F := F) cc0_scratch11 c (I11 7) = slotEx 31 c :=
  congrArg (fun S => (iprop(∃ f : Buf (Elt F) ((c : Thread nD τ).loc cc0_scratch11), ((c : Thread nD τ).loc cc0_scratch11 ↦[S]{fullShare} f)) : sProp 𝕄))
    ((View.set_reshape _ _).trans (View.set_slice_whole cc0_scratch11 _)).symm
theorem slots11 (c : Dev nD) : (bigSep Finset.univ fun j => someOn (F := F) cc0_scratch11 c (I11 j)) = iprop(slotEx 12 c ∗ slotEx 13 c ∗ slotEx 14 c ∗ slotEx 15 c ∗ slotEx 28 c ∗ slotEx 29 c ∗ slotEx 30 c ∗ slotEx 31 c) := by
  rw [bigSep_fin8', slot_eq12, slot_eq13, slot_eq14, slot_eq15, slot_eq28, slot_eq29, slot_eq30, slot_eq31]

/-- What is left of the receive buffers. -/
def slotRest (c : Dev nD) : sProp 𝕄 := iprop(someOn cc0_scratch6 c (rest I6) ∗ someOn cc0_scratch7 c (rest I7) ∗ someOn cc0_scratch8 c (rest I8) ∗ someOn cc0_scratch9 c (rest I9) ∗ someOn cc0_scratch10 c (rest I10) ∗ someOn cc0_scratch11 c (rest I11))

theorem slots_cut (c : Dev nD) : iprop(someOf (F := F) cc0_scratch6 c ∗ someOf (F := F) cc0_scratch7 c ∗ someOf (F := F) cc0_scratch8 c ∗ someOf (F := F) cc0_scratch9 c ∗ someOf (F := F) cc0_scratch10 c ∗ someOf (F := F) cc0_scratch11 c) ⊢ iprop((bigSep Finset.univ fun k : Fin 32 => slotEx (F := F) k c) ∗ slotRest c) := by
  unfold slotRest
  iintro ⟨B6, B7, B8, B9, B10, B11⟩
  ihave H := ((cut cc0_scratch6 c I6 (slotI_disj 8 128 n6 n6_le)).trans (sep_mono_left (Entails.of_eq (slots6 c)))) $$ B6
  icases H with ⟨⟨S0, S1, S2, S3, S16, S17, S18, S19⟩, R6⟩
  ihave H := ((cut cc0_scratch7 c I7 (slotI_disj 4 32 n7 n7_le)).trans (sep_mono_left (Entails.of_eq (slots7 c)))) $$ B7
  icases H with ⟨⟨S4, S5, S20, S21⟩, R7⟩
  ihave H := ((cut cc0_scratch8 c I8 (slotI_disj 4 16 n8 n8_le)).trans (sep_mono_left (Entails.of_eq (slots8 c)))) $$ B8
  icases H with ⟨⟨S6, S7, S22, S23⟩, R8⟩
  ihave H := ((cut cc0_scratch9 c I9 (slotI_disj 4 16 n9 n9_le)).trans (sep_mono_left (Entails.of_eq (slots9 c)))) $$ B9
  icases H with ⟨⟨S8, S9, S24, S25⟩, R9⟩
  ihave H := ((cut cc0_scratch10 c I10 (slotI_disj 4 32 n10 n10_le)).trans (sep_mono_left (Entails.of_eq (slots10 c)))) $$ B10
  icases H with ⟨⟨S10, S11, S26, S27⟩, R10⟩
  ihave H := ((cut cc0_scratch11 c I11 (slotI_disj 8 128 n11 n11_le)).trans (sep_mono_left (Entails.of_eq (slots11 c)))) $$ B11
  icases H with ⟨⟨S12, S13, S14, S15, S28, S29, S30, S31⟩, R11⟩
  isplitr [R6 R7 R8 R9 R10 R11]
  · rw [bigSep_fin32']
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    iexact S31
  isplitl [R6]; · iexact R6
  isplitl [R7]; · iexact R7
  isplitl [R8]; · iexact R8
  isplitl [R9]; · iexact R9
  isplitl [R10]; · iexact R10
  iexact R11

theorem slots_glue (c : Dev nD) : iprop((bigSep Finset.univ fun k : Fin 32 => slotEx (F := F) k c) ∗ slotRest c) ⊢ iprop(someOf (F := F) cc0_scratch6 c ∗ someOf (F := F) cc0_scratch7 c ∗ someOf (F := F) cc0_scratch8 c ∗ someOf (F := F) cc0_scratch9 c ∗ someOf (F := F) cc0_scratch10 c ∗ someOf (F := F) cc0_scratch11 c) := by
  unfold slotRest
  rw [bigSep_fin32']
  iintro ⟨⟨S0, S1, S2, S3, S4, S5, S6, S7, S8, S9, S10, S11, S12, S13, S14, S15, S16, S17, S18, S19, S20, S21, S22, S23, S24, S25, S26, S27, S28, S29, S30, S31⟩, R6, R7, R8, R9, R10, R11⟩
  isplitl [S0 S1 S2 S3 S16 S17 S18 S19 R6]
  · iapply ((sep_mono_left (Entails.of_eq (slots6 c).symm)).trans (glue cc0_scratch6 c I6 (slotI_disj 8 128 n6 n6_le)))
    isplitr [R6]
    · isplitl [S0]; · iexact S0
      isplitl [S1]; · iexact S1
      isplitl [S2]; · iexact S2
      isplitl [S3]; · iexact S3
      isplitl [S16]; · iexact S16
      isplitl [S17]; · iexact S17
      isplitl [S18]; · iexact S18
      iexact S19
    iexact R6
  isplitl [S4 S5 S20 S21 R7]
  · iapply ((sep_mono_left (Entails.of_eq (slots7 c).symm)).trans (glue cc0_scratch7 c I7 (slotI_disj 4 32 n7 n7_le)))
    isplitr [R7]
    · isplitl [S4]; · iexact S4
      isplitl [S5]; · iexact S5
      isplitl [S20]; · iexact S20
      iexact S21
    iexact R7
  isplitl [S6 S7 S22 S23 R8]
  · iapply ((sep_mono_left (Entails.of_eq (slots8 c).symm)).trans (glue cc0_scratch8 c I8 (slotI_disj 4 16 n8 n8_le)))
    isplitr [R8]
    · isplitl [S6]; · iexact S6
      isplitl [S7]; · iexact S7
      isplitl [S22]; · iexact S22
      iexact S23
    iexact R8
  isplitl [S8 S9 S24 S25 R9]
  · iapply ((sep_mono_left (Entails.of_eq (slots9 c).symm)).trans (glue cc0_scratch9 c I9 (slotI_disj 4 16 n9 n9_le)))
    isplitr [R9]
    · isplitl [S8]; · iexact S8
      isplitl [S9]; · iexact S9
      isplitl [S24]; · iexact S24
      iexact S25
    iexact R9
  isplitl [S10 S11 S26 S27 R10]
  · iapply ((sep_mono_left (Entails.of_eq (slots10 c).symm)).trans (glue cc0_scratch10 c I10 (slotI_disj 4 32 n10 n10_le)))
    isplitr [R10]
    · isplitl [S10]; · iexact S10
      isplitl [S11]; · iexact S11
      isplitl [S26]; · iexact S26
      iexact S27
    iexact R10
  · iapply ((sep_mono_left (Entails.of_eq (slots11 c).symm)).trans (glue cc0_scratch11 c I11 (slotI_disj 8 128 n11 n11_le)))
    isplitr [R11]
    · isplitl [S12]; · iexact S12
      isplitl [S13]; · iexact S13
      isplitl [S14]; · iexact S14
      isplitl [S15]; · iexact S15
      isplitl [S28]; · iexact S28
      isplitl [S29]; · iexact S29
      isplitl [S30]; · iexact S30
      iexact S31
    iexact R11

/-! ## The send buffer -/

abbrev sbI (k : Fin 32) : Finset (cc0_scratch12 : Ref sig .tc).ty.Idx := (sbR k).set
theorem sbI_disj (k k' : Fin 32) (h : k ≠ k') : Disjoint (sbI k) (sbI k') := by
  rw [Finset.disjoint_left]
  intro i h1 h2
  have a1 := Rect.mem_set_unit.mp h1 (0 : Fin 2)
  have a2 := Rect.mem_set_unit.mp h2 (0 : Fin 2)
  have b1 : (X k).so ≤ (i 0).val ∧ (i 0).val < (X k).so + (X k).n := a1
  have b2 : (X k').so ≤ (i 0).val ∧ (i 0).val < (X k').so + (X k').n := a2
  have := so_disjoint k k' h
  omega
theorem sb_eq (k : Fin 32) (c : Dev nD) : someOn (F := F) cc0_scratch12 c (sbI k) = sbEx k c :=
  congrArg (fun S => (iprop(∃ f : Buf (Elt F) ((c : Thread nD τ).loc cc0_scratch12), ((c : Thread nD τ).loc cc0_scratch12 ↦[S]{fullShare} f)) : sProp 𝕄))
    (View.set_slice_whole cc0_scratch12 (sbR k)).symm
theorem sbs_eq (c : Dev nD) : (bigSep Finset.univ fun k => someOn (F := F) cc0_scratch12 c (sbI k)) = bigSep Finset.univ fun k : Fin 32 => sbEx k c :=
  bigSep_congr fun k _ => sb_eq k c
theorem sb_cut (c : Dev nD) : someOf (F := F) cc0_scratch12 c ⊢ iprop((bigSep Finset.univ fun k : Fin 32 => sbEx (F := F) k c) ∗ someOn cc0_scratch12 c (rest sbI)) :=
  (cut cc0_scratch12 c sbI sbI_disj).trans (sep_mono_left (Entails.of_eq (sbs_eq c)))
theorem sb_glue (c : Dev nD) : iprop((bigSep Finset.univ fun k : Fin 32 => sbEx (F := F) k c) ∗ someOn cc0_scratch12 c (rest sbI)) ⊢ someOf (F := F) cc0_scratch12 c :=
  (sep_mono_left (Entails.of_eq (sbs_eq c).symm)).trans (glue cc0_scratch12 c sbI sbI_disj)

/-! ## The weights' columns -/

variable (m : (ℓ : Loc nD τ sig) → Buf (Elt F) ℓ)

def hkRest (c : Dev nD) : sProp 𝕄 := (c : Thread nD τ).loc main_arg3 ↦[Finset.univ \ (hkV c).view.set]{fullShare} m ((c : Thread nD τ).loc main_arg3)
def hvRest (c : Dev nD) : sProp 𝕄 := (c : Thread nD τ).loc main_arg4 ↦[Finset.univ \ (hvV c).view.set]{fullShare} m ((c : Thread nD τ).loc main_arg4)

theorem hk_cut (c : Dev nD) : ((c : Thread nD τ).loc main_arg3 ↦{fullShare} m ((c : Thread nD τ).loc main_arg3) : sProp 𝕄) ⊣⊢ iprop(hkPts m c ∗ hkRest m c) :=
  pointsTo_split_subset (Finset.subset_univ _)
theorem hv_cut (c : Dev nD) : ((c : Thread nD τ).loc main_arg4 ↦{fullShare} m ((c : Thread nD τ).loc main_arg4) : sProp 𝕄) ⊣⊢ iprop(hvPts m c ∗ hvRest m c) :=
  pointsTo_split_subset (Finset.subset_univ _)

end Cert.Attn

end
-- ==== Proof.Body.lean ====
/-
  The kernel's body on one device: from what the launch deals it to its computed output, every semaphore at zero again.
-/
module

public import proofs.«01_k».proof.Proof.Buffers

@[expose] public section

set_option maxRecDepth 10000

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CK → ℕ)

theorem bigSep_fin2' (Φ : Fin 2 → sProp 𝕄) : bigSep Finset.univ Φ = iprop(Φ 0 ∗ Φ 1) := bigSep_univ_eq_bigSepL [0, 1] (by decide) (by decide) Φ
theorem bigSep_unit (Φ : Unit → sProp 𝕄) : bigSep Finset.univ Φ = Φ () := bigSep_univ_eq_bigSepL [()] (by decide) (by decide) Φ
theorem bigSep_CK (Φ : CK → sProp 𝕄) : bigSep Finset.univ Φ
    = iprop(((Φ (.inl (.inl 0)) ∗ Φ (.inl (.inl 1))) ∗ (bigSep Finset.univ fun k : Fin 32 => Φ (.inl (.inr (.inl k))))
        ∗ bigSep Finset.univ fun k : Fin 32 => Φ (.inl (.inr (.inr k)))) ∗ Φ (.inr ())) := by
  rw [bigSep_univ_sum, bigSep_univ_sum, bigSep_univ_sum, bigSep_fin2', bigSep_unit]; rfl

/-- The output's quarter that a row is in. -/
def outC (c : Dev nD) : (cc0_stg3_0 : Ref sig .tc).ty.Contents (Elt F) := fun i => OO m (bt (i 0)) 8 c i

/-- The tokens of the duties that device `c` pays. -/
def payToks (c : Dev nD) : sProp 𝕄 :=
  iprop((dutyTok ER (locCell 0 c) 0 0 ∗ dutyTok ER (locCell 1 c) 0 0)
    ∗ (dutyTok ER (barCell (bdev c 0)) 0 0 ∗ dutyTok ER (barCell (bdev c 1)) 0 1 ∗ dutyTok ER (barCell (bdev c 2)) 0 2 ∗ dutyTok ER (barCell (bdev c 3)) 0 3)
    ∗ (bigSep Finset.univ fun k : Fin 32 => dutyTok ER (sendCell k c) 0 0)
    ∗ (bigSep Finset.univ fun k : Fin 32 => dutyTok ER (recvCell k (peer k c)) 0 0))
/-- Its positions in its own cells, and those tokens. -/
def linear (c : Dev nD) : sProp 𝕄 := iprop((bigSep Finset.univ fun ck : CK => atPos ER (kcell (c, ck)) 0 ∅ 0) ∗ payToks c)
/-- The credit for what the others owe it. -/
def creds (c : Dev nD) : sProp 𝕄 :=
  iprop(cred (tallyAt (barCell c) () 4) ∗ bigSep Finset.univ fun k : Fin 32 => cred (tallyAt (recvCell k c) () (crd k)))

def argPts (c : Dev nD) : sProp 𝕄 :=
  iprop(((c : Thread nD τ).loc main_arg3 ↦{fullShare} m ((c : Thread nD τ).loc main_arg3)) ∗ ((c : Thread nD τ).loc main_arg4 ↦{fullShare} m ((c : Thread nD τ).loc main_arg4)))
def scratch (c : Dev nD) : sProp 𝕄 := iprop(someOf cc0_scratch0 c ∗ someOf cc0_scratch1 c ∗ someOf cc0_scratch2 c ∗ someOf cc0_scratch3 c ∗ someOf cc0_scratch4 c ∗ someOf cc0_scratch5 c ∗ someOf cc0_scratch6 c ∗ someOf cc0_scratch7 c ∗ someOf cc0_scratch8 c ∗ someOf cc0_scratch9 c ∗ someOf cc0_scratch10 c ∗ someOf cc0_scratch11 c ∗ someOf cc0_scratch12 c)
def xPts (c : Dev nD) : sProp 𝕄 := (c : Thread nD τ).loc cc0_stg0_0 ↦{fullShare} xB m c
def outPts (c : Dev nD) : sProp 𝕄 := (c : Thread nD τ).loc cc0_stg3_0 ↦{fullShare} outC m c
def zeros (c : Dev nD) : sProp 𝕄 := bigSep Finset.univ fun ck : CK => semVal (kcell (c, ck)) 0

theorem part_of (b : Ref sig .tc) (c : Dev nD) (P : b.ty.Contents (Elt F) → Prop) (h : ∀ f, P f) : someOf b c ⊢ part (F := F) b c P := by
  unfold someOf part
  iintro ⟨%f, H⟩
  iexists f; isplitr; · ipureintro; exact h f
  iexact H
theorem of_part (b : Ref sig .tc) (c : Dev nD) (P : b.ty.Contents (Elt F) → Prop) : part (F := F) b c P ⊢ someOf b c := by
  unfold someOf part
  iintro ⟨%f, -, H⟩
  iexists f; iexact H

/-- A device's own slots, by the neighbour they are handed to. -/
theorem own_slots (c : Dev nD) : (bigSep Finset.univ fun k : Fin 32 => slotEx (F := F) k c)
    ⊢ iprop(barPay 0 (bdev c 0) ∗ barPay 1 (bdev c 1) ∗ barPay 2 (bdev c 2) ∗ barPay 3 (bdev c 3)) := by
  rw [bigSep_fiberwise Finset.univ dir (fun k : Fin 32 => slotEx (F := F) k c), image_dir, bigSep_fin4']
  refine Entails.of_eq ?_
  unfold barPay
  simp only [bdev_bdev]

theorem snd_start (c : Dev nD) : iprop((bigSep Finset.univ fun k : Fin 32 => dutyTok ER (sendCell k c) 0 0)
      ∗ (bigSep Finset.univ fun k : Fin 32 => dutyTok ER (recvCell k (peer k c)) 0 0)
      ∗ (bigSep Finset.univ fun k : Fin 32 => sbEx (F := F) k c)
      ∗ (bigSep Finset.univ fun k : Fin 32 => atPos ER (sendCell k c) 0 ∅ 0))
    ⊢ bigSep Finset.univ fun k : Fin 32 => sndR (F := F) k c st₀.bar (st₀.s k) := by
  rw [← bigSep_sep', ← bigSep_sep', ← bigSep_sep']
  refine bigSep_mono fun k _ => ?_
  show iprop(dutyTok ER (sendCell k c) 0 0 ∗ dutyTok ER (recvCell k (peer k c)) 0 0 ∗ sbEx (F := F) k c ∗ atPos ER (sendCell k c) 0 ∅ 0) ⊢ sndR (F := F) k c false 0
  rw [snd_zero']
  iintro ⟨H1, H2, H3, H4⟩
  isplitl [H1]; · iexact H1
  isplitl [H2]; · iexact H2
  isplitl [H3]; · iexact H3
  isplitl [H4]; · iexact H4
  iempintro
theorem rcv_start (c : Dev nD) : iprop((bigSep Finset.univ fun k : Fin 32 => cred (tallyAt (recvCell k c) () (crd k)))
      ∗ (bigSep Finset.univ fun k : Fin 32 => atPos ER (recvCell k c) 0 ∅ 0))
    ⊢ bigSep Finset.univ fun k : Fin 32 => rcvR (F := F) k c (st₀.r k) := by
  rw [← bigSep_sep']
  exact bigSep_mono fun k _ => BI.Entails.refl _

/-- Before the first action. -/
theorem start_inv (c : Dev nD) (W : Waits sig Unit) :
    iprop((wqPts m c ∗ woPts m c ∗ wkPts c (wkC m c) ∗ wvPts c (wvC m c))
      ∗ (someOf cc0_scratch2 c ∗ someOf cc0_scratch3 c ∗ someOf cc0_scratch4 c) ∗ someOf cc0_scratch5 c ∗ someOf cc0_stg3_0 c
      ∗ owes (c : Thread nD τ) (O₀ c) W
      ∗ (atPos ER (barCell c) 0 ∅ 0 ∗ (bigSep Finset.univ fun k : Fin 32 => atPos ER (sendCell k c) 0 ∅ 0) ∗ (bigSep Finset.univ fun k : Fin 32 => atPos ER (recvCell k c) 0 ∅ 0))
      ∗ ((dutyTok ER (barCell (bdev c 0)) 0 0 ∗ dutyTok ER (barCell (bdev c 1)) 0 1 ∗ dutyTok ER (barCell (bdev c 2)) 0 2 ∗ dutyTok ER (barCell (bdev c 3)) 0 3)
        ∗ (bigSep Finset.univ fun k : Fin 32 => dutyTok ER (sendCell k c) 0 0)
        ∗ (bigSep Finset.univ fun k : Fin 32 => dutyTok ER (recvCell k (peer k c)) 0 0))
      ∗ creds c
      ∗ (bigSep Finset.univ fun k : Fin 32 => slotEx (F := F) k c) ∗ (bigSep Finset.univ fun k : Fin 32 => sbEx (F := F) k c))
    ⊢ inv m c st₀ := by
  unfold inv creds
  iintro ⟨Hw, ⟨H2, H3, H4⟩, H5, Ho, HO, ⟨HaB, HaS, HaV⟩, ⟨HtB, HtS, HtV⟩, ⟨HcB, HcV⟩, Hsl, Hsb⟩
  isplitl [Hw]; · iexact Hw
  isplitl [H2 H3 H4]
  · isplitl [H2]; · iapply (part_of cc0_scratch2 c _ (fun f i hi => absurd hi (Nat.not_lt_zero _))); iexact H2
    isplitl [H3]; · iapply (part_of cc0_scratch3 c _ (fun f i hi => absurd hi (Nat.not_lt_zero _))); iexact H3
    iapply (part_of cc0_scratch4 c _ (fun f i hi => absurd hi (Nat.not_lt_zero _))); iexact H4
  isplitl [H5]; · iapply (part_of cc0_scratch5 c _ (fun f i hi => absurd hi (Nat.not_lt_zero _))); iexact H5
  isplitl [Ho]; · iapply (part_of cc0_stg3_0 c _ (fun f h j hj => absurd hj.symm (Nat.succ_ne_zero _))); iexact Ho
  isplitl [HO]
  · unfold owR; iexists W
    rw [unsent_all st₀ (fun _ => rfl)]; iexact HO
  isplitl [HaB HcB HtB Hsl]
  · rw [show barR (F := F) c st₀.bar = barR c false from rfl]; unfold barR
    isplitl [HaB]; · iexact HaB
    isplitl [HcB]; · iexact HcB
    isplitl [HtB]; · iexact HtB
    iapply (own_slots c); iexact Hsl
  isplitl [HtS HtV Hsb HaS]
  · iapply (snd_start c)
    isplitl [HtS]; · iexact HtS
    isplitl [HtV]; · iexact HtV
    isplitl [Hsb]; · iexact Hsb
    iexact HaS
  · iapply (rcv_start c)
    isplitl [HcV]; · iexact HcV
    iexact HaV

/-! ## After the last action -/

theorem bigSep_pers {R : sProp 𝕄} [BI.Persistent R] {Φ Ψ : Fin 32 → sProp 𝕄} (h : ∀ i, iprop(R ∗ Φ i) ⊢ Ψ i) :
    iprop(R ∗ bigSep Finset.univ Φ) ⊢ bigSep Finset.univ Ψ :=
  (sep_mono_left (BI.bigSep_of_persistent Finset.univ R)).trans (by rw [← bigSep_sep']; exact bigSep_mono fun i _ => h i)

/-- A cell whose round is over is at zero. -/
theorem close_at (c : Dev nD) (ck : CK) (sm : SemLoc sig) (h : csem ck = sm) :
    iprop(pers m K ∗ atPos ER ((c : Thread nD τ), sm) 1 ∅ 0) ⊢ (|={Set.univ}=> semVal ((c : Thread nD τ), sm) 0 : sProp 𝕄) := by
  subst h
  iintro ⟨#HP, H⟩
  iapply (Rounds.cell_close ER (Rd m) (Set.mem_univ (K (c, ck))) (fun h => h) (R := 0 + 1) (duties_later m (kcell (c, ck))))
  isplitr; · iapply (inv_at m K (c, ck)); iexact HP
  iexact H

theorem snd_end (c : Dev nD) (t : St) (hs : ∀ k, t.s k = 2) :
    iprop(pers m K ∗ bigSep Finset.univ fun k : Fin 32 => sndR (F := F) k c t.bar (t.s k))
      ⊢ |={Set.univ}=> iprop((bigSep Finset.univ fun k : Fin 32 => semVal (sendCell k c) 0) ∗ bigSep Finset.univ fun k : Fin 32 => sbEx (F := F) k c) := by
  rw [← bigSep_sep']
  refine (bigSep_pers fun k => ?_).trans (bigSep_fupd _ _)
  rw [hs k, snd_two]
  iintro ⟨#HP, H1, H2⟩
  imod (close_at m K c (.inl (.inr (.inl k))) (.dma (sendS k)) rfl) $$ [H1] with Hz
  · isplitr; · iexact HP
    iexact H1
  imodintro
  isplitl [Hz]; · iexact Hz
  iexact H2
theorem rcv_end (c : Dev nD) (t : St) (hr : ∀ k, t.r k = true) :
    iprop(pers m K ∗ bigSep Finset.univ fun k : Fin 32 => rcvR (F := F) k c (t.r k))
      ⊢ |={Set.univ}=> iprop((bigSep Finset.univ fun k : Fin 32 => semVal (recvCell k c) 0) ∗ bigSep Finset.univ fun k : Fin 32 => slotEx (F := F) k c) := by
  rw [← bigSep_sep']
  refine (bigSep_pers fun k => ?_).trans (bigSep_fupd _ _)
  rw [hr k]
  unfold rcvR
  iintro ⟨#HP, H1, H2⟩
  imod (close_at m K c (.inl (.inr (.inr k))) (.dma (recvS k)) rfl) $$ [H1] with Hz
  · isplitr; · iexact HP
    iexact H1
  imodintro
  isplitl [Hz]; · iexact Hz
  iexact H2

theorem out_end (c : Dev nD) (f : (cc0_stg3_0 : Ref sig .tc).ty.Contents (Elt F)) (js : Fin 4 → ℕ) (hj : ∀ h, js h = 9) (h : OutOK m js c f) : f = outC m c :=
  funext fun i => h (bt (i 0)) 8 (hj _) i rfl

theorem end_inv (c : Dev nD) (t : St) (hb : t.bar = true) (hj : ∀ h, t.js h = 9) (hs : ∀ k, t.s k = 2) (hr : ∀ k, t.r k = true) :
    iprop(pers m K ∗ inv m c t)
      ⊢ |={Set.univ}=> iprop((wqPts m c ∗ woPts m c ∗ wkPts c (wkC m c) ∗ wvPts c (wvC m c))
        ∗ (someOf cc0_scratch2 c ∗ someOf cc0_scratch3 c ∗ someOf cc0_scratch4 c) ∗ someOf cc0_scratch5 c ∗ outPts m c
        ∗ (∃ W, owes (c : Thread nD τ) 0 W)
        ∗ (semVal (barCell c) 0 ∗ (bigSep Finset.univ fun k : Fin 32 => semVal (sendCell k c) 0) ∗ (bigSep Finset.univ fun k : Fin 32 => semVal (recvCell k c) 0))
        ∗ (bigSep Finset.univ fun k : Fin 32 => slotEx (F := F) k c) ∗ (bigSep Finset.univ fun k : Fin 32 => sbEx (F := F) k c)) := by
  have hu : unsent t = ∅ := Finset.filter_false_of_mem fun k _ => by rw [hs k]; decide
  unfold inv owR
  rw [hu, hb]
  iintro ⟨#HP, Hw, ⟨H2, H3, H4⟩, H5, Ho, ⟨%W, HO⟩, HaB, Hsnd, Hrcv⟩
  imod (close_at m K c (.inr ()) (.reg barS) rfl) $$ [HaB] with HzB
  · isplitr; · iexact HP
    unfold barR; iexact HaB
  imod (snd_end m K c t hs) $$ [Hsnd] with ⟨HzS, Hsb⟩
  · isplitr; · iexact HP
    rw [hb]; iexact Hsnd
  imod (rcv_end m K c t hr) $$ [Hrcv] with ⟨HzV, Hsl⟩
  · isplitr; · iexact HP
    iexact Hrcv
  imodintro
  isplitl [Hw]; · iexact Hw
  isplitl [H2 H3 H4]
  · isplitl [H2]; · iapply of_part; iexact H2
    isplitl [H3]; · iapply of_part; iexact H3
    iapply of_part; iexact H4
  isplitl [H5]; · iapply of_part; iexact H5
  isplitl [Ho]
  · unfold part outPts
    icases Ho with ⟨%f, %hf, Ho⟩
    rw [← out_end m c f t.js hj hf]; iexact Ho
  isplitl [HO]
  · iexists W
    unfold owedB owS; rw [Finset.sum_empty, add_zero]; iexact HO
  isplitl [HzB HzS HzV]
  · isplitl [HzB]; · iexact HzB
    isplitl [HzS]; · iexact HzS
    iexact HzV
  isplitl [Hsl]; · iexact Hsl
  iexact Hsb

/-! ## The body -/

theorem duty_loc (i : Fin 2) (c : Dev nD) : (0 : Fin 4) ∈ (Rd (F := F) m).duties (locCell i c) 0 := by
  rw [duties_at m c _ _ (kind_loc i)]; exact Finset.mem_singleton_self _
theorem payload_loc (i : Fin 2) (c : Dev nD) : (Rd (F := F) m).payload (locCell i c) 0 0 = locPay m i c := payload_at m c _ _ (kind_loc i) 0
theorem rest_loc (i : Fin 2) (c : Dev nD) :
    bigSep ((Rd (F := F) m).duties (locCell i c) 0 \ ∅) (fun d => (Rd (F := F) m).payload (locCell i c) 0 d) = locPay m i c := rest_one m c (.inl i)

theorem wait_loc (i : Fin 2) (c : Dev nD) : (levAts L lv : sProp 𝕄) ⊢ MayWait (c : Thread nD τ) (.dma (locS i)) () (O₀ c) :=
  mayWait_of c (.dma (locS i)) 0 (fun u => le_of_eq (lv_at c _ _ (kind_loc i) u)) _ fun g u h => O₀_lv g u h

theorem wk_some (c : Dev nD) (f) : wkPts c f ⊢ someOf (F := F) cc0_scratch0 c := by
  unfold wkPts someOf; rw [View.set_whole]; iintro H; iexists f; iexact H
theorem wv_some (c : Dev nD) (f) : wvPts c f ⊢ someOf (F := F) cc0_scratch1 c := by
  unfold wvPts someOf; rw [View.set_whole]; iintro H; iexists f; iexact H

/-- What the copies from the weights leave. -/
theorem copied_k (c : Dev nD) (f : Buf (Elt F) (wkM.view.loc (c : Thread nD τ))) :
    iprop((wkM.view.loc (c : Thread nD τ) ↦[wkM.view.set]{fullShare} wkM.view.write (Elt F) f ((hkV c).view.read (Elt F) (m ((c : Thread nD τ).loc main_arg3))) Finset.univ)
      ∗ ((hkV c).view.loc (c : Thread nD τ) ↦[(hkV c).view.set]{fullShare} m ((c : Thread nD τ).loc main_arg3))) ⊢ locPay (F := F) m 0 c := by
  show _ ⊢ iprop(wkPts c (wkC m c) ∗ hkPts m c)
  unfold wkPts hkPts wkC
  rw [show wkM.view.write (Elt F) f ((hkV c).view.read (Elt F) (m ((c : Thread nD τ).loc main_arg3))) Finset.univ
    = (hkV c).view.read (Elt F) (m ((c : Thread nD τ).loc main_arg3)) from View.write_whole_univ _ _ _]
theorem copied_v (c : Dev nD) (f : Buf (Elt F) (wvM.view.loc (c : Thread nD τ))) :
    iprop((wvM.view.loc (c : Thread nD τ) ↦[wvM.view.set]{fullShare} wvM.view.write (Elt F) f ((hvV c).view.read (Elt F) (m ((c : Thread nD τ).loc main_arg4))) Finset.univ)
      ∗ ((hvV c).view.loc (c : Thread nD τ) ↦[(hvV c).view.set]{fullShare} m ((c : Thread nD τ).loc main_arg4))) ⊢ locPay (F := F) m 1 c := by
  show _ ⊢ iprop(wvPts c (wvC m c) ∗ hvPts m c)
  unfold wvPts hvPts wvC
  rw [show wvM.view.write (Elt F) f ((hvV c).view.read (Elt F) (m ((c : Thread nD τ).loc main_arg4))) Finset.univ
    = (hvV c).view.read (Elt F) (m ((c : Thread nD τ).loc main_arg4)) from View.write_whole_univ _ _ _]

/-- The list of actions, from before the first to after the last. -/
theorem run_tail (c : Dev nD) (Q : PUnit → sProp 𝕄) :
    iprop(pers m K ∗ inv m c st₀ ∗ (iprop((wqPts m c ∗ woPts m c ∗ wkPts c (wkC m c) ∗ wvPts c (wvC m c))
        ∗ (someOf cc0_scratch2 c ∗ someOf cc0_scratch3 c ∗ someOf cc0_scratch4 c) ∗ someOf cc0_scratch5 c ∗ outPts m c
        ∗ (∃ W, owes (c : Thread nD τ) 0 W)
        ∗ (semVal (barCell c) 0 ∗ (bigSep Finset.univ fun k : Fin 32 => semVal (sendCell k c) 0) ∗ (bigSep Finset.univ fun k : Fin 32 => semVal (recvCell k c) 0))
        ∗ (bigSep Finset.univ fun k : Fin 32 => slotEx (F := F) k c) ∗ (bigSep Finset.univ fun k : Fin 32 => sbEx (F := F) k c)) -∗ |={Set.univ}=> Q ⟨⟩))
      ⊢ wp frame (wpE (defs₀ (F := F)) 𝒱₀ (c : Thread nD τ) none) Set.univ (runL (xval m c) c acts) Q := by
  have h1 : iprop(pers m K ∗ inv m c st₀) ⊢ iprop(pers m K ∗ wp frame (wpE (defs₀ (F := F)) 𝒱₀ (c : Thread nD τ) none) Set.univ (runL (xval m c) c acts) (fun _ => inv m c (st₀.run acts))) := by
    iintro ⟨#HP, H⟩
    isplitr; · iexact HP
    iapply (run_list m K c acts st₀ acts_ok)
    isplitr; · iexact HP
    iexact H
  iintro ⟨#HP, Hi, Hk⟩
  ihave H := h1 $$ [Hi]
  · isplitr; · iexact HP
    iexact Hi
  ihave H := (wp_frame_l _ _ _) $$ H
  iapply (wp_fupd _ _ _)
  iapply (wp_wand_r _ _ _)
  isplitl [H]; · iexact H
  iintro %u ⟨#HP', Hi⟩
  imod (end_inv m K c _ end_bar end_js end_s end_r) $$ [Hi] with H
  · isplitr; · iexact HP'
    iexact Hi
  iapply Hk; iexact H

set_option maxHeartbeats 1000000 in
theorem run_body (c : Dev nD) :
    iprop(pers m K ∗ linear c ∗ creds c ∗ argPts m c ∗ scratch c ∗ (∃ W, owes (c : Thread nD τ) (O₀ c) W) ∗ xPts m c ∗ wqPts m c ∗ woPts m c ∗ someOf cc0_stg3_0 c)
      ⊢ wp frame (wpE (defs₀ (F := F)) 𝒱₀ (c : Thread nD τ) none) Set.univ (body (F := F))
          (fun _ => iprop(argPts m c ∗ zeros c ∗ scratch c ∗ (∃ W, owes (c : Thread nD τ) 0 W) ∗ xPts m c ∗ wqPts m c ∗ woPts m c ∗ outPts m c)) := by
  unfold body
  simp only [Prog.lift, Prog.bind_op, Prog.bind_ret, Prog.pure_eq_ret, wp_deviceId]
  unfold linear payToks argPts scratch zeros xPts
  rw [bigSep_CK, bigSep_CK]
  iintro ⟨#HP, ⟨⟨⟨⟨HaL0, HaL1⟩, HaS, HaV⟩, HaB⟩, ⟨HtL0, HtL1⟩, HtR⟩, Hcr, ⟨Hk, Hv⟩, ⟨S0, S1, S2, S3, S4, S5, S6, S7, S8, S9, S10, S11, S12⟩, ⟨%W, HO⟩, Hx, Hwq, Hwo, Hout⟩
  ihave #Hlev := (pers_lev m K) $$ HP
  ihave Hk := (hk_cut m c).1 $$ Hk
  icases Hk with ⟨Hk, HkR⟩
  ihave Hv := (hv_cut m c).1 $$ Hv
  icases Hv with ⟨Hv, HvR⟩
  unfold someOf
  icases S0 with ⟨%f0, S0⟩
  icases S1 with ⟨%f1, S1⟩
  iapply (Rounds.wp_copy_pointsTo 𝒱₀ ER (Rd m) (c : Thread nD τ) none (κ := K (c, .inl (.inl 0))) (src := hkV c) (dst := wkM) (q := fullShare)
      (fs := m ((c : Thread nD τ).loc main_arg3)) (fd := f0) (duty_loc m 0 c) () (lcrd 0) rfl (amount_at m c _ _ (kind_loc 0) 0)
      (by rw [payload_loc m 0 c]; exact copied_k m c f0)) $$ [Hk S0 HtL0]
  · isplitr; · iapply (inv_at m K (c, .inl (.inl 0))); iexact HP
    isplitl [Hk]; · unfold hkPts; iexact Hk
    isplitl [S0]; · rw [View.set_whole]; iexact S0
    isplitl [HtL0]; · iexact HtL0
    iapply (reached_at m K (c, .inl (.inl 0))); iexact HP
  iintro HcL0
  iapply (Rounds.wp_copy_pointsTo 𝒱₀ ER (Rd m) (c : Thread nD τ) none (κ := K (c, .inl (.inl 1))) (src := hvV c) (dst := wvM) (q := fullShare)
      (fs := m ((c : Thread nD τ).loc main_arg4)) (fd := f1) (duty_loc m 1 c) () (lcrd 1) rfl (amount_at m c _ _ (kind_loc 1) 0)
      (by rw [payload_loc m 1 c]; exact copied_v m c f1)) $$ [Hv S1 HtL1]
  · isplitr; · iapply (inv_at m K (c, .inl (.inl 1))); iexact HP
    isplitl [Hv]; · unfold hvPts; iexact Hv
    isplitl [S1]; · rw [View.set_whole]; iexact S1
    isplitl [HtL1]; · iexact HtL1
    iapply (reached_at m K (c, .inl (.inl 1))); iexact HP
  iintro HcL1
  iapply (wp_load 𝒱₀ (c : Thread nD τ) none Set.univ (m := xM) (Finset.subset_univ _)) $$ Hx; iintro Hx
  iapply (Rounds.wp_wait_rest_token 𝒱₀ ER (Rd m) (c : Thread nD τ) none (κ := K (c, .inl (.inl 0)))
      (wpE_waitDma2_eq 𝒱₀ (c : Thread nD τ) none Set.univ) (Set.mem_univ _) () (O := O₀ c) (W := W) (R := 0) (m := 0) (T := ∅)
      (by rw [Nat.zero_add]; exact (expect_one m c (.inl 0)).symm)) $$ [HcL0 HO HaL0]
  · isplitr; · iapply (inv_at m K (c, .inl (.inl 0))); iexact HP
    isplitl [HcL0]; · iexact HcL0
    isplitl [HO]; · iexact HO
    isplitr; · iapply (wait_loc (F := F) 0 c); iexact Hlev
    iexact HaL0
  iintro ⟨HO, HaL0, -, Hp0⟩
  ihave Hp0 := (Entails.of_eq (rest_loc m 0 c)) $$ Hp0
  iapply (Rounds.wp_wait_rest_token 𝒱₀ ER (Rd m) (c : Thread nD τ) none (κ := K (c, .inl (.inl 1)))
      (wpE_waitDma2_eq 𝒱₀ (c : Thread nD τ) none Set.univ) (Set.mem_univ _) () (O := O₀ c) (R := 0) (m := 0) (T := ∅)
      (by rw [Nat.zero_add]; exact (expect_one m c (.inl 1)).symm)) $$ [HcL1 HO HaL1]
  · isplitr; · iapply (inv_at m K (c, .inl (.inl 1))); iexact HP
    isplitl [HcL1]; · iexact HcL1
    isplitl [HO]; · iexact HO
    isplitr; · iapply (wait_loc (F := F) 1 c); iexact Hlev
    iexact HaL1
  iintro ⟨HO, HaL1, -, Hp1⟩
  ihave Hp1 := (Entails.of_eq (rest_loc m 1 c)) $$ Hp1
  unfold locPay
  icases Hp0 with ⟨Hwk, Hk⟩
  icases Hp1 with ⟨Hwv, Hv⟩
  ihave Hsl := (slots_cut (F := F) c) $$ [S6 S7 S8 S9 S10 S11]
  · unfold someOf
    isplitl [S6]; · iexact S6
    isplitl [S7]; · iexact S7
    isplitl [S8]; · iexact S8
    isplitl [S9]; · iexact S9
    isplitl [S10]; · iexact S10
    iexact S11
  icases Hsl with ⟨Hsl, HslR⟩
  ihave Hsb := (sb_cut (F := F) c) $$ [S12]
  · unfold someOf; iexact S12
  icases Hsb with ⟨Hsb, HsbR⟩
  ihave Hinv := (start_inv m c _) $$ [Hwq Hwo Hwk Hwv S2 S3 S4 S5 Hout HO HaB HaS HaV HtR Hcr Hsl Hsb]
  · isplitl [Hwq Hwo Hwk Hwv]
    · isplitl [Hwq]; · iexact Hwq
      isplitl [Hwo]; · iexact Hwo
      isplitl [Hwk]; · iexact Hwk
      iexact Hwv
    unfold someOf
    isplitl [S2 S3 S4]
    · isplitl [S2]; · iexact S2
      isplitl [S3]; · iexact S3
      iexact S4
    isplitl [S5]; · iexact S5
    isplitl [Hout]; · iexact Hout
    isplitl [HO]; · iexact HO
    isplitl [HaB HaS HaV]
    · isplitl [HaB]; · iexact HaB
      isplitl [HaS]; · iexact HaS
      iexact HaV
    isplitl [HtR]; · iexact HtR
    isplitl [Hcr]; · iexact Hcr
    isplitl [Hsl]; · iexact Hsl
    iexact Hsb
  iapply (run_tail m K c _)
  isplitr; · iexact HP
  isplitl [Hinv]; · iexact Hinv
  iintro ⟨⟨Hwq, Hwo, Hwk, Hwv⟩, ⟨S2, S3, S4⟩, S5, Hout, HO, ⟨HzB, HzS, HzV⟩, Hsl, Hsb⟩
  imod (close_at m K c (.inl (.inl 0)) (.dma (locS 0)) rfl) $$ [HaL0] with HzL0
  · isplitr; · iexact HP
    iexact HaL0
  imod (close_at m K c (.inl (.inl 1)) (.dma (locS 1)) rfl) $$ [HaL1] with HzL1
  · isplitr; · iexact HP
    iexact HaL1
  ihave S6 := (slots_glue (F := F) c) $$ [Hsl HslR]
  · isplitl [Hsl]; · iexact Hsl
    iexact HslR
  ihave S12 := (sb_glue (F := F) c) $$ [Hsb HsbR]
  · isplitl [Hsb]; · iexact Hsb
    iexact HsbR
  imodintro
  isplitl [Hk HkR Hv HvR]
  · isplitl [Hk HkR]
    · iapply (hk_cut m c).2
      isplitl [Hk]; · iexact Hk
      iexact HkR
    · iapply (hv_cut m c).2
      isplitl [Hv]; · iexact Hv
      iexact HvR
  isplitl [HzL0 HzL1 HzS HzV HzB]
  · isplitl [HzL0 HzL1 HzS HzV]
    · isplitl [HzL0 HzL1]
      · isplitl [HzL0]; · iexact HzL0
        iexact HzL1
      isplitl [HzS]; · iexact HzS
      iexact HzV
    iexact HzB
  isplitl [Hwk Hwv S2 S3 S4 S5 S6 S12]
  · ihave S0 := (wk_some c _) $$ Hwk
    ihave S1 := (wv_some c _) $$ Hwv
    unfold someOf
    isplitl [S0]; · iexact S0
    isplitl [S1]; · iexact S1
    isplitl [S2]; · iexact S2
    isplitl [S3]; · iexact S3
    isplitl [S4]; · iexact S4
    isplitl [S5]; · iexact S5
    icases S6 with ⟨S6, S7, S8, S9, S10, S11⟩
    isplitl [S6]; · iexact S6
    isplitl [S7]; · iexact S7
    isplitl [S8]; · iexact S8
    isplitl [S9]; · iexact S9
    isplitl [S10]; · iexact S10
    isplitl [S11]; · iexact S11
    iexact S12
  isplitl [HO]; · iexact HO
  isplitl [Hx]; · iexact Hx
  isplitl [Hwq]; · iexact Hwq
  isplitl [Hwo]; · iexact Hwo
  iexact Hout

end Cert.Attn

end
-- ==== Proof.BodyEq.lean ====
module

public import proofs.«01_k».proof.Proof.Program

@[expose] public section

noncomputable section

namespace Cert.Attn

open Cert.KernelIdeal Cert.KernelIdeal.Gen
open Idealize.ShloMosaic Idealize.ShloMosaic.TcCoe Idealize.SL.Sem

variable {F : FTy → Type} [FloatOps F] [Named F]

set_option maxRecDepth 65536 in
set_option maxHeartbeats 4000000 in
theorem body_eq (t : Fin cfg0.N) : (bodyAt0 (F := F) t) = body (F := F) := rfl

end Cert.Attn

end
-- ==== Proof.Launch.lean ====
/-
  The launch on the sixteen devices: the cells and tokens dealt out, and the whole run from any memory with its
  counters at zero.
-/
module

public import proofs.«01_k».proof.Proof.Body
public import proofs.«01_k».proof.Proof.BodyEq
public import Idealize.ShloMosaic.Lib.Pipeline.CollectiveSegs

@[expose] public section

set_option maxRecDepth 10000

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The memory at the start. -/
abbrev s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The pipeline's data -/

def start (c : Dev nD) : sProp 𝕄 := iprop((∃ K, pers m K ∗ linear c) ∗ creds c ∗ argPts m c)
def Φ₀ (c : Dev nD) : sProp 𝕄 := iprop(start m c ∗ scratch c)
def Φ₁ (c : Dev nD) : sProp 𝕄 := iprop(argPts m c ∗ zeros c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xB m c
    | ⟨1, _⟩ => wqB m c
    | ⟨2, _⟩ => woB m c
    | ⟨3, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_0 : (cfg0.win (0 : Fin 4)).fetch t₀ = true := rfl
theorem fetch_1 : (cfg0.win (1 : Fin 4)).fetch t₀ = true := rfl
theorem fetch_2 : (cfg0.win (2 : Fin 4)).fetch t₀ = true := rfl

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ m c ∗ (dats m ρ 0 c).owesAt () t₀.succ
    ∗ stg c cc0_stg0_0 (xB m c) ∗ stg c cc0_stg1_0 (wqB m c) ∗ stg c cc0_stg2_0 (woB m c) ∗ stg c cc0_stg3_0 (outC m c))

theorem body_sound (c : Dev nD) : bodyPre m ρ c ⊢ wp frame (wpE (defs₀ (F := F)) 𝒱₀ (c : Thread nD τ) none) Set.univ (body (F := F)) (fun _ => bodyPost m ρ c) := by
  unfold bodyPre Φ₀ start
  iintro ⟨⟨⟨⟨%K, HP, Hl⟩, Hc, Ha⟩, Hs⟩, Ho, ⟨%d0, %g0, %hg0, Hx⟩, ⟨%d1, %g1, %hg1, Hwq⟩, ⟨%d2, %g2, %hg2, Hwo⟩, ⟨%d3, %g3, -, Hout⟩⟩
  have hx : g0 = xB m c := by rw [hg0]; unfold Dat.before; rw [if_pos fetch_0]; rfl
  have hq : g1 = wqB m c := by rw [hg1]; unfold Dat.before; rw [if_pos fetch_1]; rfl
  have ho : g2 = woB m c := by rw [hg2]; unfold Dat.before; rw [if_pos fetch_2]; rfl
  subst hx; subst hq; subst ho
  unfold Dat.owesAt Pipeline.owesWithin
  icases Ho with ⟨%W, -, HO⟩
  iapply (wp_wand_r _ _ _)
  isplitl [HP Hl Hc Ha Hs HO Hx Hwq Hwo Hout]
  · iapply (run_body m K c)
    isplitl [HP]; · iexact HP
    isplitl [Hl]; · iexact Hl
    isplitl [Hc]; · iexact Hc
    isplitl [Ha]; · iexact Ha
    isplitl [Hs]; · iexact Hs
    isplitl [HO]
    · iexists W; iexact HO
    isplitl [Hx]; · unfold xPts; iexact Hx
    isplitl [Hwq]; · unfold wqPts; iexact Hwq
    isplitl [Hwo]; · unfold woPts; iexact Hwo
    unfold someOf; iexists g3; iexact Hout
  iintro %u ⟨Ha, Hz, Hs, ⟨%W', HO⟩, Hx, Hwq, Hwo, Hout⟩
  unfold bodyPost Φ₁ Dat.owesAt Pipeline.owesWithin xPts wqPts woPts outPts
  rw [show (dats m ρ 0 c).owed t₀.succ = 0 from rfl]
  isplitl [Ha Hz Hs]
  · isplitl [Ha]; · iexact Ha
    isplitl [Hz]; · iexact Hz
    iexact Hs
  isplitl [HO]
  · iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

theorem body_row (t : Fin cfg0.N) : (defs₀ (F := F)) .tc cfg0.body (cfg0.bodyArgs t (cfg0.slots t)) = bodyAt0 (F := F) t := rfl

set_option maxRecDepth 100000 in
theorem body_obligation (c : Dev nD) : BodyObligation (dats (F := F) m ρ 0 c) (defs₀ (F := F)) 𝒱₀ () Set.univ := fun t => by
  rw [fin_N t]
  rw [bigSep_W, bigSep_W]
  simp only [owns_whole_eq]
  rw [body_row, body_eq]
  exact body_sound m ρ c

/-! ## Cells and tokens -/

theorem ownSemFacts : Pipeline.OwnSemFacts cfg0.spec osem := by decide
theorem share_eq (c : Dev nD) (w : Fin cfg0.W) : (dats m ρ 0 c).share w = fullShare := by unfold Dat.share; split <;> rfl

def theCells : Finset (GSem nD τ sig) := Finset.univ.map ⟨kcell, kcell_injective⟩

/-- A device's cells' duties: one at each transfer cell, four at the barrier's. -/
abbrev TK := OK ⊕ Fin 4
def tokOf (x : Dev nD × TK) : GSem nD τ sig × ℕ × Fin 4 := match x.2 with
  | .inl o => (kcell (x.1, .inl o), 0, 0)
  | .inr d => (kcell (x.1, .inr ()), 0, d)
theorem tokOf_injective : Function.Injective (tokOf : Dev nD × TK → GSem nD τ sig × ℕ × Fin 4) := by
  rintro ⟨c, j | j⟩ ⟨c', j' | j'⟩ h
  · have := kcell_injective (congrArg (fun x : GSem nD τ sig × ℕ × Fin 4 => x.1) h)
    simp only [Prod.mk.injEq, Sum.inl.injEq] at this; rw [this.1, this.2]
  · have := kcell_injective (congrArg (fun x : GSem nD τ sig × ℕ × Fin 4 => x.1) h)
    simp only [Prod.mk.injEq, reduceCtorEq, and_false] at this
  · have := kcell_injective (congrArg (fun x : GSem nD τ sig × ℕ × Fin 4 => x.1) h)
    simp only [Prod.mk.injEq, reduceCtorEq, and_false] at this
  · have h1 := kcell_injective (congrArg (fun x : GSem nD τ sig × ℕ × Fin 4 => x.1) h)
    have h2 : j = j' := congrArg (fun x : GSem nD τ sig × ℕ × Fin 4 => x.2.2) h
    simp only [Prod.mk.injEq, and_true] at h1; rw [h1, h2]
def theToks : Finset (GSem nD τ sig × ℕ × Fin 4) := Finset.univ.map ⟨tokOf, tokOf_injective⟩

def u₀ : UU := (initOf (Pipeline.cells cfgs cellOf_inj) (Pipeline.launchToks cfgs cellOf_inj), initOf theCells theToks)

def toks (c : Dev nD) : sProp 𝕄 :=
  iprop(((dutyTok ER (locCell 0 c) 0 0 ∗ dutyTok ER (locCell 1 c) 0 0)
      ∗ (bigSep Finset.univ fun k : Fin 32 => dutyTok ER (sendCell k c) 0 0) ∗ (bigSep Finset.univ fun k : Fin 32 => dutyTok ER (recvCell k c) 0 0))
    ∗ (dutyTok ER (barCell c) 0 0 ∗ dutyTok ER (barCell c) 0 1 ∗ dutyTok ER (barCell c) 0 2 ∗ dutyTok ER (barCell c) 0 3))

def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)
def G' (c : Dev nD) : sProp 𝕄 := iprop(∃ K, records m K ∗ linear c)

theorem fund_cells : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : CK => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by unfold toks; rw [bigSep_univ_sum, bigSep_univ_sum, bigSep_univ_sum, bigSep_fin2', bigSep_fin4']; rfl
  iintro HX
  imod (Rounds.fund ER (Rd m) theCells theToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun o : OK => semVal (kcell (c, .inl o)) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem zeros_eq (c : Dev nD) : (zeros c : sProp 𝕄) = iprop(Pipeline.ownSems0 (Ix := Unit) (Name := ℕ) (U := UU) (Lvl := ℕ) (Val := Elt F) (τ := τ) osem c ∗ unscopedSems0 c) := by
  unfold zeros; rw [ownSems0_eq, unscopedSems0_eq, bigSep_univ_sum, bigSep_unit]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (zeros_eq (F := F) c).symm) $$ [Hos Hus]
  · isplitl [Hos] <;> iassumption
  unfold zeros
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device's neighbour in one direction, as a rearrangement of the devices. -/
def bdevE (d : Fin 4) : Dev nD ≃ Dev nD := ⟨fun c => bdev c d, fun c => bdev c d, fun c => bdev_bdev d c, fun c => bdev_bdev d c⟩
def peerE : Dev nD × Fin 32 ≃ Dev nD × Fin 32 :=
  ⟨fun x => (peer x.2 x.1, x.2), fun x => (peer x.2 x.1, x.2), fun x => by simp only [peer_peer], fun x => by simp only [peer_peer]⟩

theorem recv_around (Φ : Dev nD → Fin 32 → sProp 𝕄) :
    (bigSep Finset.univ fun c : Dev nD => bigSep Finset.univ fun k : Fin 32 => Φ c k)
      = bigSep Finset.univ fun c : Dev nD => bigSep Finset.univ fun k : Fin 32 => Φ (peer k c) k := by
  rw [← bigSep_univ_prod (fun x : Dev nD × Fin 32 => Φ x.1 x.2), bigSep_univ_equiv peerE, bigSep_univ_prod]; rfl

/-- Each token goes to the device that pays its duty. -/
theorem toks_around : (bigSep Finset.univ fun c : Dev nD => (toks c : sProp 𝕄)) ⊢ bigSep Finset.univ fun c : Dev nD => payToks c := by
  unfold toks payToks
  simp only [bigSep_sep']
  rw [recv_around (fun c k => (dutyTok ER (recvCell k c) 0 0 : sProp 𝕄)),
    bigSep_univ_equiv (bdevE 0) (fun c : Dev nD => (dutyTok ER (barCell c) 0 0 : sProp 𝕄)),
    bigSep_univ_equiv (bdevE 1) (fun c : Dev nD => (dutyTok ER (barCell c) 0 1 : sProp 𝕄)),
    bigSep_univ_equiv (bdevE 2) (fun c : Dev nD => (dutyTok ER (barCell c) 0 2 : sProp 𝕄)),
    bigSep_univ_equiv (bdevE 3) (fun c : Dev nD => (dutyTok ER (barCell c) 0 3 : sProp 𝕄))]
  iintro ⟨⟨H1, H2, H3⟩, H4⟩
  isplitl [H1]; · iexact H1
  isplitl [H4]; · iexact H4
  isplitl [H2]; · iexact H2
  iexact H3

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (with_persistent (R := records m K) (Φ := linear) fun c _ => show iprop(records m K ∗ linear c) ⊢ G' m c from by
    unfold G'; iintro H; iexists K; iexact H)
  isplitr
  · unfold records; isplitl; · iexact HI
    iexact HR
  · iapply (Entails.of_eq (bigSep_sep' Finset.univ (fun c : Dev nD => bigSep Finset.univ fun k : CK => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at the start -/

theorem bar_eq_iff {a b : Dev nD} : barCell a = barCell b ↔ a = b :=
  ⟨fun h => congrArg (fun g : GSem nD τ sig => g.1.1) h, fun h => h ▸ rfl⟩
theorem recv_eq_iff {k k' : Fin 32} {a b : Dev nD} : recvCell k a = recvCell k' b ↔ k = k' ∧ a = b := by
  constructor
  · intro h
    have := kcell_injective (a₁ := (a, .inl (.inr (.inr k)))) (a₂ := (b, .inl (.inr (.inr k')))) h
    simp only [Prod.mk.injEq, Sum.inl.injEq, Sum.inr.injEq] at this; exact ⟨this.2, this.1⟩
  · rintro ⟨rfl, rfl⟩; rfl
theorem recv_ne_bar (k : Fin 32) (a b : Dev nD) : recvCell k a ≠ barCell b := fun h => by cases congrArg Prod.snd h

theorem bdev_iff (d c : Dev nD) (j : Fin 4) : c = bdev d j ↔ d = bdev c j :=
  ⟨fun h => by rw [h, bdev_bdev], fun h => by rw [h, bdev_bdev]⟩
theorem peer_iff (d c : Dev nD) (k : Fin 32) : c = peer k d ↔ d = peer k c :=
  ⟨fun h => by rw [h, peer_peer], fun h => by rw [h, peer_peer]⟩

theorem owS_bar (d c : Dev nD) : owS Finset.univ d (barCell c) () = 0 := by
  by_contra h
  obtain ⟨k, -, e⟩ := owS_pos (Nat.pos_of_ne_zero h)
  exact recv_ne_bar _ _ _ e.symm
theorem owB_recv (d c : Dev nD) (k : Fin 32) : owB d (recvCell k c) () = 0 := by
  by_contra h
  obtain ⟨j, e⟩ := owB_pos (Nat.pos_of_ne_zero h)
  exact recv_ne_bar _ _ _ e

theorem tally_bar (d c : Dev nD) (j : Fin 4) : (tallyAt (barCell (bdev d j)) () 1 : CellTallies nD τ sig Unit) (barCell c) () = if d = bdev c j then 1 else 0 := by
  rw [tallyAt_apply]
  by_cases h : d = bdev c j
  · rw [if_pos h, if_pos ⟨bar_eq_iff.mpr ((bdev_iff d c j).mpr h), rfl⟩]
  · rw [if_neg h, if_neg fun h' => h ((bdev_iff d c j).mp (bar_eq_iff.mp h'.1))]

theorem owed_bar (d c : Dev nD) : O₀ d (barCell c) ()
    = (if d = bdev c 3 then 1 else 0) + (if d = bdev c 2 then 1 else 0) + (if d = bdev c 1 then 1 else 0) + (if d = bdev c 0 then 1 else 0) := by
  unfold O₀
  rw [Pi.add_apply, Finsupp.add_apply, owS_bar, Nat.zero_add]
  unfold owB
  rw [Pi.add_apply, Finsupp.add_apply, Pi.add_apply, Finsupp.add_apply, Pi.add_apply, Finsupp.add_apply, tally_bar, tally_bar, tally_bar, tally_bar]

theorem tally_recv (d c : Dev nD) (k k' : Fin 32) : (tallyAt (recvCell k' (peer k' d)) () (crd k') : CellTallies nD τ sig Unit) (recvCell k c) ()
    = if k' = k then (if d = peer k c then crd k else 0) else 0 := by
  rw [tallyAt_apply]
  by_cases hk : k' = k
  · subst hk
    rw [if_pos rfl]
    by_cases h : d = peer k' c
    · rw [if_pos h, if_pos ⟨recv_eq_iff.mpr ⟨rfl, (peer_iff d c k').mpr h⟩, rfl⟩]
    · rw [if_neg h, if_neg fun h' => h ((peer_iff d c k').mp (recv_eq_iff.mp h'.1).2)]
  · rw [if_neg hk, if_neg fun h' => hk (recv_eq_iff.mp h'.1).1.symm]

theorem owed_recv (d c : Dev nD) (k : Fin 32) : O₀ d (recvCell k c) () = if d = peer k c then crd k else 0 := by
  unfold O₀
  rw [Pi.add_apply, Finsupp.add_apply, owB_recv, Nat.add_zero]
  unfold owS
  rw [Finset.sum_apply, Finsupp.finset_sum_apply, Finset.sum_congr rfl fun k' _ => tally_recv d c k k', Finset.sum_ite_eq' Finset.univ k, if_pos (Finset.mem_univ _)]

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib, Finset.sum_add_distrib,
    Finset.sum_ite_eq' Finset.univ (bdev c 3) fun _ => 1, Finset.sum_ite_eq' Finset.univ (bdev c 2) fun _ => 1, Finset.sum_ite_eq' Finset.univ (bdev c 1) fun _ => 1,
    Finset.sum_ite_eq' Finset.univ (bdev c 0) fun _ => 1, if_pos (Finset.mem_univ _), if_pos (Finset.mem_univ _), if_pos (Finset.mem_univ _), if_pos (Finset.mem_univ _)]
theorem launch_recv (c : Dev nD) (k : Fin 32) :
    tallyOn (recvCell k c) (launchCredit (Pipeline.owing O₀) 0 (recvCell k c)) = (tallyAt (recvCell k c) () (crd k) : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (peer k c) fun _ => crd k,
    if_pos (Finset.mem_univ _)]

/-- The cells others pay into. -/
def paidS (x : Unit ⊕ Fin 32) : SemLoc sig := match x with | .inl _ => .reg barS | .inr k => .dma (recvS k)
theorem paidS_injective : Function.Injective paidS := by
  rintro (u | k) (u' | k') h
  · rfl
  · cases h
  · cases h
  · have := (recv_eq_iff (k := k) (k' := k') (a := (0 : Dev nD)) (b := 0)).mp (Prod.ext rfl h)
    rw [this.1]

theorem creds_of (c : Dev nD) : (Pipeline.launchCred O₀ c : sProp 𝕄) ⊢ creds c := by
  unfold Pipeline.launchCred creds
  refine (bigSep_subset (Finset.subset_univ (Finset.univ.map ⟨paidS, paidS_injective⟩))).trans ?_
  rw [bigSep_map, bigSep_univ_sum, bigSep_unit]
  show iprop(cred (tallyOn (barCell c) (launchCredit (Pipeline.owing O₀) 0 (barCell c)))
    ∗ bigSep Finset.univ fun k : Fin 32 => cred (tallyOn (recvCell k c) (launchCredit (Pipeline.owing O₀) 0 (recvCell k c))))
    ⊢ iprop(cred (tallyAt (barCell c) () 4) ∗ bigSep Finset.univ fun k : Fin 32 => cred (tallyAt (recvCell k c) () (crd k)))
  rw [launch_bar]
  simp only [launch_recv]
  iintro H; iexact H

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [show (Pipeline.unscopedRestP Pipeline.Prefetch.none cfg0.spec c (fun b => m ((c : Thread nD τ).loc b)) : sProp 𝕄)
    = Pipeline.unscopedRest spec0 c (fun b => m ((c : Thread nD τ).loc b)) from Pipeline.unscopedRestP_none _ _ _, unscopedRest0_eq]
  unfold start G' pers argPts
  iintro ⟨Ha, Hlev, Hcr, -, ⟨%K, HR, Hl⟩⟩
  ihave Hc := (creds_of (F := F) c) $$ Hcr
  imodintro
  isplitl
  · isplitl [Hlev HR Hl]
    · iexists K
      isplitl [Hlev HR]
      · isplitl [HR]; · iexact HR
        iexact Hlev
      iexact Hl
    isplitl [Hc]; · iexact Hc
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = scratch c from scopedRest0_eq c]
  unfold Φ₀
  iintro ⟨Hs, -, Hr⟩
  isplitl [Hs]; · iexact Hs
  iexact Hr

theorem phi1_exit (c : Dev nD) :
    (dats m ρ 0 c).Φ (Fin.last cfg0.N) ⊢ iprop((unscopedSems0 c ∗ argPts m c) ∗ Pipeline.ownSems0 osem c ∗ Pipeline.scopedRest cfg0.spec c) := by
  rw [show (dats m ρ 0 c).Φ (Fin.last cfg0.N) = Φ₁ m c from rfl, show (Pipeline.scopedRest cfg0.spec c : sProp 𝕄) = scratch c from scopedRest0_eq c]
  unfold Φ₁
  rw [zeros_eq]
  iintro ⟨Ha, ⟨Ho, Hu⟩, Hs⟩
  isplitl [Ha Hu]
  · isplitl [Hu]; · iexact Hu
    iexact Ha
  isplitl [Ho]; · iexact Ho
  iexact Hs

theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · exact mayWait_of c (.dma q) 0 (fun u => le_of_eq (by unfold lv; rw [hq])) _ fun g u h => O₀_lv g u h
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QY (c : Dev nD) (s : MemSt nD τ sig (Elt F)) : Prop :=
  (∀ sm : SemLoc sig, sm.isScoped .tc = false → s.sem ((c.tc : Thread nD τ), sm) = 0)
    ∧ s.mem ((c : Thread nD τ).loc main_arg3) = m ((c : Thread nD τ).loc main_arg3)
    ∧ s.mem ((c : Thread nD τ).loc main_arg4) = m ((c : Thread nD τ).loc main_arg4)

theorem read_end (c : Dev nD) (s' : Phys nD τ sig (Elt F)) :
    iprop((unscopedSems0 c ∗ argPts m c) ∗ emp ∗ SI s') ⊢ (|={Set.univ}=> iprop(⌜QY m c s'.mem⌝ ∗ SI s') : sProp 𝕄) := by
  unfold argPts
  iintro ⟨⟨Hu, Ha, Hb⟩, -, HSI⟩
  icombine HSI Ha gives %ha
  icombine HSI Hb gives %hb
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ ha, Buf.eq_of_forall_mem_univ hb⟩
  iexact HSI

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg3) = m ((c : Thread nD τ).loc main_arg3)
    ∧ r.2.mem ((c : Thread nD τ).loc main_arg4) = m ((c : Thread nD τ).loc main_arg4)

set_option maxRecDepth 100000 in
set_option maxHeartbeats 1000000 in
/-- From any memory with its counters at zero the sixteen kernels end, each device's result at its computed contents,
    the arguments unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ argPts m c)) (Z := fun _ => iprop(emp))
    (hX := start_intro m ρ) (hin := phi0_intro m ρ) (hout := phi1_exit m ρ)
    (QY := QY m) (hY := read_end m)
    (hQ := fun _ h hs => ⟨fun c => ⟨fun w => (h c).1 w, (h c).2.2.2⟩, sem_eq_zero hs fun c => (h c).2.2.1⟩)

theorem finalA_0 (c : Dev nD) : finalA m ρ c (0 : Fin 4) = m ((c : Thread nD τ).loc main_arg0) := (dats (F := F) m ρ 0 c).arrAt_in (0 : Fin 4) rfl _
theorem finalA_1 (c : Dev nD) : finalA m ρ c (1 : Fin 4) = m ((c : Thread nD τ).loc main_arg1) := (dats (F := F) m ρ 0 c).arrAt_in (1 : Fin 4) rfl _
theorem finalA_2 (c : Dev nD) : finalA m ρ c (2 : Fin 4) = m ((c : Thread nD τ).loc main_arg2) := (dats (F := F) m ρ 0 c).arrAt_in (2 : Fin 4) rfl _

end Cert.Attn

end
-- ==== Proof.Frames.lean ====
/-
  The frames of the three programs, and what the kernels leave in each device's result array.
-/
module

public import proofs.«01_k».proof.Defs
public import proofs.«01_k».proof.Proof.Gen.Kernel
public import proofs.«01_k».proof.Proof.Gen.ReferenceIdeal.Run
public import proofs.«01_k».proof.Proof.Launch

@[expose] public section

set_option maxRecDepth 10000

noncomputable section

namespace Cert.Attn

open Cert.KernelIdeal Cert.KernelIdeal.Gen
open Idealize.ShloMosaic Idealize.SL.Sem
open Idealize.ShloMosaic.TcCoe

section Same

variable {F : FTy → Type} [FloatOps F]

/-- A named constant read as the word it was printed from. -/
@[reducible] def wordNamed : Named F := ⟨fun _ _ _ b => FloatOps.ofBits _ b⟩
attribute [local instance] wordNamed

theorem body_same : @Cert.Kernel.cc0__fused_body F _ _ = @Cert.KernelIdeal.cc0__fused_body F _ _ _ := rfl
theorem defs₀_same : Cert.Kernel.defs₀ (F := F) = Cert.KernelIdeal.defs₀ (F := F) :=
  congrArg Defs.onTc (funext fun l => by
    match l with
    | 0 => rfl)
/-- The two programs have the same text. -/
theorem defs_same : Cert.Kernel.defs (F := F) = Cert.KernelIdeal.defs (F := F) :=
  congrArg (Pipeline.defs Cert.KernelIdeal.pcfgs) defs₀_same

theorem run_same (m : (ℓ : Loc nD τ sig) → Buf (Elt F) ℓ) (ρ : Dev nD → PrngReg) (Q : PUnit × MemSt nD τ sig (Elt F) → Prop)
    (h : θ_run Cert.KernelIdeal.defs (onTc (τ := τ) (Cert.KernelIdeal.main (F := F))) ⟨m, fun _ => 0, ρ⟩ Q) :
    θ_run Cert.Kernel.defs (onTc (τ := τ) (Cert.Kernel.main (F := F))) ⟨m, fun _ => 0, ρ⟩ Q :=
  cast (congrArg (fun d => θ_run d (onTc (τ := τ) (Cert.KernelIdeal.main (F := F))) ⟨m, fun _ => 0, ρ⟩ Q) defs_same.symm) h

theorem frame_kernel : Cert.quiescent_Kernel := fun m ρ _ =>
  run_same (F := Bits) m ρ _ ((θ_run Cert.KernelIdeal.defs _ _).mono
    (fun _ h => ⟨fun c => ⟨((h.1 c).1 (0 : Fin 4)).trans (finalA_0 m ρ c), ((h.1 c).1 (1 : Fin 4)).trans (finalA_1 m ρ c),
      ((h.1 c).1 (2 : Fin 4)).trans (finalA_2 m ρ c), (h.1 c).2.1, (h.1 c).2.2⟩, h.2⟩)
    (run_main (F := Bits) m ρ))

end Same

theorem frame_ideal : Cert.quiescent_KernelIdeal := fun m ρ _ =>
  (θ_run Cert.KernelIdeal.defs _ _).mono
    (fun _ h => ⟨fun c => ⟨((h.1 c).1 (0 : Fin 4)).trans (finalA_0 m ρ c), ((h.1 c).1 (1 : Fin 4)).trans (finalA_1 m ρ c),
      ((h.1 c).1 (2 : Fin 4)).trans (finalA_2 m ρ c), (h.1 c).2.1, (h.1 c).2.2⟩, h.2⟩)
    (run_main (F := Ideal) m ρ)

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The result array ends at the computed contents. -/
theorem finalA_3 {F : FTy → Type} [FloatOps F] [Named F] (m : (ℓ : Loc nD τ sig) → Buf (Elt F) ℓ) (ρ : Dev nD → PrngReg) (c : Dev nD) :
    finalA m ρ c (3 : Fin 4) = outC m c := by
  have hz : (fun a => (win0_3.index (0 : Fin 1)) a * main_v1.ty.shape.size a) = fun _ => 0 := funext fun a => by fin_cases a <;> decide
  have hr := fun f => Memref.read_access_unit_zero (Elt F) main_v1 hz (fun a => by fin_cases a <;> decide) f
  refine (hr _).symm.trans ?_
  show (win0_3.blk (0 : Fin 1)).view.read (Elt F) (finalA m ρ c (3 : Fin 4)) = outC m c
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

end Cert.Attn

end
-- ==== Proof.Parts.lean ====
/-
  Whose rows are summed where: after the eight stages of a channel every row block of every device has gathered each device once.
-/
module

public import proofs.«01_k».proof.Proof.Geometry

@[expose] public section

noncomputable section

namespace Cert.Attn

open Cert.KernelIdeal Cert.KernelIdeal.Gen
open Idealize.ShloMosaic Idealize.ShloMosaic.TcCoe Idealize.SL.Sem

/-- Whether transfer `k` lands on row block `q` of device `c`. -/
def lands (k : Fin 32) (c : Dev nD) (q : Fin 64) : Bool := decide ((X k).doff c 0 ≤ 16 * q.val ∧ 16 * q.val < (X k).doff c 0 + (X k).n)

/-- The devices whose rows are summed in row block `q` of device `c` after `j` stages of channel `h`. -/
def parts (h : Fin 4) (q : Fin 64) : ℕ → Dev nD → List (Dev nD)
  | 0, c => [c]
  | j + 1, c =>
    if lands (kOf h ⟨j % 8, Nat.mod_lt _ (by decide)⟩) c q then
      (if (X (kOf h ⟨j % 8, Nat.mod_lt _ (by decide)⟩)).acc then parts h q j c else []) ++ parts h q j (peer (kOf h ⟨j % 8, Nat.mod_lt _ (by decide)⟩) c)
    else parts h q j c

theorem parts_all : ∀ (q : Fin 64) (c : Dev nD), (parts ⟨q.val / 16, by omega⟩ q 8 c).Perm (List.finRange 16) := by decide +kernel

theorem doff_16 : ∀ (k : Fin 32) (c : Dev nD), (X k).doff c 0 % 16 = 0 ∧ (X k).n % 16 = 0 := by decide +kernel

end Cert.Attn
end
-- ==== Proof.Exchange.lean ====
/-
  The exchange over the extended reals: after its eight stages every row of every device's output is the sum of the sixteen
  devices' rows.
-/
module

public import proofs.«01_k».proof.Proof.Contents
public import proofs.«01_k».proof.Proof.Parts
public import Idealize.ShloMosaic.Lib.Pointwise

@[expose] public section

noncomputable section

namespace Cert.Attn

open Cert.KernelIdeal Cert.KernelIdeal.Gen
open Idealize.ShloMosaic Idealize.ShloMosaic.TcCoe Idealize.SL.Sem
open Idealize.ShloMosaic.ValueIdx (ix2)

variable (m : (ℓ : Loc nD τ sig) → Buf (Elt Ideal) ℓ)

abbrev qb (i : Fin 1024) : Fin 64 := ⟨i.val / 16, by omega⟩

/-- An element of an output. -/
def el (f : (cc0_stg3_0 : Ref sig .tc).ty.Contents (Elt Ideal)) (i : S1024x1024.Idx) : EReal := f i

theorem parts_succ (h : Fin 4) (q : Fin 64) (j : ℕ) (c : Dev nD) : parts h q (j + 1) c =
    if lands (kOf h ⟨j % 8, Nat.mod_lt _ (by decide)⟩) c q then
      (if (X (kOf h ⟨j % 8, Nat.mod_lt _ (by decide)⟩)).acc then parts h q j c else []) ++ parts h q j (peer (kOf h ⟨j % 8, Nat.mod_lt _ (by decide)⟩) c)
    else parts h q j c := rfl

theorem newV_apply (k : Fin 32) (v : Vec Ideal (Sr (X k).n) .f32) (s : FVec Ideal (Sr (X k).n) .bf16) (x : (Sr (X k).n).Idx) :
    newV k v s x = ((if (X k).acc then (v x : EReal) else 0) + (s x : EReal) : EReal) := by
  unfold newV
  rw [shapeCast_id]
  cases (X k).acc
  · exact (zero_add (s x : EReal)).symm
  · rfl

theorem stepO_apply (k : Fin 32) (o : Dev nD → (cc0_stg3_0 : Ref sig .tc).ty.Contents (Elt Ideal)) (c : Dev nD) (i : S1024x1024.Idx) :
    el (stepO k o c) i = if lands k c (qb (i 0)) then (if (X k).acc then el (o c) i else 0) + el (o (peer k c)) i else el (o c) i := by
  have hd := doff_16 k c
  have i1 : (i 1).val < 1024 := (i 1).isLt
  by_cases hm : i ∈ (doR k c).set
  · have hh := Rect.mem_set_unit.mp hm (0 : Fin 2)
    have a1 : (X k).doff c 0 ≤ (i 0).val := hh.1
    have a2 : (i 0).val < (X k).doff c 0 + (X k).n := hh.2
    have hl : lands k c (qb (i 0)) = true := decide_eq_true (by
      show (X k).doff c 0 ≤ 16 * ((i 0).val / 16) ∧ 16 * ((i 0).val / 16) < (X k).doff c 0 + (X k).n
      omega)
    rw [if_pos hl]
    obtain ⟨x, hx⟩ := exists_pos _ hm
    refine (congrArg _ hx.symm).trans ((write_hit cc0_stg3_0 (doR k c) (o c) _ x).trans ?_)
    have e1 : (oM.view.readAt (Elt Ideal) (doR k c).toLoadRect (o c)) x = o c i := congrArg (o c) hx
    have e2 : carried k (peer k c) (o (peer k c)) x = o (peer k c) i := by
      have hs : (soR k (peer k c)).emb x = i := by
        rw [← hx]
        funext a
        refine Fin.ext ?_
        show (X k).soff (peer k c) a + 1 * (x a).val = (X k).doff c a + 1 * (x a).val
        rw [soff_peer]
      unfold carried sendPay
      rw [shapeCast_id, shapeCast_id]
      exact congrArg (o (peer k c)) hs
    refine (newV_apply k _ _ x).trans ?_
    rw [e1, e2]; rfl
  · have hl : ¬ lands k c (qb (i 0)) = true := fun hl => by
      have hl : (X k).doff c 0 ≤ 16 * ((i 0).val / 16) ∧ 16 * ((i 0).val / 16) < (X k).doff c 0 + (X k).n := of_decide_eq_true hl
      refine hm (Rect.mem_set_unit.mpr fun a => ?_)
      match a with
      | ⟨0, _⟩ => exact ⟨by show (X k).doff c 0 ≤ (i 0).val; omega, by show (i 0).val < (X k).doff c 0 + (X k).n; omega⟩
      | ⟨1, _⟩ => exact ⟨by show (X k).doff c 1 ≤ (i 1).val; rw [doff_col]; omega, by show (i 1).val < (X k).doff c 1 + 1024; rw [doff_col]; omega⟩
    rw [if_neg hl]
    exact write_miss cc0_stg3_0 (doR k c) (o c) _ i hm

theorem OO_parts (h : Fin 4) (i : S1024x1024.Idx) : ∀ (j : ℕ) (c : Dev nD),
    el (OO m h j c) i = ((parts h (qb (i 0)) j c).map fun d => el (OV m d) i).sum
  | 0, c => (List.sum_singleton).symm
  | j + 1, c => by
    show el (stepO _ (OO m h j) c) i = _
    rw [stepO_apply, parts_succ]
    split
    · rw [List.map_append, List.sum_append, OO_parts h i j, OO_parts h i j]
      split <;> simp
    · exact OO_parts h i j c

/-- After the exchange every device holds the sum over the devices. -/
theorem OO_sum (c : Dev nD) (i : S1024x1024.Idx) : el (OO m (bt (i 0)) 8 c) i = ∑ d : Dev nD, el (OV m d) i := by
  have hb : bt (i 0) = ⟨(qb (i 0)).val / 16, by have := (qb (i 0)).isLt; omega⟩ := Fin.ext (by show (i 0).val / 256 = (i 0).val / 16 / 16; omega)
  rw [OO_parts, hb, ((parts_all (qb (i 0)) c).map _).sum_eq, Fin.sum_univ_def]

end Cert.Attn
end
-- ==== Proof.Consts.lean ====
/-
  The scale of the scores: the real that the kernel's constant names, and the reference's quotient by its inverse.
-/
module

public import proofs.«01_k».proof.KernelIdeal
public import Idealize.ShloMosaic.PureOps.IdealRules

@[expose] public section

noncomputable section

namespace Cert.Attn

open Idealize.ShloMosaic

/-- The scale, `1 / √128`. -/
def scale : EReal := (((Real.sqrt 128)⁻¹ : ℝ) : EReal)

theorem named_scale : Named.named (F := Ideal) Cert.KernelIdeal.κ "inv_sqrt_d" (φ := .f32) 0x3DB504F3#32 = scale :=
  IdealRules.named_const.ideal_named_scalar _ _ _ _ rfl

theorem ofBits_128 : Ideal.ofBits .f32 0x43000000#32 = ((128 : ℝ) : EReal) := by
  simp [Ideal.ofBits, Ideal.ieee, -EReal.coe_mul]; norm_num

/-- A quotient by the root of 128 is a product with the scale. -/
theorem div_sqrt (x : EReal) : Ideal.div x (Ideal.sqrt (Ideal.ofBits .f32 0x43000000#32)) = x * scale := by
  rw [ofBits_128, Ideal.sqrt_coe, if_neg (by norm_num), Ideal.div_coe (Real.sqrt_pos.mpr (by norm_num)).ne', one_div]
  rfl

end Cert.Attn
end
-- ==== Proof.Scalars.lean ====
/-
  Attention of one query row, on extended reals.
-/
module

public import Idealize.ShloMosaic.Lib.Pointwise
public import proofs.«01_k».proof.Proof.Consts

@[expose] public section

noncomputable section

namespace Cert.Attn

open Idealize.ShloMosaic

/-- The scaled score of a query against key `t`. -/
def score (q : Fin 128 → EReal) (K : Fin 256 → Fin 128 → EReal) (t : Fin 256) : EReal := (∑ d, q d * K t d) * scale
/-- The largest score. -/
def top (S : Fin 256 → EReal) : EReal := Finset.univ.fold max (Ideal.ofBits .f32 0xFF800000#32) S
/-- The weight of key `t`. -/
def wgt (S : Fin 256 → EReal) (t : Fin 256) : EReal := Ideal.exp (S t - top S)
/-- One element of the attention of a query. -/
def att (q : Fin 128 → EReal) (K : Fin 256 → Fin 128 → EReal) (V : Fin 256 → EReal) : EReal :=
  Ideal.div (∑ t, wgt (score q K) t * V t) (∑ t, wgt (score q K) t)

theorem max_top (S : Fin 256 → EReal) : max (Ideal.ofBits .f32 0xFF800000#32) (top S) = top S :=
  max_eq_right ((Finset.le_fold_max _).mpr (.inl le_rfl))

/-- A maximum along the last of four axes. -/
theorem reduceMax_apply {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf (F := Ideal) (φ := .f32)) x init h hu (ix3 a b c)
      = Finset.univ.fold (max : EReal → EReal → EReal) (init (Shape.Idx.first hu)) fun k => x (ix4 a b c k) :=
  (Host.reduce_eq_fold (max : EReal → EReal → EReal) x init h hu (ix3 a b c)).trans
    (h.fold_fiber_r4_a3 (ix3 a b c) (max : EReal → EReal → EReal) (init (Shape.Idx.first hu)) x)

end Cert.Attn
end
-- ==== Proof.Ref.lean ====
/-
  The reference's result at an index.
-/
module

public import proofs.«01_k».proof.Proof.Gen.ReferenceIdeal.Run
public import proofs.«01_k».proof.Proof.Scalars

@[expose] public section

noncomputable section

namespace Cert.Attn.Ref

open Cert.ReferenceIdeal Cert.ReferenceIdeal.Gen Cert.ReferenceIdeal.Value
open Idealize.ShloMosaic Idealize.ShloMosaic.TcCoe Idealize.SL.Sem

/-! ## The reference's intermediate arrays -/

/-- The queries, by head. -/
def qT (x : FVec Ideal S4x256x1024 .f32) (w : FVec Ideal S1024x16384 .f32) : FVec Ideal S4x256x128x128 .f32 :=
  shapeCast _ (Host.dotGeneral dot_S4x256x1024_S1024x16384_S4x256x16384_2_0_01_1_n_n none x w) shapeCasts_S4x256x16384_S4x256x128x128
/-- The keys or the values, by query head. -/
def kT (x : FVec Ideal S4x256x1024 .f32) (w : FVec Ideal S1024x4096 .f32) : FVec Ideal S4x256x128x128 .f32 :=
  shapeCast _ (broadcastInDim S4x256x32x4x128 ![0, 1, 2, 4] bcast_S4x256x32x128_S4x256x32x4x128_0_1_2_4 (shapeCast S4x256x32x128 (Host.dotGeneral dot_S4x256x1024_S1024x4096_S4x256x4096_2_0_01_1_n_n none x w) shapeCasts_S4x256x4096_S4x256x32x128)) shapeCasts_S4x256x32x4x128_S4x256x128x128
/-- The scaled scores. -/
def sT (q k : FVec Ideal S4x256x128x128 .f32) : FVec Ideal S4x128x256x256 .f32 :=
  Host.divf (Host.dotGeneral dot_S4x256x128x128_S4x256x128x128_S4x128x256x256_3_3_1_1_02_02 none q k) (broadcastInDim S4x128x256x256 ![] bcast_S_S4x128x256x256 (id (Host.sqrt (constant S_ .f32 0x43000000#32))))
/-- The running maximum. -/
def mT (s : FVec Ideal S4x128x256x256 .f32) : FVec Ideal S4x128x256x1 .f32 :=
  maximumf (broadcastInDim S4x128x256x1 ![] bcast_S_S4x128x256x1 (constant S_ .f32 0xFF800000#32)) (broadcastInDim S4x128x256x1 ![0, 1, 2] bcast_S4x128x256_S4x128x256x1_0_1_2 (Host.reduce FloatOps.maximumf s (constant S_ .f32 0xFF800000#32) reducesTo_S4x128x256x256_S4x128x256_d3 h_S_))
/-- The exponentials. -/
def pT (s : FVec Ideal S4x128x256x256 .f32) (m : FVec Ideal S4x128x256x1 .f32) : FVec Ideal S4x128x256x256 .f32 :=
  Host.exp (subf s (broadcastInDim S4x128x256x256 ![0, 1, 2, 3] bcast_S4x128x256x1_S4x128x256x256_0_1_2_3 m))
/-- The factor of the values gathered so far. -/
def aT (m : FVec Ideal S4x128x256x1 .f32) : FVec Ideal S4x128x256x1 .f32 :=
  Host.exp (subf (broadcastInDim S4x128x256x1 ![] bcast_S_S4x128x256x1 (constant S_ .f32 0xFF800000#32)) m)
/-- The weighted values. -/
def oT (v : FVec Ideal S4x256x128x128 .f32) (p : FVec Ideal S4x128x256x256 .f32) (a : FVec Ideal S4x128x256x1 .f32) : FVec Ideal S4x256x128x128 .f32 :=
  addf (mulf (broadcastInDim S4x256x128x128 ![] bcast_S_S4x256x128x128 (constant S_ .f32 0x00000000#32)) (broadcastInDim S4x256x128x128 ![0, 1, 2, 3] bcast_S4x256x128x1_S4x256x128x128_0_1_2_3 (transpose S4x256x128x1 [0, 2, 1, 3] a transposes_S4x128x256x1_S4x256x128x1_0_2_1_3))) (transpose S4x256x128x128 [0, 3, 1, 2] (Host.dotGeneral dot_S4x256x128x128_S4x128x256x256_S4x128x128x256_1_3_3_2_02_01 none v p) transposes_S4x128x128x256_S4x256x128x128_0_3_1_2)
/-- The sums of the exponentials. -/
def lT (p : FVec Ideal S4x128x256x256 .f32) (a : FVec Ideal S4x128x256x1 .f32) : FVec Ideal S4x128x256x1 .f32 :=
  addf (mulf (broadcastInDim S4x128x256x1 ![] bcast_S_S4x128x256x1 (constant S_ .f32 0x00000000#32)) a) (broadcastInDim S4x128x256x1 ![0, 1, 2] bcast_S4x128x256_S4x128x256x1_0_1_2 (Host.reduceAdd p (constant S_ .f32 0x00000000#32) reducesTo_S4x128x256x256_S4x128x256_d3 h_S_))
/-- The attention's result, its heads side by side. -/
def gT (o : FVec Ideal S4x256x128x128 .f32) (l : FVec Ideal S4x128x256x1 .f32) : FVec Ideal S4x256x16384 .f32 :=
  shapeCast _ (Host.divf o (broadcastInDim S4x256x128x128 ![0, 1, 2, 3] bcast_S4x256x128x1_S4x256x128x128_0_1_2_3 (transpose S4x256x128x1 [0, 2, 1, 3] l transposes_S4x128x256x1_S4x256x128x1_0_2_1_3))) shapeCasts_S4x256x128x128_S4x256x16384
/-- The output projection. -/
def rT (g : FVec Ideal S4x256x16384 .f32) (w : FVec Ideal S16384x1024 .f32) : FVec Ideal S1024x1024 .f32 :=
  shapeCast _ (Host.dotGeneral dot_S4x256x16384_S16384x1024_S4x256x1024_2_0_01_1_n_n none g w) shapeCasts_S4x256x1024_S1024x1024

set_option maxRecDepth 16384

/-- The reference's result is the composition of its intermediate arrays. -/
theorem res_eq (m : (ℓ : Loc nD τ sig) → Buf (Elt Ideal) ℓ) (c : Dev nD) : res_main_v41 m c =
    (let x := m ((c.tc : Thread nD τ).loc main_arg0)
     let s := sT (qT x (m ((c.tc : Thread nD τ).loc main_arg1))) (kT x (m ((c.tc : Thread nD τ).loc main_arg3)))
     let p := pT s (mT s)
     rT (gT (oT (kT x (m ((c.tc : Thread nD τ).loc main_arg4))) p (aT (mT s))) (lT p (aT (mT s)))) (m ((c.tc : Thread nD τ).loc main_arg2))) := by
  unfold res_main_v41; rfl

section
variable (b : Fin 4) (s : Fin 256) (h : Fin 128) (d : Fin 128) (t : Fin 256)

theorem qT_apply (x : FVec Ideal S4x256x1024 .f32) (w : FVec Ideal S1024x16384 .f32) :
    qT x w (ix4 b s h d) = ∑ e : Fin 1024, x (ix3 b s e) * w (ix2 e ⟨h.val * 128 + d.val, by omega⟩) := by
  pointwise [qT]
theorem kT_apply (x : FVec Ideal S4x256x1024 .f32) (w : FVec Ideal S1024x4096 .f32) :
    kT x w (ix4 b s h d) = ∑ e : Fin 1024, x (ix3 b s e) * w (ix2 e ⟨h.val / 4 * 128 + d.val, by omega⟩) := by
  pointwise [kT]
theorem sT_apply (q k : FVec Ideal S4x256x128x128 .f32) :
    sT q k (ix4 b h s t) = score (fun d => q (ix4 b s h d)) (fun t d => k (ix4 b t h d)) t := by
  pointwise [sT, score]
  exact div_sqrt _
theorem reduced_apply (x : FVec Ideal S4x128x256x256 .f32) :
    Host.reduce (FloatOps.maximumf (F := Ideal) (φ := .f32)) x (constant S_ .f32 0xFF800000#32) reducesTo_S4x128x256x256_S4x128x256_d3 h_S_ (ix3 b h s)
      = top fun t => x (ix4 b h s t) := reduceMax_apply x _ _ _ b h s
theorem floor_apply (x : FVec Ideal S4x128x256 .f32) :
    (maximumf (broadcastInDim S4x128x256x1 ![] bcast_S_S4x128x256x1 (constant S_ .f32 0xFF800000#32))
      (broadcastInDim S4x128x256x1 ![0, 1, 2] bcast_S4x128x256_S4x128x256x1_0_1_2 x)) (ix4 b h s 0) = max (Ideal.ofBits .f32 0xFF800000#32) (x (ix3 b h s)) := by
  pointwise
theorem mT_apply (x : FVec Ideal S4x128x256x256 .f32) : mT x (ix4 b h s 0) = top fun t => x (ix4 b h s t) := by
  unfold mT
  rw [floor_apply, reduced_apply, max_top]
theorem pT_apply (x : FVec Ideal S4x128x256x256 .f32) (m : FVec Ideal S4x128x256x1 .f32) :
    pT x m (ix4 b h s t) = Ideal.exp (x (ix4 b h s t) - m (ix4 b h s 0)) := by
  pointwise [pT]
theorem oT_apply (v : FVec Ideal S4x256x128x128 .f32) (p : FVec Ideal S4x128x256x256 .f32) (a : FVec Ideal S4x128x256x1 .f32) :
    oT v p a (ix4 b s h d) = ∑ t : Fin 256, p (ix4 b h s t) * v (ix4 b t h d) := by
  pointwise [oT]
  rw [zero_mul, zero_add]
  exact Finset.sum_congr rfl fun t _ => mul_comm _ _
theorem lT_apply (p : FVec Ideal S4x128x256x256 .f32) (a : FVec Ideal S4x128x256x1 .f32) :
    lT p a (ix4 b h s 0) = ∑ t : Fin 256, p (ix4 b h s t) := by
  pointwise [lT]
  rw [zero_mul, zero_add]
theorem gT_apply (o : FVec Ideal S4x256x128x128 .f32) (l : FVec Ideal S4x128x256x1 .f32) (n : Fin 16384) :
    gT o l (ix3 b s n) = Ideal.div (o (ix4 b s ⟨n.val / 128, by omega⟩ ⟨n.val % 128, by omega⟩)) (l (ix4 b ⟨n.val / 128, by omega⟩ s 0)) := by
  pointwise [gT]
theorem rT_apply (g : FVec Ideal S4x256x16384 .f32) (w : FVec Ideal S16384x1024 .f32) (r e : Fin 1024) :
    rT g w (ix2 r e) = ∑ n : Fin 16384, g (ix3 ⟨r.val / 256, by omega⟩ ⟨r.val % 256, by omega⟩ n) * w (ix2 n e) := by
  pointwise [rT]
end

/-! ## The reference's result at an index -/

/-- Element `n` of a row's projection by `w`. -/
def proj {N : ℕ} (x : FVec Ideal S4x256x1024 .f32) (w : FVec Ideal ⟨2, ![1024, N]⟩ .f32) (b : Fin 4) (s : Fin 256) (n : Fin N) : EReal :=
  ∑ e : Fin 1024, x (ix3 b s e) * w (ix2 e n)

/-- Column `n` of the attention's result. -/
def attn (x : FVec Ideal S4x256x1024 .f32) (wq : FVec Ideal S1024x16384 .f32) (wk wv : FVec Ideal S1024x4096 .f32) (b : Fin 4) (s : Fin 256)
    (n : Fin 16384) : EReal :=
  att (fun d => proj x wq b s ⟨n.val / 128 * 128 + d.val, by omega⟩) (fun t d => proj x wk b t ⟨n.val / 128 / 4 * 128 + d.val, by omega⟩)
    (fun t => proj x wv b t ⟨n.val / 128 / 4 * 128 + n.val % 128, by omega⟩)

theorem res_apply (m : (ℓ : Loc nD τ sig) → Buf (Elt Ideal) ℓ) (c : Dev nD) (r e : Fin 1024) :
    res_main_v41 m c (ix2 (n0 := 1024) (n1 := 1024) r e) = ∑ n : Fin 16384,
      attn (m ((c.tc : Thread nD τ).loc main_arg0)) (m ((c.tc : Thread nD τ).loc main_arg1)) (m ((c.tc : Thread nD τ).loc main_arg3))
        (m ((c.tc : Thread nD τ).loc main_arg4)) ⟨r.val / 256, by omega⟩ ⟨r.val % 256, by omega⟩ n
        * (m ((c.tc : Thread nD τ).loc main_arg2) : FVec Ideal S16384x1024 .f32) (ix2 n e) := by
  rw [res_eq]
  refine (rT_apply _ _ r e).trans (Finset.sum_congr rfl fun n _ => ?_)
  congr 1
  rw [gT_apply, oT_apply, lT_apply]
  unfold attn att wgt proj
  simp only [pT_apply, mT_apply, sT_apply, qT_apply, kT_apply]

end Cert.Attn.Ref
end
-- ==== Proof.Local.lean ====
/-
  One device's output over the extended reals: its heads of the attention, contracted with its rows of the output weights.
-/
module

public import proofs.«01_k».proof.Proof.Contents
public import proofs.«01_k».proof.Proof.Exchange
public import proofs.«01_k».proof.Proof.Ref

@[expose] public section

set_option maxRecDepth 16384

noncomputable section

namespace Cert.Attn

open Cert.KernelIdeal Cert.KernelIdeal.Gen
open Idealize.ShloMosaic Idealize.ShloMosaic.TcCoe Idealize.SL.Sem
open Cert.Attn.Ref (proj attn)

/-! ## The stored values at an index -/

theorem pay11_apply (q k v : Vec Ideal S256x128 .f32) (s : Fin 256) (e : Fin 128) :
    k0_pay11 q k v (ix2 s e) = att (fun d => q (ix2 s d)) (fun t d => k (ix2 t d)) (fun t => v (ix2 t e)) := by
  pointwise [k0_pay11, att, wgt, score, top, named_scale]

theorem pay30_apply (a : Vec Ideal S512x1024 .f32) (w : Vec Ideal S1024x1024 .f32) (s : Fin 512) (o : Fin 1024) :
    k0_pay30 a w (ix2 s o) = (∑ n : Fin 1024, (a (ix2 s n) : EReal) * w (ix2 n o) : EReal) := by
  pointwise [k0_pay30]

theorem qPay_apply (g : Fin 2) (x : Vec Ideal S4x256x1024 .f32) (w : Vec Ideal S1024x1024 .f32) (s : Fin 512) (n : Fin 1024) :
    qPay g (k0_pay1 x) w (ix2 s n) = proj x w ⟨(512 * g.val + s.val) / 256, by omega⟩ ⟨(512 * g.val + s.val) % 256, by omega⟩ n := by
  match g with
  | 0 => pointwise [qPay, k0_pay3, k0_pay2, k0_pay1, proj]
  | 1 => pointwise [qPay, k0_pay35, k0_pay34, k0_pay1, proj]
theorem kPay_apply (g : Fin 2) (x : Vec Ideal S4x256x1024 .f32) (w : Vec Ideal S1024x256 .f32) (s : Fin 512) (n : Fin 256) :
    kPay g (k0_pay1 x) w (ix2 s n) = proj x w ⟨(512 * g.val + s.val) / 256, by omega⟩ ⟨(512 * g.val + s.val) % 256, by omega⟩ n := by
  match g with
  | 0 => pointwise [kPay, k0_pay4, k0_pay2, k0_pay1, proj]
  | 1 => pointwise [kPay, k0_pay36, k0_pay34, k0_pay1, proj]
theorem vPay_apply (g : Fin 2) (x : Vec Ideal S4x256x1024 .f32) (w : Vec Ideal S1024x256 .f32) (s : Fin 512) (n : Fin 256) :
    vPay g (k0_pay1 x) w (ix2 s n) = proj x w ⟨(512 * g.val + s.val) / 256, by omega⟩ ⟨(512 * g.val + s.val) % 256, by omega⟩ n := by
  match g with
  | 0 => pointwise [vPay, k0_pay5, k0_pay2, k0_pay1, proj]
  | 1 => pointwise [vPay, k0_pay37, k0_pay34, k0_pay1, proj]

/-! ## The operands -/

variable (m : (ℓ : Loc nD τ sig) → Buf (Elt Ideal) ℓ)

/-- A read of a whole buffer through the rectangle that covers it. -/
theorem read_all (b : Ref sig .tc) (off : Fin b.ty.shape.rank → ℕ) (inb : ∀ a, off a + b.ty.shape.size a ≤ b.ty.shape.size a) (h : ∀ a, off a = 0)
    (f : b.ty.Contents (Elt Ideal)) : (View.whole b).readAt (Elt Ideal) (Rect.unit (s := b.ty.shape) off b.ty.shape.size inb).toLoadRect f = f :=
  funext fun x => congrArg f (funext fun a => Fin.ext (by show off a + 1 * (x a).val = (x a).val; rw [h]; omega))

theorem xB_eq (c : Dev nD) : xB m c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _
theorem wqB_eq (c : Dev nD) : wqB m c = m ((c : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _
theorem woB_eq (c : Dev nD) : woB m c = m ((c : Thread nD τ).loc main_arg2) := by
  have hz : (fun a => (win0_2.index (0 : Fin 1)) a * main_arg2.ty.shape.size a) = fun _ => 0 := funext fun a => by fin_cases a <;> decide
  exact Memref.read_access_unit_zero (Elt Ideal) main_arg2 hz (fun a => by fin_cases a <;> decide) _

theorem xval_eq (c : Dev nD) : xval m c = k0_pay1 (m ((c : Thread nD τ).loc main_arg0)) := by
  unfold xval
  rw [xB_eq]
  exact congrArg k0_pay1 (read_all cc0_stg0_0 ![0, 0, 0] _ (fun a => by fin_cases a <;> rfl) _)
theorem wqv_eq (c : Dev nD) : wqv m c = m ((c : Thread nD τ).loc main_arg1) := by
  unfold wqv
  rw [wqB_eq]
  exact read_all cc0_stg1_0 ![0, 0] _ (fun a => by fin_cases a <;> rfl) _
theorem wov_eq (c : Dev nD) : wov m c = m ((c : Thread nD τ).loc main_arg2) := by
  unfold wov
  rw [woB_eq]
  exact read_all cc0_stg2_0 ![0, 0] _ (fun a => by fin_cases a <;> rfl) _
theorem wkv_eq (c : Dev nD) : wkv m c = wkC m c := read_all cc0_scratch0 ![0, 0] _ (fun a => by fin_cases a <;> rfl) _
theorem wvv_eq (c : Dev nD) : wvv m c = wvC m c := read_all cc0_scratch1 ![0, 0] _ (fun a => by fin_cases a <;> rfl) _

theorem off1_val : ∀ c : Dev nD, k0_off1 c 0 = 0 ∧ k0_off1 c 1 = 256 * c.val := by decide +kernel

theorem hR_emb (c : Dev nD) (e : Fin 1024) (n : Fin 256) : (hR c).emb (ix2 e n) = ix2 e ⟨256 * c.val + n.val, by have : c.val < 16 := c.isLt; omega⟩ := by
  have := off1_val c
  funext a
  match a with
  | ⟨0, _⟩ => exact Fin.ext (by show k0_off1 c 0 + 1 * e.val = e.val; omega)
  | ⟨1, _⟩ => exact Fin.ext (by show k0_off1 c 1 + 1 * n.val = 256 * c.val + n.val; omega)

theorem wkC_apply (c : Dev nD) (e : Fin 1024) (n : Fin 256) :
    wkC m c (ix2 e n) = m ((c : Thread nD τ).loc main_arg3) (ix2 (n0 := 1024) (n1 := 4096) e ⟨256 * c.val + n.val, by have : c.val < 16 := c.isLt; omega⟩) :=
  congrArg (m ((c : Thread nD τ).loc main_arg3)) (hR_emb c e n)
theorem wvC_apply (c : Dev nD) (e : Fin 1024) (n : Fin 256) :
    wvC m c (ix2 e n) = m ((c : Thread nD τ).loc main_arg4) (ix2 (n0 := 1024) (n1 := 4096) e ⟨256 * c.val + n.val, by have : c.val < 16 := c.isLt; omega⟩) :=
  congrArg (m ((c : Thread nD τ).loc main_arg4)) (hR_emb c e n)

end Cert.Attn
end
-- ==== Proof.Value.lean ====
/-
  The output of every device over the extended reals is the reference's result.
-/
module

public import proofs.«01_k».proof.Proof.Local

@[expose] public section

set_option maxRecDepth 16384

noncomputable section

namespace Cert.Attn

open Cert.KernelIdeal Cert.KernelIdeal.Gen
open Idealize.ShloMosaic Idealize.ShloMosaic.TcCoe Idealize.SL.Sem
open Cert.Attn.Ref (proj attn)

variable (m : (ℓ : Loc nD τ sig) → Buf (Elt Ideal) ℓ)

theorem dlt (c : Dev nD) : c.val < 16 := c.isLt

/-- A position in one of the sixteen blocks of the inner dimension. -/
abbrev inner (c : Dev nD) (n : Fin 1024) : Fin 16384 := ⟨1024 * c.val + n.val, by have := dlt c; omega⟩

/-- The device's memory holds the operands `x`, `wk` and `wv`, and its blocks of `wq` and `wo`. -/
structure Holds (c : Dev nD) (x : FVec Ideal S4x256x1024 .f32) (wq : FVec Ideal Cert.ReferenceIdeal.S1024x16384 .f32)
    (wo : FVec Ideal Cert.ReferenceIdeal.S16384x1024 .f32) (wk wv : FVec Ideal S1024x4096 .f32) : Prop where
  hx : m ((c : Thread nD τ).loc main_arg0) = x
  hq : ∀ (e n : Fin 1024), m ((c : Thread nD τ).loc main_arg1) (ix2 (n0 := 1024) (n1 := 1024) e n) = wq (ix2 e (inner c n))
  ho : ∀ (n e : Fin 1024), m ((c : Thread nD τ).loc main_arg2) (ix2 (n0 := 1024) (n1 := 1024) n e) = wo (ix2 (inner c n) e)
  hk : m ((c : Thread nD τ).loc main_arg3) = wk
  hv : m ((c : Thread nD τ).loc main_arg4) = wv

variable {m} {c : Dev nD} {x : FVec Ideal S4x256x1024 .f32} {wq : FVec Ideal Cert.ReferenceIdeal.S1024x16384 .f32}
  {wo : FVec Ideal Cert.ReferenceIdeal.S16384x1024 .f32} {wk wv : FVec Ideal S1024x4096 .f32}

theorem proj_congr {N : ℕ} (x : FVec Ideal S4x256x1024 .f32) (w : FVec Ideal ⟨2, ![1024, N]⟩ .f32) {b b' : Fin 4} {s s' : Fin 256} {n n' : Fin N}
    (hb : b.val = b'.val) (hs : s.val = s'.val) (hn : n.val = n'.val) : proj x w b s n = proj x w b' s' n' := by
  rw [Fin.ext hb, Fin.ext hs, Fin.ext hn]

theorem Holds.q (H : Holds m c x wq wo wk wv) (r n : Fin 1024) :
    QV m c (ix2 r n) = proj x wq ⟨r.val / 256, by omega⟩ ⟨r.val % 256, by omega⟩ (inner c n) := by
  show qPay (gr5 r) (xval m c) (wqv m c) (ix2 (rw5 r) n) = _
  rw [xval_eq, wqv_eq, H.hx]
  refine (qPay_apply (gr5 r) x _ (rw5 r) n).trans ?_
  refine (proj_congr (b' := ⟨r.val / 256, by omega⟩) (s' := ⟨r.val % 256, by omega⟩) (n' := n) x _
    (by show (512 * (r.val / 512) + r.val % 512) / 256 = r.val / 256; omega) (by show (512 * (r.val / 512) + r.val % 512) % 256 = r.val % 256; omega) rfl).trans ?_
  exact Finset.sum_congr rfl fun e _ => congrArg (x _ * ·) (H.hq e n)

theorem Holds.k (H : Holds m c x wq wo wk wv) (r : Fin 1024) (n : Fin 256) :
    KV m c (ix2 r n) = proj x wk ⟨r.val / 256, by omega⟩ ⟨r.val % 256, by omega⟩ ⟨256 * c.val + n.val, by have := dlt c; omega⟩ := by
  show kPay (gr5 r) (xval m c) (wkv m c) (ix2 (rw5 r) n) = _
  rw [xval_eq, wkv_eq, H.hx]
  refine (kPay_apply (gr5 r) x _ (rw5 r) n).trans ?_
  refine (proj_congr (b' := ⟨r.val / 256, by omega⟩) (s' := ⟨r.val % 256, by omega⟩) (n' := n) x _
    (by show (512 * (r.val / 512) + r.val % 512) / 256 = r.val / 256; omega) (by show (512 * (r.val / 512) + r.val % 512) % 256 = r.val % 256; omega) rfl).trans ?_
  exact Finset.sum_congr rfl fun e _ => congrArg (x _ * ·) ((wkC_apply m c e n).trans (congrFun H.hk _))
theorem Holds.v (H : Holds m c x wq wo wk wv) (r : Fin 1024) (n : Fin 256) :
    VV m c (ix2 r n) = proj x wv ⟨r.val / 256, by omega⟩ ⟨r.val % 256, by omega⟩ ⟨256 * c.val + n.val, by have := dlt c; omega⟩ := by
  show vPay (gr5 r) (xval m c) (wvv m c) (ix2 (rw5 r) n) = _
  rw [xval_eq, wvv_eq, H.hx]
  refine (vPay_apply (gr5 r) x _ (rw5 r) n).trans ?_
  refine (proj_congr (b' := ⟨r.val / 256, by omega⟩) (s' := ⟨r.val % 256, by omega⟩) (n' := n) x _
    (by show (512 * (r.val / 512) + r.val % 512) / 256 = r.val / 256; omega) (by show (512 * (r.val / 512) + r.val % 512) % 256 = r.val % 256; omega) rfl).trans ?_
  exact Finset.sum_congr rfl fun e _ => congrArg (x _ * ·) ((wvC_apply m c e n).trans (congrFun H.hv _))

theorem ahR_emb (b : Fin 4) (h : Fin 8) (s : Fin 256) (d : Fin 128) :
    (ahR b h).emb (ix2 s d) = ix2 (n0 := 1024) (n1 := 1024) ⟨256 * b.val + s.val, by omega⟩ ⟨128 * h.val + d.val, by omega⟩ := by
  funext a
  match a with
  | ⟨0, _⟩ => exact Fin.ext (by show 256 * b.val + 1 * s.val = _; simp)
  | ⟨1, _⟩ => exact Fin.ext (by show 128 * h.val + 1 * d.val = _; simp)
theorem khR_emb (b : Fin 4) (h : Fin 8) (s : Fin 256) (d : Fin 128) :
    (khR b h).emb (ix2 s d) = ix2 (n0 := 1024) (n1 := 256) ⟨256 * b.val + s.val, by omega⟩ ⟨128 * (h.val / 4) + d.val, by omega⟩ := by
  funext a
  match a with
  | ⟨0, _⟩ => exact Fin.ext (by show 256 * b.val + 1 * s.val = _; simp)
  | ⟨1, _⟩ => exact Fin.ext (by show 128 * (h.val / 4) + 1 * d.val = _; simp)

theorem Holds.a (H : Holds m c x wq wo wk wv) (r n : Fin 1024) :
    AV m c (ix2 r n) = attn x wq wk wv ⟨r.val / 256, by omega⟩ ⟨r.val % 256, by omega⟩ (inner c n) := by
  have hc := dlt c
  show headV m c (bt r) (hd n) (ix2 ⟨r.val % 256, by omega⟩ ⟨n.val % 128, by omega⟩) = _
  refine (pay11_apply _ _ _ _ _).trans ?_
  unfold attn
  congr 1
  · funext d
    refine ((congrArg (QV m c) (ahR_emb _ _ _ _)).trans (H.q _ _)).trans (proj_congr _ _ ?_ ?_ ?_)
    · show (256 * (r.val / 256) + r.val % 256) / 256 = r.val / 256; omega
    · show (256 * (r.val / 256) + r.val % 256) % 256 = r.val % 256; omega
    · show 1024 * c.val + (128 * (n.val / 128) + d.val) = (1024 * c.val + n.val) / 128 * 128 + d.val; omega
  · funext t d
    refine ((congrArg (KV m c) (khR_emb _ _ _ _)).trans (H.k _ _)).trans (proj_congr _ _ ?_ ?_ ?_)
    · show (256 * (r.val / 256) + t.val) / 256 = r.val / 256; omega
    · show (256 * (r.val / 256) + t.val) % 256 = t.val; omega
    · show 256 * c.val + (128 * (n.val / 128 / 4) + d.val) = (1024 * c.val + n.val) / 128 / 4 * 128 + d.val; omega
  · funext t
    refine ((congrArg (VV m c) (khR_emb _ _ _ _)).trans (H.v _ _)).trans (proj_congr _ _ ?_ ?_ ?_)
    · show (256 * (r.val / 256) + t.val) / 256 = r.val / 256; omega
    · show (256 * (r.val / 256) + t.val) % 256 = t.val; omega
    · show 256 * c.val + (128 * (n.val / 128 / 4) + n.val % 128) = (1024 * c.val + n.val) / 128 / 4 * 128 + (1024 * c.val + n.val) % 128; omega

theorem qR_emb (r n : Fin 1024) : (qR (gr5 r)).emb (ix2 (rw5 r) n) = ix2 r n := by
  funext a
  match a with
  | ⟨0, _⟩ => exact Fin.ext (by show 512 * (r.val / 512) + 1 * (r.val % 512) = r.val; omega)
  | ⟨1, _⟩ => exact Fin.ext (by show 0 + 1 * n.val = n.val; omega)

theorem Holds.o (H : Holds m c x wq wo wk wv) (r e : Fin 1024) :
    el (OV m c) (ix2 r e) = ∑ n : Fin 1024, attn x wq wk wv ⟨r.val / 256, by omega⟩ ⟨r.val % 256, by omega⟩ (inner c n) * wo (ix2 (inner c n) e) := by
  show k0_pay30 (aM.view.readAt (Elt Ideal) (qR (gr5 r)).toLoadRect (AV m c)) (wov m c) (ix2 (rw5 r) e) = _
  rw [wov_eq]
  refine (pay30_apply _ _ _ _).trans (Finset.sum_congr rfl fun n _ => ?_)
  exact congrArg₂ (fun a b : EReal => a * b) ((congrArg (AV m c) (qR_emb r n)).trans (H.a r n)) (H.ho n e)

/-- A sum over the inner dimension is a sum over the devices of the sums over their blocks. -/
theorem sum_inner (f : Fin 16384 → EReal) : ∑ c : Dev nD, ∑ n : Fin 1024, f (inner c n) = ∑ n : Fin 16384, f n := by
  rw [← Fintype.sum_prod_type']
  refine Fintype.sum_equiv (finProdFinEquiv (m := 16) (n := 1024)) _ _ fun p => congrArg f (Fin.ext ?_)
  show 1024 * p.1.val + p.2.val = p.2.val + 1024 * p.1.val
  omega

/-- The result of the exchange on the operands' blocks. -/
theorem OO_value (H : ∀ c, Holds m c x wq wo wk wv) (c : Dev nD) (r e : Fin 1024) :
    el (OO m (bt r) 8 c) (ix2 r e) = ∑ n : Fin 16384, attn x wq wk wv ⟨r.val / 256, by omega⟩ ⟨r.val % 256, by omega⟩ n * wo (ix2 n e) := by
  refine (OO_sum m c (ix2 r e)).trans ?_
  rw [← sum_inner]
  exact Finset.sum_congr rfl fun d _ => (H d).o r e

end Cert.Attn
end
-- ==== Proof.Algebra.lean ====
/-
  The value claim: every device's result is the reference's.
-/
module

public import proofs.«01_k».proof.Proof.Frames
public import proofs.«01_k».proof.Proof.Value

@[expose] public section

set_option maxRecDepth 16384

noncomputable section

namespace Cert.Attn

open Cert.KernelIdeal Cert.KernelIdeal.Gen
open Idealize.ShloMosaic Idealize.ShloMosaic.TcCoe Idealize.SL.Sem

theorem outC_value (m : (ℓ : Loc nD τ sig) → Buf (Elt Ideal) ℓ)
    (m' : (ℓ : Loc Cert.ReferenceIdeal.nD Cert.ReferenceIdeal.τ Cert.ReferenceIdeal.sig) → Buf (Elt Ideal) ℓ)
    (H : ∀ c, Holds m c (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))) (c : Dev nD) :
    outC m c = Cert.ReferenceIdeal.Value.res_main_v41 (F := Ideal) m' 0 := by
  refine funext fun (i : S1024x1024.Idx) => ?_
  obtain ⟨r, e, rfl⟩ : ∃ (r e : Fin 1024), i = ix2 r e := ⟨i 0, i 1, eq_ix2 i⟩
  exact (OO_value H c r e).trans (Cert.Attn.Ref.res_apply m' 0 r e).symm

/-- The named constant is the scale. -/
theorem preserves : Cert.preserves_Kernel_KernelIdeal :=
  IdealRules.named_const.statement Cert.KernelIdeal.κ "inv_sqrt_d" .f32 0x3DB504F3#32 (((Real.sqrt 128)⁻¹ : ℝ) : EReal) rfl

theorem algebraic : Cert.algebraic_KernelIdeal_ReferenceIdeal := by
  intro m g m' g' _ h
  refine ⟨Cert.ReferenceIdeal.Value.res_main_v41 (F := Ideal) m' 0, ?_, ?_⟩
  · refine (θ_run defs _ _).mono (fun r hr c => ?_) (run_main (F := Ideal) m g)
    have hc := hr.1 c
    refine ⟨((hc.1 (3 : Fin 4)).trans (finalA_3 m g c)).trans (outC_value m m' (fun c => ?_) c), (hc.1 (0 : Fin 4)).trans (finalA_0 m g c),
      (hc.1 (1 : Fin 4)).trans (finalA_1 m g c), (hc.1 (2 : Fin 4)).trans (finalA_2 m g c), hc.2.1, hc.2.2⟩
    obtain ⟨h0, h1, h2, h3, h4⟩ := h c
    refine ⟨h0, fun e n => (congrFun h1 _).trans ?_, fun n e => (congrFun h2 _).trans ?_, h3, h4⟩
    · refine congrArg (m' (((0 : Dev Cert.ReferenceIdeal.nD).tc : Thread Cert.ReferenceIdeal.nD Cert.ReferenceIdeal.τ).loc Cert.ReferenceIdeal.main_arg1)) (funext fun a => Fin.ext ?_)
      match a with
      | ⟨0, _⟩ => rfl
      | ⟨1, _⟩ => exact congrArg (· + n.val) (Nat.mul_comm c.val 1024)
    · refine congrArg (m' (((0 : Dev Cert.ReferenceIdeal.nD).tc : Thread Cert.ReferenceIdeal.nD Cert.ReferenceIdeal.τ).loc Cert.ReferenceIdeal.main_arg2)) (funext fun a => Fin.ext ?_)
      match a with
      | ⟨0, _⟩ => exact congrArg (· + n.val) (Nat.mul_comm c.val 1024)
      | ⟨1, _⟩ => rfl
  · exact (θ_run Cert.ReferenceIdeal.defs _ _).mono (fun _ hr => hr 0) (Cert.ReferenceIdeal.Value.run (F := Ideal) m' g')

end Cert.Attn
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Attn.frame_kernel, Cert.Attn.frame_ideal, Cert.Attn.frame_reference, Cert.Attn.preserves, Cert.Attn.algebraic⟩

end Cert.Proof

end
